-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_masked_KernelIdeal [hPre_finite_and_masked_KernelIdeal : Cert.Pre_finite_and_masked_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_masked_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_masked_ReferenceIdeal [hPre_finite_and_masked_ReferenceIdeal : Cert.Pre_finite_and_masked_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_masked_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_masked_KernelIdeal [hKernelIdeal : Cert.KernelIdeal.Facts] [hPre_finite_and_masked_KernelIdeal : Cert.Pre_finite_and_masked_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_masked_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_masked_ReferenceIdeal [hReferenceIdeal : Cert.ReferenceIdeal.Facts] [hPre_finite_and_masked_ReferenceIdeal : Cert.Pre_finite_and_masked_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_masked_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_masked_KernelIdeal [hKernelIdeal : Cert.KernelIdeal.Facts] [hReferenceIdeal : Cert.ReferenceIdeal.Facts] [hPre_finite_and_masked_KernelIdeal : Cert.Pre_finite_and_masked_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_masked_KernelIdeal m →
    (∀ c : Dev Cert.KernelIdeal.nD,
      m ((c.tc : Thread Cert.KernelIdeal.nD Cert.KernelIdeal.τ).loc Cert.KernelIdeal.main_arg0) = Layout.block ⟨3, ![8, 1024, 128]⟩ ⟨3, ![8, 8192, 128]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 1024, 128]⟩ ⟨3, ![8, 8192, 128]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 1024, 128]⟩ ⟨3, ![8, 8192, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = Layout.block ⟨3, ![1, 1024, 1024]⟩ ⟨3, ![1, 8192, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_masked_KernelIdeal : Cert.Pre_finite_and_masked_KernelIdeal.Facts) (hPre_finite_and_masked_ReferenceIdeal : Cert.Pre_finite_and_masked_ReferenceIdeal.Facts),
    quiescent_Kernel (hKernel := hKernel)
    ∧ quiescent_KernelIdeal (hKernelIdeal := hKernelIdeal)
    ∧ quiescent_KernelIdeal_pre_finite_and_masked_KernelIdeal (hKernelIdeal := hKernelIdeal) (hPre_finite_and_masked_KernelIdeal := hPre_finite_and_masked_KernelIdeal)
    ∧ quiescent_ReferenceIdeal (hReferenceIdeal := hReferenceIdeal)
    ∧ quiescent_ReferenceIdeal_pre_finite_and_masked_ReferenceIdeal (hReferenceIdeal := hReferenceIdeal) (hPre_finite_and_masked_ReferenceIdeal := hPre_finite_and_masked_ReferenceIdeal)
    ∧ preserves_Kernel_KernelIdeal
    ∧ algebraic_KernelIdeal_ReferenceIdeal_pre_finite_and_masked_KernelIdeal (hKernelIdeal := hKernelIdeal) (hReferenceIdeal := hReferenceIdeal) (hPre_finite_and_masked_KernelIdeal := hPre_finite_and_masked_KernelIdeal)
-- ==== Pre_finite_and_masked_KernelIdeal.lean ====
abbrev S8x1024x128 : Shape := ⟨3, ![8, 1024, 128]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bitsLt_bf16_f32 : FTy.bits .bf16 < FTy.bits .f32
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_where {F : FTy → Type} [FloatOps F] (arg0 : IVec S1024x1024 1) (arg1 : FVec F S_ .f32) (arg2 : FVec F S_ .f32) : FVec F S1024x1024 .f32 :=
  let v0 : FVec F S1024x1024 .f32 := broadcastInDim S1024x1024 ![] bcast_S_S1024x1024 arg1
  let v1 : FVec F S1024x1024 .f32 := broadcastInDim S1024x1024 ![] bcast_S_S1024x1024 arg2
  let v2 : FVec F S1024x1024 .f32 := select arg0 v0 v1
  v2

def fn_part1 {F : FTy → Type} [FloatOps F] (main_arg3 : FVec F S1024x1024 .bf16) (main_v7 : IVec S1024x1024 1) (main_v18 : IVec S_ 1) : IVec S_ 1 :=
  let main_v19 : FVec F S1024x1024 .f32 := (extf .f32 · bitsLt_bf16_f32) main_arg3
  let main_cst_3 : FVec F S_ .f32 := constant S_ .f32 0xFF800000#32
  let main_cst_4 : FVec F S_ .f32 := constant S_ .f32 0x00000000#32
  let main_v20 : FVec F S1024x1024 .f32 := fn_where (F := F) main_v7 main_cst_3 main_cst_4
  let main_v21 : FVec F S1024x1024 .f32 := id main_v20
  let main_v22 : IVec S1024x1024 1 := cmpf .oeq main_v19 main_v21
  let main_c_5 : IVec S_ 1 := constantI S_ 1 1#1
  let main_v23 : IVec S_ 1 := (fun x v => Host.reduce IntOp.andi x v reducesTo_S1024x1024_S_d0_1 h_S_) main_v22 main_c_5
  let main_v24 : IVec S_ 1 := andi main_v18 main_v23
  main_v24

def fn {F : FTy → Type} [FloatOps F] (main_arg0 : FVec F S8x1024x128 .bf16) (main_arg1 : FVec F S8x1024x128 .bf16) (main_arg2 : FVec F S8x1024x128 .bf16) (main_arg3 : FVec F S1024x1024 .bf16) (main_arg4 : FVec F S1024x1024 .bf16) : IVec S_ 1 :=
  let main_v0 : IVec S1024 32 := iotaInDim S1024 32 0
  let main_c : IVec S_ 32 := constantI S_ 32 64#32
  let main_v1 : IVec S1024 32 := broadcastInDim S1024 ![] bcast_S_S1024 main_c
  let main_v2 : IVec S1024 32 := Host.divsi main_v0 main_v1
  let main_v3 : IVec S1024x1 32 := broadcastInDim S1024x1 ![0] bcast_S1024_S1024x1_0 main_v2
  let main_v4 : IVec S1x1024 32 := broadcastInDim S1x1024 ![1] bcast_S1024_S1x1024_1 main_v2
  let main_v5 : IVec S1024x1024 32 := broadcastInDim S1024x1024 ![0, 1] bcast_S1024x1_S1024x1024_0_1 main_v3
  let main_v6 : IVec S1024x1024 32 := broadcastInDim S1024x1024 ![0, 1] bcast_S1x1024_S1024x1024_0_1 main_v4
  let main_v7 : IVec S1024x1024 1 := cmpi .sgt main_v5 main_v6
  let main_v8 : FVec F S8x1024x128 .f32 := (extf .f32 · bitsLt_bf16_f32) main_arg0
  let main_v9 : FVec F S8x1024x128 .f32 := Host.absf main_v8
  let main_cst : FVec F S_ .f32 := constant S_ .f32 0x7F800000#32
  let main_v10 : FVec F S8x1024x128 .f32 := broadcastInDim S8x1024x128 ![] bcast_S_S8x1024x128 main_cst
  let main_v11 : IVec S8x1024x128 1 := cmpf .olt main_v9 main_v10
  let main_c_0 : IVec S_ 1 := constantI S_ 1 1#1
  let main_v12 : IVec S_ 1 := (fun x v => Host.reduce IntOp.andi x v reducesTo_S8x1024x128_S_d0_1_2 h_S_) main_v11 main_c_0
  let main_v13 : FVec F S8x1024x128 .f32 := (extf .f32 · bitsLt_bf16_f32) main_arg1
  let main_v14 : FVec F S8x1024x128 .f32 := Host.absf main_v13
  let main_cst_1 : FVec F S_ .f32 := constant S_ .f32 0x7F800000#32
  let main_v15 : FVec F S8x1024x128 .f32 := broadcastInDim S8x1024x128 ![] bcast_S_S8x1024x128 main_cst_1
  let main_v16 : IVec S8x1024x128 1 := cmpf .olt main_v14 main_v15
  let main_c_2 : IVec S_ 1 := constantI S_ 1 1#1
  let main_v17 : IVec S_ 1 := (fun x v => Host.reduce IntOp.andi x v reducesTo_S8x1024x128_S_d0_1_2 h_S_) main_v16 main_c_2
  let main_v18 : IVec S_ 1 := andi main_v12 main_v17
  fn_part1 (F := F) main_arg3 main_v7 main_v18
-- ==== Pre_finite_and_masked_ReferenceIdeal.lean ====
abbrev S8x8192x128 : Shape := ⟨3, ![8, 8192, 128]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bitsLt_bf16_f32 : FTy.bits .bf16 < FTy.bits .f32
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_where {F : FTy → Type} [FloatOps F] (arg0 : IVec S1024x1024 1) (arg1 : FVec F S_ .f32) (arg2 : FVec F S_ .f32) : FVec F S1024x1024 .f32 :=
  let v0 : FVec F S1024x1024 .f32 := broadcastInDim S1024x1024 ![] bcast_S_S1024x1024 arg1
  let v1 : FVec F S1024x1024 .f32 := broadcastInDim S1024x1024 ![] bcast_S_S1024x1024 arg2
  let v2 : FVec F S1024x1024 .f32 := select arg0 v0 v1
  v2

def fn_part1 {F : FTy → Type} [FloatOps F] (main_arg3 : FVec F S1024x1024 .bf16) (main_v7 : IVec S1024x1024 1) (main_v18 : IVec S_ 1) : IVec S_ 1 :=
  let main_v19 : FVec F S1024x1024 .f32 := (extf .f32 · bitsLt_bf16_f32) main_arg3
  let main_cst_3 : FVec F S_ .f32 := constant S_ .f32 0xFF800000#32
  let main_cst_4 : FVec F S_ .f32 := constant S_ .f32 0x00000000#32
  let main_v20 : FVec F S1024x1024 .f32 := fn_where (F := F) main_v7 main_cst_3 main_cst_4
  let main_v21 : FVec F S1024x1024 .f32 := id main_v20
  let main_v22 : IVec S1024x1024 1 := cmpf .oeq main_v19 main_v21
  let main_c_5 : IVec S_ 1 := constantI S_ 1 1#1
  let main_v23 : IVec S_ 1 := (fun x v => Host.reduce IntOp.andi x v reducesTo_S1024x1024_S_d0_1 h_S_) main_v22 main_c_5
  let main_v24 : IVec S_ 1 := andi main_v18 main_v23
  main_v24

def fn {F : FTy → Type} [FloatOps F] (main_arg0 : FVec F S8x8192x128 .bf16) (main_arg1 : FVec F S8x8192x128 .bf16) (main_arg2 : FVec F S8x8192x128 .bf16) (main_arg3 : FVec F S1024x1024 .bf16) (main_arg4 : FVec F S1024x1024 .bf16) : IVec S_ 1 :=
  let main_v0 : IVec S1024 32 := iotaInDim S1024 32 0
  let main_c : IVec S_ 32 := constantI S_ 32 64#32
  let main_v1 : IVec S1024 32 := broadcastInDim S1024 ![] bcast_S_S1024 main_c
  let main_v2 : IVec S1024 32 := Host.divsi main_v0 main_v1
  let main_v3 : IVec S1024x1 32 := broadcastInDim S1024x1 ![0] bcast_S1024_S1024x1_0 main_v2
  let main_v4 : IVec S1x1024 32 := broadcastInDim S1x1024 ![1] bcast_S1024_S1x1024_1 main_v2
  let main_v5 : IVec S1024x1024 32 := broadcastInDim S1024x1024 ![0, 1] bcast_S1024x1_S1024x1024_0_1 main_v3
  let main_v6 : IVec S1024x1024 32 := broadcastInDim S1024x1024 ![0, 1] bcast_S1x1024_S1024x1024_0_1 main_v4
  let main_v7 : IVec S1024x1024 1 := cmpi .sgt main_v5 main_v6
  let main_v8 : FVec F S8x8192x128 .f32 := (extf .f32 · bitsLt_bf16_f32) main_arg0
  let main_v9 : FVec F S8x8192x128 .f32 := Host.absf main_v8
  let main_cst : FVec F S_ .f32 := constant S_ .f32 0x7F800000#32
  let main_v10 : FVec F S8x8192x128 .f32 := broadcastInDim S8x8192x128 ![] bcast_S_S8x8192x128 main_cst
  let main_v11 : IVec S8x8192x128 1 := cmpf .olt main_v9 main_v10
  let main_c_0 : IVec S_ 1 := constantI S_ 1 1#1
  let main_v12 : IVec S_ 1 := (fun x v => Host.reduce IntOp.andi x v reducesTo_S8x8192x128_S_d0_1_2 h_S_) main_v11 main_c_0
  let main_v13 : FVec F S8x8192x128 .f32 := (extf .f32 · bitsLt_bf16_f32) main_arg1
  let main_v14 : FVec F S8x8192x128 .f32 := Host.absf main_v13
  let main_cst_1 : FVec F S_ .f32 := constant S_ .f32 0x7F800000#32
  let main_v15 : FVec F S8x8192x128 .f32 := broadcastInDim S8x8192x128 ![] bcast_S_S8x8192x128 main_cst_1
  let main_v16 : IVec S8x8192x128 1 := cmpf .olt main_v14 main_v15
  let main_c_2 : IVec S_ 1 := constantI S_ 1 1#1
  let main_v17 : IVec S_ 1 := (fun x v => Host.reduce IntOp.andi x v reducesTo_S8x8192x128_S_d0_1_2 h_S_) main_v16 main_c_2
  let main_v18 : IVec S_ 1 := andi main_v12 main_v17
  fn_part1 (F := F) main_arg3 main_v7 main_v18
-- ==== Kernel.lean ====
abbrev S8x1024x128 : Shape := ⟨3, ![8, 1024, 128]⟩
abbrev S1024x1024 : Shape := ⟨2, ![1024, 1024]⟩
abbrev S8x128x1024 : Shape := ⟨3, ![8, 128, 1024]⟩
abbrev S8x8x1024x128 : Shape := ⟨4, ![8, 8, 1024, 128]⟩
abbrev S8x8x128x1024 : Shape := ⟨4, ![8, 8, 128, 1024]⟩
abbrev S2x8x128x1024 : Shape := ⟨4, ![2, 8, 128, 1024]⟩
abbrev S2x2x8x1x1024 : Shape := ⟨5, ![2, 2, 8, 1, 1024]⟩
abbrev S8x2x8x1x1024 : Shape := ⟨5, ![8, 2, 8, 1, 1024]⟩
abbrev S8x1x1024 : Shape := ⟨3, ![8, 1, 1024]⟩
abbrev S8 : Shape := ⟨1, ![8]⟩
abbrev S8x2 : Shape := ⟨2, ![8, 2]⟩
abbrev S_ : Shape := ⟨0, ![]⟩
abbrev S1 : Shape := ⟨1, ![1]⟩
abbrev S1x8x1024x128 : Shape := ⟨4, ![1, 8, 1024, 128]⟩
abbrev S1x1024x128 : Shape := ⟨3, ![1, 1024, 128]⟩
abbrev S1024x128 : Shape := ⟨2, ![1024, 128]⟩
abbrev S1024 : Shape := ⟨1, ![1024]⟩
abbrev S1x1024 : Shape := ⟨2, ![1, 1024]⟩
abbrev S128x1024 : Shape := ⟨2, ![128, 1024]⟩
abbrev S1x1x128x1024 : Shape := ⟨4, ![1, 1, 128, 1024]⟩
abbrev S1x1x1x1x1024 : Shape := ⟨5, ![1, 1, 1, 1, 1024]⟩
abbrev S1x1 : Shape := ⟨2, ![1, 1]⟩
abbrev S1x8x128x1024 : Shape := ⟨4, ![1, 8, 128, 1024]⟩
abbrev S1x2x8x1x1024 : Shape := ⟨5, ![1, 2, 8, 1, 1024]⟩
abbrev S2x8x1x1024 : Shape := ⟨4, ![2, 8, 1, 1024]⟩
abbrev S1x1x1024 : Shape := ⟨3, ![1, 1, 1024]⟩
abbrev S1x128x1024 : Shape := ⟨3, ![1, 128, 1024]⟩
abbrev S1x1x8x1x1024 : Shape := ⟨5, ![1, 1, 8, 1, 1024]⟩
abbrev S1024x8x128 : Shape := ⟨3, ![1024, 8, 128]⟩
abbrev S1x1024x1024 : Shape := ⟨3, ![1, 1024, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8x1024x128, .bf16⟩
  | .hbm, ⟨1, _⟩ => ⟨S8x1024x128, .bf16⟩
  | .hbm, ⟨2, _⟩ => ⟨S8x1024x128, .bf16⟩
  | .hbm, ⟨3, _⟩ => ⟨S1024x1024, .bf16⟩
  | .hbm, ⟨4, _⟩ => ⟨S1024x1024, .bf16⟩
  | .hbm, ⟨5, _⟩ => ⟨S8x128x1024, .bf16⟩
  | .hbm, ⟨6, _⟩ => ⟨S8x8x1024x128, .bf16⟩
  | .hbm, ⟨7, _⟩ => ⟨S8x8x128x1024, .bf16⟩
  | .hbm, ⟨8, _⟩ => ⟨S1024x8x128, .bf16⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1x1024x1024, .f32⟩
  | .local _ .vmem, ⟨0, _⟩ => ⟨S8x1024x128, .bf16⟩
  | .local _ .vmem, ⟨1, _⟩ => ⟨S8x1024x128, .bf16⟩
  | .local _ .vmem, ⟨2, _⟩ => ⟨S8x1024x128, .bf16⟩
  | .local _ .vmem, ⟨3, _⟩ => ⟨S1024x1024, .bf16⟩
  | .local _ .vmem, ⟨4, _⟩ => ⟨S8x128x1024, .bf16⟩
  | .local _ .vmem, ⟨5, _⟩ => ⟨S8x1024x128, .bf16⟩
  | .local _ .vmem, ⟨6, _⟩ => ⟨S8x128x1024, .bf16⟩
  | .local _ .vmem, ⟨7, _⟩ => ⟨S2x8x128x1024, .bf16⟩
  | .local _ .vmem, ⟨8, _⟩ => ⟨S2x2x8x1x1024, .bf16⟩
  | .local _ .vmem, ⟨9, _⟩ => ⟨S8x2x8x1x1024, .bf16⟩
  | .local _ .vmem, ⟨10, _⟩ => ⟨S8x1x1024, .f32⟩
  | .local _ .vmem, ⟨11, _⟩ => ⟨S8x1x1024, .f32⟩
  | .local _ .vmem, ⟨12, _⟩ => ⟨S8x128x1024, .f32⟩
  | .local _ .vmem, ⟨13, _⟩ => ⟨S8x1x1024, .f32⟩
  | _, _ => ⟨S8x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 1 := Scalar.cmpi .sge v2 c1_i32_0
  let v4 : BitVec 32 := Scalar.extui v3
  let c0_i32 : BitVec 32 := 0#32
  let v5 : BitVec 1 := Scalar.cmpi .ne v4 c0_i32
  v5

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  ![v147.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_113 : BitVec 32 := 0#32
  let c0_i32_114 : BitVec 32 := 0#32
  let c0_i32_115 : BitVec 32 := 0#32
  ![v2.toNat, 0, 0, 0]
def k0_dev1 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  let c1_i32_111 : BitVec 32 := 1#32
  let v148 : BitVec 32 := Scalar.muli v147 c1_i32_111
  let v149 : BitVec 32 := Scalar.addi c0_i32_112 v148
  v149.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 1 := Scalar.cmpi .sge v2 c2_i32
  let v7 : BitVec 32 := Scalar.extui v6
  let c0_i32_1 : BitVec 32 := 0#32
  let v8 : BitVec 1 := Scalar.cmpi .ne v7 c0_i32_1
  v8

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  ![v147.toNat]
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_113 : BitVec 32 := 0#32
  let c0_i32_114 : BitVec 32 := 0#32
  let c0_i32_115 : BitVec 32 := 0#32
  ![v2.toNat, 0, 0, 0]
def k0_dev2 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  let c1_i32_111 : BitVec 32 := 1#32
  let v148 : BitVec 32 := Scalar.muli v147 c1_i32_111
  let v149 : BitVec 32 := Scalar.addi c0_i32_112 v148
  v149.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v9 : BitVec 1 := Scalar.cmpi .sge v2 c3_i32
  let v10 : BitVec 32 := Scalar.extui v9
  let c0_i32_2 : BitVec 32 := 0#32
  let v11 : BitVec 1 := Scalar.cmpi .ne v10 c0_i32_2
  v11

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  ![v147.toNat]
def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_113 : BitVec 32 := 0#32
  let c0_i32_114 : BitVec 32 := 0#32
  let c0_i32_115 : BitVec 32 := 0#32
  ![v2.toNat, 0, 0, 0]
def k0_dev3 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  let c1_i32_111 : BitVec 32 := 1#32
  let v148 : BitVec 32 := Scalar.muli v147 c1_i32_111
  let v149 : BitVec 32 := Scalar.addi c0_i32_112 v148
  v149.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 1 := Scalar.cmpi .sge v2 c4_i32
  let v13 : BitVec 32 := Scalar.extui v12
  let c0_i32_3 : BitVec 32 := 0#32
  let v14 : BitVec 1 := Scalar.cmpi .ne v13 c0_i32_3
  v14

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  ![v147.toNat]
def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_113 : BitVec 32 := 0#32
  let c0_i32_114 : BitVec 32 := 0#32
  let c0_i32_115 : BitVec 32 := 0#32
  ![v2.toNat, 0, 0, 0]
def k0_dev4 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  let c1_i32_111 : BitVec 32 := 1#32
  let v148 : BitVec 32 := Scalar.muli v147 c1_i32_111
  let v149 : BitVec 32 := Scalar.addi c0_i32_112 v148
  v149.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v15 : BitVec 1 := Scalar.cmpi .sge v2 c5_i32
  let v16 : BitVec 32 := Scalar.extui v15
  let c0_i32_4 : BitVec 32 := 0#32
  let v17 : BitVec 1 := Scalar.cmpi .ne v16 c0_i32_4
  v17

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  ![v147.toNat]
def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_113 : BitVec 32 := 0#32
  let c0_i32_114 : BitVec 32 := 0#32
  let c0_i32_115 : BitVec 32 := 0#32
  ![v2.toNat, 0, 0, 0]
def k0_dev5 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  let c1_i32_111 : BitVec 32 := 1#32
  let v148 : BitVec 32 := Scalar.muli v147 c1_i32_111
  let v149 : BitVec 32 := Scalar.addi c0_i32_112 v148
  v149.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v18 : BitVec 1 := Scalar.cmpi .sge v2 c6_i32
  let v19 : BitVec 32 := Scalar.extui v18
  let c0_i32_5 : BitVec 32 := 0#32
  let v20 : BitVec 1 := Scalar.cmpi .ne v19 c0_i32_5
  v20

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  ![v147.toNat]
def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_113 : BitVec 32 := 0#32
  let c0_i32_114 : BitVec 32 := 0#32
  let c0_i32_115 : BitVec 32 := 0#32
  ![v2.toNat, 0, 0, 0]
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  let c1_i32_111 : BitVec 32 := 1#32
  let v148 : BitVec 32 := Scalar.muli v147 c1_i32_111
  let v149 : BitVec 32 := Scalar.addi c0_i32_112 v148
  v149.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v21 : BitVec 1 := Scalar.cmpi .sge v2 c7_i32
  let v22 : BitVec 32 := Scalar.extui v21
  let c0_i32_6 : BitVec 32 := 0#32
  let v23 : BitVec 1 := Scalar.cmpi .ne v22 c0_i32_6
  v23

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  ![v147.toNat]
def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_113 : BitVec 32 := 0#32
  let c0_i32_114 : BitVec 32 := 0#32
  let c0_i32_115 : BitVec 32 := 0#32
  ![v2.toNat, 0, 0, 0]
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  let c1_i32_111 : BitVec 32 := 1#32
  let v148 : BitVec 32 := Scalar.muli v147 c1_i32_111
  let v149 : BitVec 32 := Scalar.addi c0_i32_112 v148
  v149.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v24 : BitVec 32 := Scalar.addi v2 c1_i32_7
  let c7_i32_8 : BitVec 32 := 7#32
  let v25 : BitVec 1 := Scalar.cmpi .sle v24 c7_i32_8
  let v26 : BitVec 32 := Scalar.extui v25
  let c0_i32_9 : BitVec 32 := 0#32
  let v27 : BitVec 1 := Scalar.cmpi .ne v26 c0_i32_9
  v27

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.addi v2 c1_i32_110
  ![v147.toNat]
def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.addi v2 c1_i32_110
  let c0_i32_113 : BitVec 32 := 0#32
  let c0_i32_114 : BitVec 32 := 0#32
  let c0_i32_115 : BitVec 32 := 0#32
  ![v147.toNat, 0, 0, 0]
@[reducible] def k0_t1_loop : Scf.Loop 32 :=
  let c0_i32_122 : BitVec 32 := 0#32
  let c8_i32_123 : BitVec 32 := 8#32
  let v158 : BitVec 32 := Scalar.addi c0_i32_122 c8_i32_123
  let c1_i32_124 : BitVec 32 := 1#32
  ⟨c0_i32_122, v158, c1_i32_124⟩
def k0_off24 (k0_t1 : Fin k0_t1_loop.trips) : Fin 3 → Nat :=
  let c0_i32_122 : BitVec 32 := 0#32
  let c1_i32_124 : BitVec 32 := 1#32
  let arg21 : BitVec 32 := Scf.iv c0_i32_122 c1_i32_124 k0_t1
  let v179 : Index := Scalar.indexCast arg21
  let c0_150 : Index := 0#32
  let c0_151 : Index := 0#32
  ![v179.toNat, 0, 0]
def k0_off25 (k0_t1 : Fin k0_t1_loop.trips) : Fin 4 → Nat :=
  let c1 : Index := 1#32
  let c0_i32_122 : BitVec 32 := 0#32
  let c1_i32_124 : BitVec 32 := 1#32
  let arg21 : BitVec 32 := Scf.iv c0_i32_122 c1_i32_124 k0_t1
  let v199 : Index := Scalar.indexCast arg21
  let c0_159 : Index := 0#32
  let c0_160 : Index := 0#32
  ![1, v199.toNat, 0, 0]
def k0_off26 (k0_t1 : Fin k0_t1_loop.trips) : Fin 5 → Nat :=
  let c1_161 : Index := 1#32
  let c0_162 : Index := 0#32
  let c0_i32_122 : BitVec 32 := 0#32
  let c1_i32_124 : BitVec 32 := 1#32
  let arg21 : BitVec 32 := Scf.iv c0_i32_122 c1_i32_124 k0_t1
  let v204 : Index := Scalar.indexCast arg21
  let c0_163 : Index := 0#32
  let c0_164 : Index := 0#32
  ![1, 0, v204.toNat, 0, 0]
def k0_off27 (k0_t1 : Fin k0_t1_loop.trips) : Fin 5 → Nat :=
  let c1_165 : Index := 1#32
  let c1_166 : Index := 1#32
  let c0_i32_122 : BitVec 32 := 0#32
  let c1_i32_124 : BitVec 32 := 1#32
  let arg21 : BitVec 32 := Scf.iv c0_i32_122 c1_i32_124 k0_t1
  let v209 : Index := Scalar.indexCast arg21
  let c0_167 : Index := 0#32
  let c0_168 : Index := 0#32
  ![1, 1, v209.toNat, 0, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.addi v2 c1_i32_110
  let c0_i32_128 : BitVec 32 := 0#32
  ![v147.toNat, 0]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_127 : BitVec 32 := 0#32
  ![v2.toNat, 0]
def k0_off30 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.addi v2 c1_i32_110
  let c1_i32_129 : BitVec 32 := 1#32
  let v159 : BitVec 32 := Scalar.muli v147 c1_i32_129
  let v160 : BitVec 32 := Scalar.addi c0_i32_130 v159
  v160.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.addi v2 c1_i32_110
  let c1_i32_139 : BitVec 32 := 1#32
  ![v147.toNat, 1]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_138 : BitVec 32 := 1#32
  ![v2.toNat, 1]
def k0_off33 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  let c0_i32_144 : BitVec 32 := 0#32
  let c0_i32_145 : BitVec 32 := 0#32
  ![v2.toNat, 0, 0, 0, 0]
def k0_dev9 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.addi v2 c1_i32_110
  let c1_i32_140 : BitVec 32 := 1#32
  let v169 : BitVec 32 := Scalar.muli v147 c1_i32_140
  let v170 : BitVec 32 := Scalar.addi c0_i32_141 v169
  v170.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v28 : BitVec 32 := Scalar.addi v2 c2_i32_10
  let c7_i32_11 : BitVec 32 := 7#32
  let v29 : BitVec 1 := Scalar.cmpi .sle v28 c7_i32_11
  let v30 : BitVec 32 := Scalar.extui v29
  let c0_i32_12 : BitVec 32 := 0#32
  let v31 : BitVec 1 := Scalar.cmpi .ne v30 c0_i32_12
  v31

def k0_off34 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.addi v2 c2_i32_110
  ![v147.toNat]
def k0_off35 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.addi v2 c2_i32_110
  let c0_i32_113 : BitVec 32 := 0#32
  let c0_i32_114 : BitVec 32 := 0#32
  let c0_i32_115 : BitVec 32 := 0#32
  ![v147.toNat, 0, 0, 0]
@[reducible] def k0_t2_loop : Scf.Loop 32 :=
  let c0_i32_122 : BitVec 32 := 0#32
  let c8_i32_123 : BitVec 32 := 8#32
  let v158 : BitVec 32 := Scalar.addi c0_i32_122 c8_i32_123
  let c1_i32_124 : BitVec 32 := 1#32
  ⟨c0_i32_122, v158, c1_i32_124⟩
def k0_off36 (k0_t2 : Fin k0_t2_loop.trips) : Fin 3 → Nat :=
  let c0_i32_122 : BitVec 32 := 0#32
  let c1_i32_124 : BitVec 32 := 1#32
  let arg21 : BitVec 32 := Scf.iv c0_i32_122 c1_i32_124 k0_t2
  let v179 : Index := Scalar.indexCast arg21
  let c0_150 : Index := 0#32
  let c0_151 : Index := 0#32
  ![v179.toNat, 0, 0]
def k0_off37 (k0_t2 : Fin k0_t2_loop.trips) : Fin 4 → Nat :=
  let c0_159 : Index := 0#32
  let c0_i32_122 : BitVec 32 := 0#32
  let c1_i32_124 : BitVec 32 := 1#32
  let arg21 : BitVec 32 := Scf.iv c0_i32_122 c1_i32_124 k0_t2
  let v199 : Index := Scalar.indexCast arg21
  let c0_160 : Index := 0#32
  let c0_161 : Index := 0#32
  ![0, v199.toNat, 0, 0]
def k0_off38 (k0_t2 : Fin k0_t2_loop.trips) : Fin 5 → Nat :=
  let c0_162 : Index := 0#32
  let c0_163 : Index := 0#32
  let c0_i32_122 : BitVec 32 := 0#32
  let c1_i32_124 : BitVec 32 := 1#32
  let arg21 : BitVec 32 := Scf.iv c0_i32_122 c1_i32_124 k0_t2
  let v204 : Index := Scalar.indexCast arg21
  let c0_164 : Index := 0#32
  let c0_165 : Index := 0#32
  ![0, 0, v204.toNat, 0, 0]
def k0_off39 (k0_t2 : Fin k0_t2_loop.trips) : Fin 5 → Nat :=
  let c0_166 : Index := 0#32
  let c1 : Index := 1#32
  let c0_i32_122 : BitVec 32 := 0#32
  let c1_i32_124 : BitVec 32 := 1#32
  let arg21 : BitVec 32 := Scf.iv c0_i32_122 c1_i32_124 k0_t2
  let v209 : Index := Scalar.indexCast arg21
  let c0_167 : Index := 0#32
  let c0_168 : Index := 0#32
  ![0, 1, v209.toNat, 0, 0]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.addi v2 c2_i32_110
  let c0_i32_128 : BitVec 32 := 0#32
  ![v147.toNat, 0]
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_127 : BitVec 32 := 0#32
  ![v2.toNat, 0]
def k0_off42 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev10 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.addi v2 c2_i32_110
  let c1_i32_129 : BitVec 32 := 1#32
  let v159 : BitVec 32 := Scalar.muli v147 c1_i32_129
  let v160 : BitVec 32 := Scalar.addi c0_i32_130 v159
  v160.toNat
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.addi v2 c2_i32_110
  let c1_i32_139 : BitVec 32 := 1#32
  ![v147.toNat, 1]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_138 : BitVec 32 := 1#32
  ![v2.toNat, 1]
def k0_off45 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  let c0_i32_144 : BitVec 32 := 0#32
  let c0_i32_145 : BitVec 32 := 0#32
  ![v2.toNat, 0, 0, 0, 0]
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.addi v2 c2_i32_110
  let c1_i32_140 : BitVec 32 := 1#32
  let v169 : BitVec 32 := Scalar.muli v147 c1_i32_140
  let v170 : BitVec 32 := Scalar.addi c0_i32_141 v169
  v170.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_13 : BitVec 32 := 3#32
  let v32 : BitVec 32 := Scalar.addi v2 c3_i32_13
  let c7_i32_14 : BitVec 32 := 7#32
  let v33 : BitVec 1 := Scalar.cmpi .sle v32 c7_i32_14
  let v34 : BitVec 32 := Scalar.extui v33
  let c0_i32_15 : BitVec 32 := 0#32
  let v35 : BitVec 1 := Scalar.cmpi .ne v34 c0_i32_15
  v35

def k0_off46 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.addi v2 c3_i32_110
  ![v147.toNat]
def k0_off47 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.addi v2 c3_i32_110
  let c0_i32_113 : BitVec 32 := 0#32
  let c0_i32_114 : BitVec 32 := 0#32
  let c0_i32_115 : BitVec 32 := 0#32
  ![v147.toNat, 0, 0, 0]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v158 : BitVec 32 := Scalar.addi v2 c3_i32_122
  let c2_i32_123 : BitVec 32 := 2#32
  let v159 : BitVec 32 := Scalar.subi v158 c2_i32_123
  let c0_i32_125 : BitVec 32 := 0#32
  ![v159.toNat, 0]
def k0_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v158 : BitVec 32 := Scalar.addi v2 c3_i32_122
  let c2_i32_123 : BitVec 32 := 2#32
  let v159 : BitVec 32 := Scalar.subi v158 c2_i32_123
  let c1_i32_135 : BitVec 32 := 1#32
  ![v159.toNat, 1]
def k0_off51 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  let c0_i32_144 : BitVec 32 := 0#32
  let c0_i32_145 : BitVec 32 := 0#32
  ![v2.toNat, 0, 0, 0, 0]
@[reducible] def k0_t3_loop : Scf.Loop 32 :=
  let c0_i32_146 : BitVec 32 := 0#32
  let c8_i32_147 : BitVec 32 := 8#32
  let v172 : BitVec 32 := Scalar.addi c0_i32_146 c8_i32_147
  let c1_i32_148 : BitVec 32 := 1#32
  ⟨c0_i32_146, v172, c1_i32_148⟩
def k0_off52 (k0_t3 : Fin k0_t3_loop.trips) : Fin 3 → Nat :=
  let c0_i32_146 : BitVec 32 := 0#32
  let c1_i32_148 : BitVec 32 := 1#32
  let arg21 : BitVec 32 := Scf.iv c0_i32_146 c1_i32_148 k0_t3
  let v193 : Index := Scalar.indexCast arg21
  let c0_174 : Index := 0#32
  let c0_175 : Index := 0#32
  ![v193.toNat, 0, 0]
def k0_off53 (k0_t3 : Fin k0_t3_loop.trips) : Fin 4 → Nat :=
  let c1 : Index := 1#32
  let c0_i32_146 : BitVec 32 := 0#32
  let c1_i32_148 : BitVec 32 := 1#32
  let arg21 : BitVec 32 := Scf.iv c0_i32_146 c1_i32_148 k0_t3
  let v213 : Index := Scalar.indexCast arg21
  let c0_183 : Index := 0#32
  let c0_184 : Index := 0#32
  ![1, v213.toNat, 0, 0]
def k0_off54 (k0_t3 : Fin k0_t3_loop.trips) : Fin 5 → Nat :=
  let c1_185 : Index := 1#32
  let c0_186 : Index := 0#32
  let c0_i32_146 : BitVec 32 := 0#32
  let c1_i32_148 : BitVec 32 := 1#32
  let arg21 : BitVec 32 := Scf.iv c0_i32_146 c1_i32_148 k0_t3
  let v218 : Index := Scalar.indexCast arg21
  let c0_187 : Index := 0#32
  let c0_188 : Index := 0#32
  ![1, 0, v218.toNat, 0, 0]
def k0_off55 (k0_t3 : Fin k0_t3_loop.trips) : Fin 5 → Nat :=
  let c1_189 : Index := 1#32
  let c1_190 : Index := 1#32
  let c0_i32_146 : BitVec 32 := 0#32
  let c1_i32_148 : BitVec 32 := 1#32
  let arg21 : BitVec 32 := Scf.iv c0_i32_146 c1_i32_148 k0_t3
  let v223 : Index := Scalar.indexCast arg21
  let c0_191 : Index := 0#32
  let c0_192 : Index := 0#32
  ![1, 1, v223.toNat, 0, 0]
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.addi v2 c3_i32_110
  let c0_i32_152 : BitVec 32 := 0#32
  ![v147.toNat, 0]
def k0_off57 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  ![v2.toNat, 0]
def k0_dev12 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.addi v2 c3_i32_110
  let c1_i32_153 : BitVec 32 := 1#32
  let v173 : BitVec 32 := Scalar.muli v147 c1_i32_153
  let v174 : BitVec 32 := Scalar.addi c0_i32_154 v173
  v174.toNat
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.addi v2 c3_i32_110
  let c1_i32_163 : BitVec 32 := 1#32
  ![v147.toNat, 1]
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  ![v2.toNat, 1]
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.addi v2 c3_i32_110
  let c1_i32_164 : BitVec 32 := 1#32
  let v183 : BitVec 32 := Scalar.muli v147 c1_i32_164
  let v184 : BitVec 32 := Scalar.addi c0_i32_165 v183
  v184.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_16 : BitVec 32 := 4#32
  let v36 : BitVec 32 := Scalar.addi v2 c4_i32_16
  let c7_i32_17 : BitVec 32 := 7#32
  let v37 : BitVec 1 := Scalar.cmpi .sle v36 c7_i32_17
  let v38 : BitVec 32 := Scalar.extui v37
  let c0_i32_18 : BitVec 32 := 0#32
  let v39 : BitVec 1 := Scalar.cmpi .ne v38 c0_i32_18
  v39

def k0_off60 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.addi v2 c4_i32_110
  ![v147.toNat]
def k0_off61 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.addi v2 c4_i32_110
  let c0_i32_113 : BitVec 32 := 0#32
  let c0_i32_114 : BitVec 32 := 0#32
  let c0_i32_115 : BitVec 32 := 0#32
  ![v147.toNat, 0, 0, 0]
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_122 : BitVec 32 := 4#32
  let v158 : BitVec 32 := Scalar.addi v2 c4_i32_122
  let c2_i32_123 : BitVec 32 := 2#32
  let v159 : BitVec 32 := Scalar.subi v158 c2_i32_123
  let c0_i32_125 : BitVec 32 := 0#32
  ![v159.toNat, 0]
def k0_off63 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_122 : BitVec 32 := 4#32
  let v158 : BitVec 32 := Scalar.addi v2 c4_i32_122
  let c2_i32_123 : BitVec 32 := 2#32
  let v159 : BitVec 32 := Scalar.subi v158 c2_i32_123
  let c1_i32_135 : BitVec 32 := 1#32
  ![v159.toNat, 1]
def k0_off65 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  let c0_i32_144 : BitVec 32 := 0#32
  let c0_i32_145 : BitVec 32 := 0#32
  ![v2.toNat, 0, 0, 0, 0]
@[reducible] def k0_t4_loop : Scf.Loop 32 :=
  let c0_i32_146 : BitVec 32 := 0#32
  let c8_i32_147 : BitVec 32 := 8#32
  let v172 : BitVec 32 := Scalar.addi c0_i32_146 c8_i32_147
  let c1_i32_148 : BitVec 32 := 1#32
  ⟨c0_i32_146, v172, c1_i32_148⟩
def k0_off66 (k0_t4 : Fin k0_t4_loop.trips) : Fin 3 → Nat :=
  let c0_i32_146 : BitVec 32 := 0#32
  let c1_i32_148 : BitVec 32 := 1#32
  let arg21 : BitVec 32 := Scf.iv c0_i32_146 c1_i32_148 k0_t4
  let v193 : Index := Scalar.indexCast arg21
  let c0_174 : Index := 0#32
  let c0_175 : Index := 0#32
  ![v193.toNat, 0, 0]
def k0_off67 (k0_t4 : Fin k0_t4_loop.trips) : Fin 4 → Nat :=
  let c0_183 : Index := 0#32
  let c0_i32_146 : BitVec 32 := 0#32
  let c1_i32_148 : BitVec 32 := 1#32
  let arg21 : BitVec 32 := Scf.iv c0_i32_146 c1_i32_148 k0_t4
  let v213 : Index := Scalar.indexCast arg21
  let c0_184 : Index := 0#32
  let c0_185 : Index := 0#32
  ![0, v213.toNat, 0, 0]
def k0_off68 (k0_t4 : Fin k0_t4_loop.trips) : Fin 5 → Nat :=
  let c0_186 : Index := 0#32
  let c0_187 : Index := 0#32
  let c0_i32_146 : BitVec 32 := 0#32
  let c1_i32_148 : BitVec 32 := 1#32
  let arg21 : BitVec 32 := Scf.iv c0_i32_146 c1_i32_148 k0_t4
  let v218 : Index := Scalar.indexCast arg21
  let c0_188 : Index := 0#32
  let c0_189 : Index := 0#32
  ![0, 0, v218.toNat, 0, 0]
def k0_off69 (k0_t4 : Fin k0_t4_loop.trips) : Fin 5 → Nat :=
  let c0_190 : Index := 0#32
  let c1 : Index := 1#32
  let c0_i32_146 : BitVec 32 := 0#32
  let c1_i32_148 : BitVec 32 := 1#32
  let arg21 : BitVec 32 := Scf.iv c0_i32_146 c1_i32_148 k0_t4
  let v223 : Index := Scalar.indexCast arg21
  let c0_191 : Index := 0#32
  let c0_192 : Index := 0#32
  ![0, 1, v223.toNat, 0, 0]
def k0_off70 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.addi v2 c4_i32_110
  let c0_i32_152 : BitVec 32 := 0#32
  ![v147.toNat, 0]
def k0_off71 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  ![v2.toNat, 0]
def k0_dev14 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.addi v2 c4_i32_110
  let c1_i32_153 : BitVec 32 := 1#32
  let v173 : BitVec 32 := Scalar.muli v147 c1_i32_153
  let v174 : BitVec 32 := Scalar.addi c0_i32_154 v173
  v174.toNat
def k0_off72 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.addi v2 c4_i32_110
  let c1_i32_163 : BitVec 32 := 1#32
  ![v147.toNat, 1]
def k0_off73 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  ![v2.toNat, 1]
def k0_dev15 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.addi v2 c4_i32_110
  let c1_i32_164 : BitVec 32 := 1#32
  let v183 : BitVec 32 := Scalar.muli v147 c1_i32_164
  let v184 : BitVec 32 := Scalar.addi c0_i32_165 v183
  v184.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_19 : BitVec 32 := 5#32
  let v40 : BitVec 32 := Scalar.addi v2 c5_i32_19
  let c7_i32_20 : BitVec 32 := 7#32
  let v41 : BitVec 1 := Scalar.cmpi .sle v40 c7_i32_20
  let v42 : BitVec 32 := Scalar.extui v41
  let c0_i32_21 : BitVec 32 := 0#32
  let v43 : BitVec 1 := Scalar.cmpi .ne v42 c0_i32_21
  v43

def k0_off74 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.addi v2 c5_i32_110
  ![v147.toNat]
def k0_off75 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.addi v2 c5_i32_110
  let c0_i32_113 : BitVec 32 := 0#32
  let c0_i32_114 : BitVec 32 := 0#32
  let c0_i32_115 : BitVec 32 := 0#32
  ![v147.toNat, 0, 0, 0]
def k0_off76 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_122 : BitVec 32 := 5#32
  let v158 : BitVec 32 := Scalar.addi v2 c5_i32_122
  let c2_i32_123 : BitVec 32 := 2#32
  let v159 : BitVec 32 := Scalar.subi v158 c2_i32_123
  let c0_i32_125 : BitVec 32 := 0#32
  ![v159.toNat, 0]
def k0_off77 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_122 : BitVec 32 := 5#32
  let v158 : BitVec 32 := Scalar.addi v2 c5_i32_122
  let c2_i32_123 : BitVec 32 := 2#32
  let v159 : BitVec 32 := Scalar.subi v158 c2_i32_123
  let c1_i32_135 : BitVec 32 := 1#32
  ![v159.toNat, 1]
def k0_off79 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  let c0_i32_144 : BitVec 32 := 0#32
  let c0_i32_145 : BitVec 32 := 0#32
  ![v2.toNat, 0, 0, 0, 0]
@[reducible] def k0_t5_loop : Scf.Loop 32 :=
  let c0_i32_146 : BitVec 32 := 0#32
  let c8_i32_147 : BitVec 32 := 8#32
  let v172 : BitVec 32 := Scalar.addi c0_i32_146 c8_i32_147
  let c1_i32_148 : BitVec 32 := 1#32
  ⟨c0_i32_146, v172, c1_i32_148⟩
def k0_off80 (k0_t5 : Fin k0_t5_loop.trips) : Fin 3 → Nat :=
  let c0_i32_146 : BitVec 32 := 0#32
  let c1_i32_148 : BitVec 32 := 1#32
  let arg21 : BitVec 32 := Scf.iv c0_i32_146 c1_i32_148 k0_t5
  let v193 : Index := Scalar.indexCast arg21
  let c0_174 : Index := 0#32
  let c0_175 : Index := 0#32
  ![v193.toNat, 0, 0]
def k0_off81 (k0_t5 : Fin k0_t5_loop.trips) : Fin 4 → Nat :=
  let c1 : Index := 1#32
  let c0_i32_146 : BitVec 32 := 0#32
  let c1_i32_148 : BitVec 32 := 1#32
  let arg21 : BitVec 32 := Scf.iv c0_i32_146 c1_i32_148 k0_t5
  let v213 : Index := Scalar.indexCast arg21
  let c0_183 : Index := 0#32
  let c0_184 : Index := 0#32
  ![1, v213.toNat, 0, 0]
def k0_off82 (k0_t5 : Fin k0_t5_loop.trips) : Fin 5 → Nat :=
  let c1_185 : Index := 1#32
  let c0_186 : Index := 0#32
  let c0_i32_146 : BitVec 32 := 0#32
  let c1_i32_148 : BitVec 32 := 1#32
  let arg21 : BitVec 32 := Scf.iv c0_i32_146 c1_i32_148 k0_t5
  let v218 : Index := Scalar.indexCast arg21
  let c0_187 : Index := 0#32
  let c0_188 : Index := 0#32
  ![1, 0, v218.toNat, 0, 0]
def k0_off83 (k0_t5 : Fin k0_t5_loop.trips) : Fin 5 → Nat :=
  let c1_189 : Index := 1#32
  let c1_190 : Index := 1#32
  let c0_i32_146 : BitVec 32 := 0#32
  let c1_i32_148 : BitVec 32 := 1#32
  let arg21 : BitVec 32 := Scf.iv c0_i32_146 c1_i32_148 k0_t5
  let v223 : Index := Scalar.indexCast arg21
  let c0_191 : Index := 0#32
  let c0_192 : Index := 0#32
  ![1, 1, v223.toNat, 0, 0]
def k0_off84 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.addi v2 c5_i32_110
  let c0_i32_152 : BitVec 32 := 0#32
  ![v147.toNat, 0]
def k0_off85 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  ![v2.toNat, 0]
def k0_dev16 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.addi v2 c5_i32_110
  let c1_i32_153 : BitVec 32 := 1#32
  let v173 : BitVec 32 := Scalar.muli v147 c1_i32_153
  let v174 : BitVec 32 := Scalar.addi c0_i32_154 v173
  v174.toNat
def k0_off86 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.addi v2 c5_i32_110
  let c1_i32_163 : BitVec 32 := 1#32
  ![v147.toNat, 1]
def k0_off87 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  ![v2.toNat, 1]
def k0_dev17 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.addi v2 c5_i32_110
  let c1_i32_164 : BitVec 32 := 1#32
  let v183 : BitVec 32 := Scalar.muli v147 c1_i32_164
  let v184 : BitVec 32 := Scalar.addi c0_i32_165 v183
  v184.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_22 : BitVec 32 := 6#32
  let v44 : BitVec 32 := Scalar.addi v2 c6_i32_22
  let c7_i32_23 : BitVec 32 := 7#32
  let v45 : BitVec 1 := Scalar.cmpi .sle v44 c7_i32_23
  let v46 : BitVec 32 := Scalar.extui v45
  let c0_i32_24 : BitVec 32 := 0#32
  let v47 : BitVec 1 := Scalar.cmpi .ne v46 c0_i32_24
  v47

def k0_off88 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.addi v2 c6_i32_110
  ![v147.toNat]
def k0_off89 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.addi v2 c6_i32_110
  let c0_i32_113 : BitVec 32 := 0#32
  let c0_i32_114 : BitVec 32 := 0#32
  let c0_i32_115 : BitVec 32 := 0#32
  ![v147.toNat, 0, 0, 0]
def k0_off90 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_122 : BitVec 32 := 6#32
  let v158 : BitVec 32 := Scalar.addi v2 c6_i32_122
  let c2_i32_123 : BitVec 32 := 2#32
  let v159 : BitVec 32 := Scalar.subi v158 c2_i32_123
  let c0_i32_125 : BitVec 32 := 0#32
  ![v159.toNat, 0]
def k0_off91 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_off92 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_122 : BitVec 32 := 6#32
  let v158 : BitVec 32 := Scalar.addi v2 c6_i32_122
  let c2_i32_123 : BitVec 32 := 2#32
  let v159 : BitVec 32 := Scalar.subi v158 c2_i32_123
  let c1_i32_135 : BitVec 32 := 1#32
  ![v159.toNat, 1]
def k0_off93 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  let c0_i32_144 : BitVec 32 := 0#32
  let c0_i32_145 : BitVec 32 := 0#32
  ![v2.toNat, 0, 0, 0, 0]
@[reducible] def k0_t6_loop : Scf.Loop 32 :=
  let c0_i32_146 : BitVec 32 := 0#32
  let c8_i32_147 : BitVec 32 := 8#32
  let v172 : BitVec 32 := Scalar.addi c0_i32_146 c8_i32_147
  let c1_i32_148 : BitVec 32 := 1#32
  ⟨c0_i32_146, v172, c1_i32_148⟩
def k0_off94 (k0_t6 : Fin k0_t6_loop.trips) : Fin 3 → Nat :=
  let c0_i32_146 : BitVec 32 := 0#32
  let c1_i32_148 : BitVec 32 := 1#32
  let arg21 : BitVec 32 := Scf.iv c0_i32_146 c1_i32_148 k0_t6
  let v193 : Index := Scalar.indexCast arg21
  let c0_174 : Index := 0#32
  let c0_175 : Index := 0#32
  ![v193.toNat, 0, 0]
def k0_off95 (k0_t6 : Fin k0_t6_loop.trips) : Fin 4 → Nat :=
  let c0_183 : Index := 0#32
  let c0_i32_146 : BitVec 32 := 0#32
  let c1_i32_148 : BitVec 32 := 1#32
  let arg21 : BitVec 32 := Scf.iv c0_i32_146 c1_i32_148 k0_t6
  let v213 : Index := Scalar.indexCast arg21
  let c0_184 : Index := 0#32
  let c0_185 : Index := 0#32
  ![0, v213.toNat, 0, 0]
def k0_off96 (k0_t6 : Fin k0_t6_loop.trips) : Fin 5 → Nat :=
  let c0_186 : Index := 0#32
  let c0_187 : Index := 0#32
  let c0_i32_146 : BitVec 32 := 0#32
  let c1_i32_148 : BitVec 32 := 1#32
  let arg21 : BitVec 32 := Scf.iv c0_i32_146 c1_i32_148 k0_t6
  let v218 : Index := Scalar.indexCast arg21
  let c0_188 : Index := 0#32
  let c0_189 : Index := 0#32
  ![0, 0, v218.toNat, 0, 0]
def k0_off97 (k0_t6 : Fin k0_t6_loop.trips) : Fin 5 → Nat :=
  let c0_190 : Index := 0#32
  let c1 : Index := 1#32
  let c0_i32_146 : BitVec 32 := 0#32
  let c1_i32_148 : BitVec 32 := 1#32
  let arg21 : BitVec 32 := Scf.iv c0_i32_146 c1_i32_148 k0_t6
  let v223 : Index := Scalar.indexCast arg21
  let c0_191 : Index := 0#32
  let c0_192 : Index := 0#32
  ![0, 1, v223.toNat, 0, 0]
def k0_off98 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.addi v2 c6_i32_110
  let c0_i32_152 : BitVec 32 := 0#32
  ![v147.toNat, 0]
def k0_off99 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  ![v2.toNat, 0]
def k0_dev18 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.addi v2 c6_i32_110
  let c1_i32_153 : BitVec 32 := 1#32
  let v173 : BitVec 32 := Scalar.muli v147 c1_i32_153
  let v174 : BitVec 32 := Scalar.addi c0_i32_154 v173
  v174.toNat
def k0_off100 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.addi v2 c6_i32_110
  let c1_i32_163 : BitVec 32 := 1#32
  ![v147.toNat, 1]
def k0_off101 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  ![v2.toNat, 1]
def k0_dev19 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.addi v2 c6_i32_110
  let c1_i32_164 : BitVec 32 := 1#32
  let v183 : BitVec 32 := Scalar.muli v147 c1_i32_164
  let v184 : BitVec 32 := Scalar.addi c0_i32_165 v183
  v184.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_25 : BitVec 32 := 7#32
  let v48 : BitVec 32 := Scalar.addi v2 c7_i32_25
  let c7_i32_26 : BitVec 32 := 7#32
  let v49 : BitVec 1 := Scalar.cmpi .sle v48 c7_i32_26
  let v50 : BitVec 32 := Scalar.extui v49
  let c0_i32_27 : BitVec 32 := 0#32
  let v51 : BitVec 1 := Scalar.cmpi .ne v50 c0_i32_27
  v51

def k0_off102 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.addi v2 c7_i32_110
  ![v147.toNat]
def k0_off103 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.addi v2 c7_i32_110
  let c0_i32_113 : BitVec 32 := 0#32
  let c0_i32_114 : BitVec 32 := 0#32
  let c0_i32_115 : BitVec 32 := 0#32
  ![v147.toNat, 0, 0, 0]
def k0_off104 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_122 : BitVec 32 := 7#32
  let v158 : BitVec 32 := Scalar.addi v2 c7_i32_122
  let c2_i32_123 : BitVec 32 := 2#32
  let v159 : BitVec 32 := Scalar.subi v158 c2_i32_123
  let c0_i32_125 : BitVec 32 := 0#32
  ![v159.toNat, 0]
def k0_off105 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_off106 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_122 : BitVec 32 := 7#32
  let v158 : BitVec 32 := Scalar.addi v2 c7_i32_122
  let c2_i32_123 : BitVec 32 := 2#32
  let v159 : BitVec 32 := Scalar.subi v158 c2_i32_123
  let c1_i32_135 : BitVec 32 := 1#32
  ![v159.toNat, 1]
def k0_off107 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  let c0_i32_144 : BitVec 32 := 0#32
  let c0_i32_145 : BitVec 32 := 0#32
  ![v2.toNat, 0, 0, 0, 0]
@[reducible] def k0_t7_loop : Scf.Loop 32 :=
  let c0_i32_146 : BitVec 32 := 0#32
  let c8_i32_147 : BitVec 32 := 8#32
  let v172 : BitVec 32 := Scalar.addi c0_i32_146 c8_i32_147
  let c1_i32_148 : BitVec 32 := 1#32
  ⟨c0_i32_146, v172, c1_i32_148⟩
def k0_off108 (k0_t7 : Fin k0_t7_loop.trips) : Fin 3 → Nat :=
  let c0_i32_146 : BitVec 32 := 0#32
  let c1_i32_148 : BitVec 32 := 1#32
  let arg21 : BitVec 32 := Scf.iv c0_i32_146 c1_i32_148 k0_t7
  let v193 : Index := Scalar.indexCast arg21
  let c0_174 : Index := 0#32
  let c0_175 : Index := 0#32
  ![v193.toNat, 0, 0]
def k0_off109 (k0_t7 : Fin k0_t7_loop.trips) : Fin 4 → Nat :=
  let c1 : Index := 1#32
  let c0_i32_146 : BitVec 32 := 0#32
  let c1_i32_148 : BitVec 32 := 1#32
  let arg21 : BitVec 32 := Scf.iv c0_i32_146 c1_i32_148 k0_t7
  let v213 : Index := Scalar.indexCast arg21
  let c0_183 : Index := 0#32
  let c0_184 : Index := 0#32
  ![1, v213.toNat, 0, 0]
def k0_off110 (k0_t7 : Fin k0_t7_loop.trips) : Fin 5 → Nat :=
  let c1_185 : Index := 1#32
  let c0_186 : Index := 0#32
  let c0_i32_146 : BitVec 32 := 0#32
  let c1_i32_148 : BitVec 32 := 1#32
  let arg21 : BitVec 32 := Scf.iv c0_i32_146 c1_i32_148 k0_t7
  let v218 : Index := Scalar.indexCast arg21
  let c0_187 : Index := 0#32
  let c0_188 : Index := 0#32
  ![1, 0, v218.toNat, 0, 0]
def k0_off111 (k0_t7 : Fin k0_t7_loop.trips) : Fin 5 → Nat :=
  let c1_189 : Index := 1#32
  let c1_190 : Index := 1#32
  let c0_i32_146 : BitVec 32 := 0#32
  let c1_i32_148 : BitVec 32 := 1#32
  let arg21 : BitVec 32 := Scf.iv c0_i32_146 c1_i32_148 k0_t7
  let v223 : Index := Scalar.indexCast arg21
  let c0_191 : Index := 0#32
  let c0_192 : Index := 0#32
  ![1, 1, v223.toNat, 0, 0]
def k0_off112 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.addi v2 c7_i32_110
  let c0_i32_152 : BitVec 32 := 0#32
  ![v147.toNat, 0]
def k0_off113 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_151 : BitVec 32 := 0#32
  ![v2.toNat, 0]
def k0_dev20 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.addi v2 c7_i32_110
  let c1_i32_153 : BitVec 32 := 1#32
  let v173 : BitVec 32 := Scalar.muli v147 c1_i32_153
  let v174 : BitVec 32 := Scalar.addi c0_i32_154 v173
  v174.toNat
def k0_off114 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.addi v2 c7_i32_110
  let c1_i32_163 : BitVec 32 := 1#32
  ![v147.toNat, 1]
def k0_off115 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  ![v2.toNat, 1]
def k0_dev21 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.addi v2 c7_i32_110
  let c1_i32_164 : BitVec 32 := 1#32
  let v183 : BitVec 32 := Scalar.muli v147 c1_i32_164
  let v184 : BitVec 32 := Scalar.addi c0_i32_165 v183
  v184.toNat
@[reducible] def k0_t8_loop : Scf.Loop 32 :=
  let c0_i32_28 : BitVec 32 := 0#32
  let c8_i32_29 : BitVec 32 := 8#32
  let v52 : BitVec 32 := Scalar.addi c0_i32_28 c8_i32_29
  let c1_i32_30 : BitVec 32 := 1#32
  ⟨c0_i32_28, v52, c1_i32_30⟩
def k0_off116 (k0_t8 : Fin k0_t8_loop.trips) : Fin 3 → Nat :=
  let c0_i32_28 : BitVec 32 := 0#32
  let c1_i32_30 : BitVec 32 := 1#32
  let arg21 : BitVec 32 := Scf.iv c0_i32_28 c1_i32_30 k0_t8
  let v147 : Index := Scalar.indexCast arg21
  let c0_110 : Index := 0#32
  let c0_111 : Index := 0#32
  ![v147.toNat, 0, 0]
def k0_off117 (k0_t8 : Fin k0_t8_loop.trips) : Fin 3 → Nat :=
  let c0_i32_28 : BitVec 32 := 0#32
  let c1_i32_30 : BitVec 32 := 1#32
  let arg21 : BitVec 32 := Scf.iv c0_i32_28 c1_i32_30 k0_t8
  let v170 : Index := Scalar.indexCast arg21
  let c0_121 : Index := 0#32
  let c0_122 : Index := 0#32
  ![v170.toNat, 0, 0]
def k0_off118 (k0_t8 : Fin k0_t8_loop.trips) : Fin 3 → Nat :=
  let c0_i32_28 : BitVec 32 := 0#32
  let c1_i32_30 : BitVec 32 := 1#32
  let arg21 : BitVec 32 := Scf.iv c0_i32_28 c1_i32_30 k0_t8
  let v178 : Index := Scalar.indexCast arg21
  let c0_125 : Index := 0#32
  let c0_126 : Index := 0#32
  ![v178.toNat, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v57 : BitVec 1 := Scalar.cmpi .sge v2 c1_i32_37
  let v58 : BitVec 32 := Scalar.extui v57
  let c0_i32_38 : BitVec 32 := 0#32
  let v59 : BitVec 1 := Scalar.cmpi .ne v58 c0_i32_38
  v59

def k0_off119 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  let c1_i32_112 : BitVec 32 := 1#32
  ![v147.toNat, 1]
def k0_off120 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  let c0_i32_116 : BitVec 32 := 0#32
  let c0_i32_117 : BitVec 32 := 0#32
  let c0_i32_118 : BitVec 32 := 0#32
  let c0_i32_119 : BitVec 32 := 0#32
  ![v147.toNat, 0, 0, 0, 0]
def k0_off121 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_127 : BitVec 32 := 1#32
  let v157 : BitVec 32 := Scalar.subi v2 c1_i32_127
  let v158 : Index := Scalar.indexCast v157
  let c0_128 : Index := 0#32
  let c0_129 : Index := 0#32
  let c0_130 : Index := 0#32
  let c0_131 : Index := 0#32
  ![v158.toNat, 0, 0, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v60 : BitVec 1 := Scalar.cmpi .sge v2 c2_i32_39
  let v61 : BitVec 32 := Scalar.extui v60
  let c0_i32_40 : BitVec 32 := 0#32
  let v62 : BitVec 1 := Scalar.cmpi .ne v61 c0_i32_40
  v62

def k0_off122 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  let c1_i32_112 : BitVec 32 := 1#32
  ![v147.toNat, 1]
def k0_off123 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  let c0_i32_116 : BitVec 32 := 0#32
  let c0_i32_117 : BitVec 32 := 0#32
  let c0_i32_118 : BitVec 32 := 0#32
  let c0_i32_119 : BitVec 32 := 0#32
  ![v147.toNat, 0, 0, 0, 0]
def k0_off124 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_127 : BitVec 32 := 2#32
  let v157 : BitVec 32 := Scalar.subi v2 c2_i32_127
  let v158 : Index := Scalar.indexCast v157
  let c0_128 : Index := 0#32
  let c0_129 : Index := 0#32
  let c0_130 : Index := 0#32
  let c0_131 : Index := 0#32
  ![v158.toNat, 0, 0, 0, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v63 : BitVec 1 := Scalar.cmpi .sge v2 c3_i32_41
  let v64 : BitVec 32 := Scalar.extui v63
  let c0_i32_42 : BitVec 32 := 0#32
  let v65 : BitVec 1 := Scalar.cmpi .ne v64 c0_i32_42
  v65

def k0_off125 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  let c1_i32_112 : BitVec 32 := 1#32
  ![v147.toNat, 1]
def k0_off126 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  let c0_i32_116 : BitVec 32 := 0#32
  let c0_i32_117 : BitVec 32 := 0#32
  let c0_i32_118 : BitVec 32 := 0#32
  let c0_i32_119 : BitVec 32 := 0#32
  ![v147.toNat, 0, 0, 0, 0]
def k0_off127 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_127 : BitVec 32 := 3#32
  let v157 : BitVec 32 := Scalar.subi v2 c3_i32_127
  let v158 : Index := Scalar.indexCast v157
  let c0_128 : Index := 0#32
  let c0_129 : Index := 0#32
  let c0_130 : Index := 0#32
  let c0_131 : Index := 0#32
  ![v158.toNat, 0, 0, 0, 0]
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_43 : BitVec 32 := 4#32
  let v66 : BitVec 1 := Scalar.cmpi .sge v2 c4_i32_43
  let v67 : BitVec 32 := Scalar.extui v66
  let c0_i32_44 : BitVec 32 := 0#32
  let v68 : BitVec 1 := Scalar.cmpi .ne v67 c0_i32_44
  v68

def k0_off128 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  let c1_i32_112 : BitVec 32 := 1#32
  ![v147.toNat, 1]
def k0_off129 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  let c0_i32_116 : BitVec 32 := 0#32
  let c0_i32_117 : BitVec 32 := 0#32
  let c0_i32_118 : BitVec 32 := 0#32
  let c0_i32_119 : BitVec 32 := 0#32
  ![v147.toNat, 0, 0, 0, 0]
def k0_off130 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v157 : BitVec 32 := Scalar.subi v2 c4_i32_127
  let v158 : Index := Scalar.indexCast v157
  let c0_128 : Index := 0#32
  let c0_129 : Index := 0#32
  let c0_130 : Index := 0#32
  let c0_131 : Index := 0#32
  ![v158.toNat, 0, 0, 0, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_45 : BitVec 32 := 5#32
  let v69 : BitVec 1 := Scalar.cmpi .sge v2 c5_i32_45
  let v70 : BitVec 32 := Scalar.extui v69
  let c0_i32_46 : BitVec 32 := 0#32
  let v71 : BitVec 1 := Scalar.cmpi .ne v70 c0_i32_46
  v71

def k0_off131 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  let c1_i32_112 : BitVec 32 := 1#32
  ![v147.toNat, 1]
def k0_off132 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  let c0_i32_116 : BitVec 32 := 0#32
  let c0_i32_117 : BitVec 32 := 0#32
  let c0_i32_118 : BitVec 32 := 0#32
  let c0_i32_119 : BitVec 32 := 0#32
  ![v147.toNat, 0, 0, 0, 0]
def k0_off133 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_127 : BitVec 32 := 5#32
  let v157 : BitVec 32 := Scalar.subi v2 c5_i32_127
  let v158 : Index := Scalar.indexCast v157
  let c0_128 : Index := 0#32
  let c0_129 : Index := 0#32
  let c0_130 : Index := 0#32
  let c0_131 : Index := 0#32
  ![v158.toNat, 0, 0, 0, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_47 : BitVec 32 := 6#32
  let v72 : BitVec 1 := Scalar.cmpi .sge v2 c6_i32_47
  let v73 : BitVec 32 := Scalar.extui v72
  let c0_i32_48 : BitVec 32 := 0#32
  let v74 : BitVec 1 := Scalar.cmpi .ne v73 c0_i32_48
  v74

def k0_off134 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  let c1_i32_112 : BitVec 32 := 1#32
  ![v147.toNat, 1]
def k0_off135 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  let c0_i32_116 : BitVec 32 := 0#32
  let c0_i32_117 : BitVec 32 := 0#32
  let c0_i32_118 : BitVec 32 := 0#32
  let c0_i32_119 : BitVec 32 := 0#32
  ![v147.toNat, 0, 0, 0, 0]
def k0_off136 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_127 : BitVec 32 := 6#32
  let v157 : BitVec 32 := Scalar.subi v2 c6_i32_127
  let v158 : Index := Scalar.indexCast v157
  let c0_128 : Index := 0#32
  let c0_129 : Index := 0#32
  let c0_130 : Index := 0#32
  let c0_131 : Index := 0#32
  ![v158.toNat, 0, 0, 0, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_49 : BitVec 32 := 7#32
  let v75 : BitVec 1 := Scalar.cmpi .sge v2 c7_i32_49
  let v76 : BitVec 32 := Scalar.extui v75
  let c0_i32_50 : BitVec 32 := 0#32
  let v77 : BitVec 1 := Scalar.cmpi .ne v76 c0_i32_50
  v77

def k0_off137 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  let c1_i32_112 : BitVec 32 := 1#32
  ![v147.toNat, 1]
def k0_off138 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  let c0_i32_116 : BitVec 32 := 0#32
  let c0_i32_117 : BitVec 32 := 0#32
  let c0_i32_118 : BitVec 32 := 0#32
  let c0_i32_119 : BitVec 32 := 0#32
  ![v147.toNat, 0, 0, 0, 0]
def k0_off139 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_127 : BitVec 32 := 7#32
  let v157 : BitVec 32 := Scalar.subi v2 c7_i32_127
  let v158 : Index := Scalar.indexCast v157
  let c0_128 : Index := 0#32
  let c0_129 : Index := 0#32
  let c0_130 : Index := 0#32
  let c0_131 : Index := 0#32
  ![v158.toNat, 0, 0, 0, 0]
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v93 : BitVec 1 := Scalar.cmpi .sge v2 c1_i32_69
  let v94 : BitVec 32 := Scalar.extui v93
  let c0_i32_70 : BitVec 32 := 0#32
  let v95 : BitVec 1 := Scalar.cmpi .ne v94 c0_i32_70
  v95

def k0_off140 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  let c0_i32_112 : BitVec 32 := 0#32
  ![v147.toNat, 0]
def k0_off141 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  let c0_i32_116 : BitVec 32 := 0#32
  let c0_i32_117 : BitVec 32 := 0#32
  let c0_i32_118 : BitVec 32 := 0#32
  ![v147.toNat, 0, 0, 0]
def k0_off142 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  let v160 : Index := Scalar.indexCast v147
  let c0_128 : Index := 0#32
  let c0_129 : Index := 0#32
  let c0_130 : Index := 0#32
  let c0_131 : Index := 0#32
  ![v160.toNat, 0, 0, 0, 0]
def k0_off143 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  let v177 : Index := Scalar.indexCast v147
  let c1 : Index := 1#32
  let c0_147 : Index := 0#32
  let c0_148 : Index := 0#32
  let c0_149 : Index := 0#32
  ![v177.toNat, 1, 0, 0, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_71 : BitVec 32 := 2#32
  let v96 : BitVec 1 := Scalar.cmpi .sge v2 c2_i32_71
  let v97 : BitVec 32 := Scalar.extui v96
  let c0_i32_72 : BitVec 32 := 0#32
  let v98 : BitVec 1 := Scalar.cmpi .ne v97 c0_i32_72
  v98

def k0_off144 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  let c0_i32_112 : BitVec 32 := 0#32
  ![v147.toNat, 0]
def k0_off145 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  let c0_i32_116 : BitVec 32 := 0#32
  let c0_i32_117 : BitVec 32 := 0#32
  let c0_i32_118 : BitVec 32 := 0#32
  ![v147.toNat, 0, 0, 0]
def k0_off146 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  let v160 : Index := Scalar.indexCast v147
  let c0_128 : Index := 0#32
  let c0_129 : Index := 0#32
  let c0_130 : Index := 0#32
  let c0_131 : Index := 0#32
  ![v160.toNat, 0, 0, 0, 0]
def k0_off147 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  let v177 : Index := Scalar.indexCast v147
  let c1 : Index := 1#32
  let c0_147 : Index := 0#32
  let c0_148 : Index := 0#32
  let c0_149 : Index := 0#32
  ![v177.toNat, 1, 0, 0, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_73 : BitVec 32 := 3#32
  let v99 : BitVec 1 := Scalar.cmpi .sge v2 c3_i32_73
  let v100 : BitVec 32 := Scalar.extui v99
  let c0_i32_74 : BitVec 32 := 0#32
  let v101 : BitVec 1 := Scalar.cmpi .ne v100 c0_i32_74
  v101

def k0_off148 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  let c0_i32_112 : BitVec 32 := 0#32
  ![v147.toNat, 0]
def k0_off149 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  let c0_i32_116 : BitVec 32 := 0#32
  let c0_i32_117 : BitVec 32 := 0#32
  let c0_i32_118 : BitVec 32 := 0#32
  ![v147.toNat, 0, 0, 0]
def k0_off150 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  let v160 : Index := Scalar.indexCast v147
  let c0_128 : Index := 0#32
  let c0_129 : Index := 0#32
  let c0_130 : Index := 0#32
  let c0_131 : Index := 0#32
  ![v160.toNat, 0, 0, 0, 0]
def k0_off151 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  let v177 : Index := Scalar.indexCast v147
  let c1 : Index := 1#32
  let c0_147 : Index := 0#32
  let c0_148 : Index := 0#32
  let c0_149 : Index := 0#32
  ![v177.toNat, 1, 0, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_75 : BitVec 32 := 4#32
  let v102 : BitVec 1 := Scalar.cmpi .sge v2 c4_i32_75
  let v103 : BitVec 32 := Scalar.extui v102
  let c0_i32_76 : BitVec 32 := 0#32
  let v104 : BitVec 1 := Scalar.cmpi .ne v103 c0_i32_76
  v104

def k0_off152 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  let c0_i32_112 : BitVec 32 := 0#32
  ![v147.toNat, 0]
def k0_off153 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  let c0_i32_116 : BitVec 32 := 0#32
  let c0_i32_117 : BitVec 32 := 0#32
  let c0_i32_118 : BitVec 32 := 0#32
  ![v147.toNat, 0, 0, 0]
def k0_off154 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  let v160 : Index := Scalar.indexCast v147
  let c0_128 : Index := 0#32
  let c0_129 : Index := 0#32
  let c0_130 : Index := 0#32
  let c0_131 : Index := 0#32
  ![v160.toNat, 0, 0, 0, 0]
def k0_off155 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  let v177 : Index := Scalar.indexCast v147
  let c1 : Index := 1#32
  let c0_147 : Index := 0#32
  let c0_148 : Index := 0#32
  let c0_149 : Index := 0#32
  ![v177.toNat, 1, 0, 0, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_77 : BitVec 32 := 5#32
  let v105 : BitVec 1 := Scalar.cmpi .sge v2 c5_i32_77
  let v106 : BitVec 32 := Scalar.extui v105
  let c0_i32_78 : BitVec 32 := 0#32
  let v107 : BitVec 1 := Scalar.cmpi .ne v106 c0_i32_78
  v107

def k0_off156 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  let c0_i32_112 : BitVec 32 := 0#32
  ![v147.toNat, 0]
def k0_off157 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  let c0_i32_116 : BitVec 32 := 0#32
  let c0_i32_117 : BitVec 32 := 0#32
  let c0_i32_118 : BitVec 32 := 0#32
  ![v147.toNat, 0, 0, 0]
def k0_off158 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  let v160 : Index := Scalar.indexCast v147
  let c0_128 : Index := 0#32
  let c0_129 : Index := 0#32
  let c0_130 : Index := 0#32
  let c0_131 : Index := 0#32
  ![v160.toNat, 0, 0, 0, 0]
def k0_off159 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  let v177 : Index := Scalar.indexCast v147
  let c1 : Index := 1#32
  let c0_147 : Index := 0#32
  let c0_148 : Index := 0#32
  let c0_149 : Index := 0#32
  ![v177.toNat, 1, 0, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_79 : BitVec 32 := 6#32
  let v108 : BitVec 1 := Scalar.cmpi .sge v2 c6_i32_79
  let v109 : BitVec 32 := Scalar.extui v108
  let c0_i32_80 : BitVec 32 := 0#32
  let v110 : BitVec 1 := Scalar.cmpi .ne v109 c0_i32_80
  v110

def k0_off160 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  let c0_i32_112 : BitVec 32 := 0#32
  ![v147.toNat, 0]
def k0_off161 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  let c0_i32_116 : BitVec 32 := 0#32
  let c0_i32_117 : BitVec 32 := 0#32
  let c0_i32_118 : BitVec 32 := 0#32
  ![v147.toNat, 0, 0, 0]
def k0_off162 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  let v160 : Index := Scalar.indexCast v147
  let c0_128 : Index := 0#32
  let c0_129 : Index := 0#32
  let c0_130 : Index := 0#32
  let c0_131 : Index := 0#32
  ![v160.toNat, 0, 0, 0, 0]
def k0_off163 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  let v177 : Index := Scalar.indexCast v147
  let c1 : Index := 1#32
  let c0_147 : Index := 0#32
  let c0_148 : Index := 0#32
  let c0_149 : Index := 0#32
  ![v177.toNat, 1, 0, 0, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v111 : BitVec 1 := Scalar.cmpi .sge v2 c7_i32_81
  let v112 : BitVec 32 := Scalar.extui v111
  let c0_i32_82 : BitVec 32 := 0#32
  let v113 : BitVec 1 := Scalar.cmpi .ne v112 c0_i32_82
  v113

def k0_off164 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  let c0_i32_112 : BitVec 32 := 0#32
  ![v147.toNat, 0]
def k0_off165 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  let c0_i32_116 : BitVec 32 := 0#32
  let c0_i32_117 : BitVec 32 := 0#32
  let c0_i32_118 : BitVec 32 := 0#32
  ![v147.toNat, 0, 0, 0]
def k0_off166 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  let v160 : Index := Scalar.indexCast v147
  let c0_128 : Index := 0#32
  let c0_129 : Index := 0#32
  let c0_130 : Index := 0#32
  let c0_131 : Index := 0#32
  ![v160.toNat, 0, 0, 0, 0]
def k0_off167 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  let v177 : Index := Scalar.indexCast v147
  let c1 : Index := 1#32
  let c0_147 : Index := 0#32
  let c0_148 : Index := 0#32
  let c0_149 : Index := 0#32
  ![v177.toNat, 1, 0, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_92 : BitVec 32 := 1#32
  let v120 : BitVec 1 := Scalar.cmpi .sge v2 c1_i32_92
  let v121 : BitVec 32 := Scalar.extui v120
  let c0_i32_93 : BitVec 32 := 0#32
  let v122 : BitVec 1 := Scalar.cmpi .ne v121 c0_i32_93
  v122

def k0_off168 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v147 : BitVec 32 := Scalar.subi v2 c1_i32_110
  ![v147.toNat]
def k0_off169 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  let c0_i32_113 : BitVec 32 := 0#32
  let c0_i32_114 : BitVec 32 := 0#32
  ![v2.toNat, 0, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_94 : BitVec 32 := 2#32
  let v123 : BitVec 1 := Scalar.cmpi .sge v2 c2_i32_94
  let v124 : BitVec 32 := Scalar.extui v123
  let c0_i32_95 : BitVec 32 := 0#32
  let v125 : BitVec 1 := Scalar.cmpi .ne v124 c0_i32_95
  v125

def k0_off170 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v147 : BitVec 32 := Scalar.subi v2 c2_i32_110
  ![v147.toNat]
def k0_off171 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  let c0_i32_113 : BitVec 32 := 0#32
  let c0_i32_114 : BitVec 32 := 0#32
  ![v2.toNat, 0, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_96 : BitVec 32 := 3#32
  let v126 : BitVec 1 := Scalar.cmpi .sge v2 c3_i32_96
  let v127 : BitVec 32 := Scalar.extui v126
  let c0_i32_97 : BitVec 32 := 0#32
  let v128 : BitVec 1 := Scalar.cmpi .ne v127 c0_i32_97
  v128

def k0_off172 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v147 : BitVec 32 := Scalar.subi v2 c3_i32_110
  ![v147.toNat]
def k0_off173 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  let c0_i32_113 : BitVec 32 := 0#32
  let c0_i32_114 : BitVec 32 := 0#32
  ![v2.toNat, 0, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_98 : BitVec 32 := 4#32
  let v129 : BitVec 1 := Scalar.cmpi .sge v2 c4_i32_98
  let v130 : BitVec 32 := Scalar.extui v129
  let c0_i32_99 : BitVec 32 := 0#32
  let v131 : BitVec 1 := Scalar.cmpi .ne v130 c0_i32_99
  v131

def k0_off174 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v147 : BitVec 32 := Scalar.subi v2 c4_i32_110
  ![v147.toNat]
def k0_off175 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  let c0_i32_113 : BitVec 32 := 0#32
  let c0_i32_114 : BitVec 32 := 0#32
  ![v2.toNat, 0, 0, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_100 : BitVec 32 := 5#32
  let v132 : BitVec 1 := Scalar.cmpi .sge v2 c5_i32_100
  let v133 : BitVec 32 := Scalar.extui v132
  let c0_i32_101 : BitVec 32 := 0#32
  let v134 : BitVec 1 := Scalar.cmpi .ne v133 c0_i32_101
  v134

def k0_off176 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_110 : BitVec 32 := 5#32
  let v147 : BitVec 32 := Scalar.subi v2 c5_i32_110
  ![v147.toNat]
def k0_off177 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  let c0_i32_113 : BitVec 32 := 0#32
  let c0_i32_114 : BitVec 32 := 0#32
  ![v2.toNat, 0, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_102 : BitVec 32 := 6#32
  let v135 : BitVec 1 := Scalar.cmpi .sge v2 c6_i32_102
  let v136 : BitVec 32 := Scalar.extui v135
  let c0_i32_103 : BitVec 32 := 0#32
  let v137 : BitVec 1 := Scalar.cmpi .ne v136 c0_i32_103
  v137

def k0_off178 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v147 : BitVec 32 := Scalar.subi v2 c6_i32_110
  ![v147.toNat]
def k0_off179 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  let c0_i32_113 : BitVec 32 := 0#32
  let c0_i32_114 : BitVec 32 := 0#32
  ![v2.toNat, 0, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_104 : BitVec 32 := 7#32
  let v138 : BitVec 1 := Scalar.cmpi .sge v2 c7_i32_104
  let v139 : BitVec 32 := Scalar.extui v138
  let c0_i32_105 : BitVec 32 := 0#32
  let v140 : BitVec 1 := Scalar.cmpi .ne v139 c0_i32_105
  v140

def k0_off180 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v147 : BitVec 32 := Scalar.subi v2 c7_i32_110
  ![v147.toNat]
def k0_off181 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  let c0_i32_113 : BitVec 32 := 0#32
  let c0_i32_114 : BitVec 32 := 0#32
  ![v2.toNat, 0, 0, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v141 : BitVec 1 := Scalar.cmpi .slt v2 c7_i32_106
  let v142 : BitVec 32 := Scalar.extui v141
  let c0_i32_107 : BitVec 32 := 0#32
  let v143 : BitVec 1 := Scalar.cmpi .ne v142 c0_i32_107
  v143

def k0_off182 (d0 : Dev nD) : Fin 4 → Nat :=
  let c7_i32_110 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v147 : BitVec 32 := Scalar.subi c7_i32_110 v2
  let c2_i32_111 : BitVec 32 := 2#32
  let c0_i32_112 : BitVec 32 := 0#32
  let v148 : BitVec 1 := Scalar.cmpi .eq c2_i32_111 c0_i32_112
  let c1_i32_113 : BitVec 32 := 1#32
  let v149 : BitVec 32 := Scalar.select v148 c1_i32_113 c2_i32_111
  let v150 : BitVec 32 := Scalar.remsi v147 v149
  let c0_i32_115 : BitVec 32 := 0#32
  let v152 : BitVec 1 := Scalar.cmpi .slt v150 c0_i32_115
  let c0_i32_116 : BitVec 32 := 0#32
  let v153 : BitVec 1 := Scalar.cmpi .slt v149 c0_i32_116
  let v154 : BitVec 1 := Scalar.xori v152 v153
  let c0_i32_114 : BitVec 32 := 0#32
  let v151 : BitVec 1 := Scalar.cmpi .ne v150 c0_i32_114
  let v155 : BitVec 1 := Scalar.andi v154 v151
  let v156 : BitVec 32 := Scalar.addi v150 v149
  let v157 : BitVec 32 := Scalar.select v155 v156 v150
  let c0_i32_122 : BitVec 32 := 0#32
  let c0_i32_123 : BitVec 32 := 0#32
  let c0_i32_124 : BitVec 32 := 0#32
  ![v157.toNat, 0, 0, 0]
def k0_off183 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_125 : BitVec 32 := 0#32
  let c0_i32_126 : BitVec 32 := 0#32
  let c0_i32_127 : BitVec 32 := 0#32
  ![v2.toNat, 0, 0, 0]
def k0_off184 (d0 : Dev nD) : Fin 5 → Nat :=
  let c7_i32_110 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v147 : BitVec 32 := Scalar.subi c7_i32_110 v2
  let c2_i32_111 : BitVec 32 := 2#32
  let c0_i32_112 : BitVec 32 := 0#32
  let v148 : BitVec 1 := Scalar.cmpi .eq c2_i32_111 c0_i32_112
  let c1_i32_113 : BitVec 32 := 1#32
  let v149 : BitVec 32 := Scalar.select v148 c1_i32_113 c2_i32_111
  let v150 : BitVec 32 := Scalar.remsi v147 v149
  let c0_i32_115 : BitVec 32 := 0#32
  let v152 : BitVec 1 := Scalar.cmpi .slt v150 c0_i32_115
  let c0_i32_116 : BitVec 32 := 0#32
  let v153 : BitVec 1 := Scalar.cmpi .slt v149 c0_i32_116
  let v154 : BitVec 1 := Scalar.xori v152 v153
  let c0_i32_114 : BitVec 32 := 0#32
  let v151 : BitVec 1 := Scalar.cmpi .ne v150 c0_i32_114
  let v155 : BitVec 1 := Scalar.andi v154 v151
  let v156 : BitVec 32 := Scalar.addi v150 v149
  let v157 : BitVec 32 := Scalar.select v155 v156 v150
  let c0_i32_133 : BitVec 32 := 0#32
  let c0_i32_134 : BitVec 32 := 0#32
  let c0_i32_135 : BitVec 32 := 0#32
  let c0_i32_136 : BitVec 32 := 0#32
  ![v157.toNat, 0, 0, 0, 0]
def k0_off185 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_137 : BitVec 32 := 0#32
  let c0_i32_138 : BitVec 32 := 0#32
  let c0_i32_139 : BitVec 32 := 0#32
  let c0_i32_140 : BitVec 32 := 0#32
  ![v2.toNat, 0, 0, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_108 : BitVec 32 := 6#32
  let v144 : BitVec 1 := Scalar.cmpi .slt v2 c6_i32_108
  let v145 : BitVec 32 := Scalar.extui v144
  let c0_i32_109 : BitVec 32 := 0#32
  let v146 : BitVec 1 := Scalar.cmpi .ne v145 c0_i32_109
  v146

def k0_off186 (d0 : Dev nD) : Fin 4 → Nat :=
  let c6_i32_110 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v147 : BitVec 32 := Scalar.subi c6_i32_110 v2
  let c2_i32_111 : BitVec 32 := 2#32
  let c0_i32_112 : BitVec 32 := 0#32
  let v148 : BitVec 1 := Scalar.cmpi .eq c2_i32_111 c0_i32_112
  let c1_i32_113 : BitVec 32 := 1#32
  let v149 : BitVec 32 := Scalar.select v148 c1_i32_113 c2_i32_111
  let v150 : BitVec 32 := Scalar.remsi v147 v149
  let c0_i32_115 : BitVec 32 := 0#32
  let v152 : BitVec 1 := Scalar.cmpi .slt v150 c0_i32_115
  let c0_i32_116 : BitVec 32 := 0#32
  let v153 : BitVec 1 := Scalar.cmpi .slt v149 c0_i32_116
  let v154 : BitVec 1 := Scalar.xori v152 v153
  let c0_i32_114 : BitVec 32 := 0#32
  let v151 : BitVec 1 := Scalar.cmpi .ne v150 c0_i32_114
  let v155 : BitVec 1 := Scalar.andi v154 v151
  let v156 : BitVec 32 := Scalar.addi v150 v149
  let v157 : BitVec 32 := Scalar.select v155 v156 v150
  let c0_i32_122 : BitVec 32 := 0#32
  let c0_i32_123 : BitVec 32 := 0#32
  let c0_i32_124 : BitVec 32 := 0#32
  ![v157.toNat, 0, 0, 0]
def k0_off187 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_125 : BitVec 32 := 0#32
  let c0_i32_126 : BitVec 32 := 0#32
  let c0_i32_127 : BitVec 32 := 0#32
  ![v2.toNat, 0, 0, 0]
def k0_off188 (d0 : Dev nD) : Fin 5 → Nat :=
  let c6_i32_110 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v147 : BitVec 32 := Scalar.subi c6_i32_110 v2
  let c2_i32_111 : BitVec 32 := 2#32
  let c0_i32_112 : BitVec 32 := 0#32
  let v148 : BitVec 1 := Scalar.cmpi .eq c2_i32_111 c0_i32_112
  let c1_i32_113 : BitVec 32 := 1#32
  let v149 : BitVec 32 := Scalar.select v148 c1_i32_113 c2_i32_111
  let v150 : BitVec 32 := Scalar.remsi v147 v149
  let c0_i32_115 : BitVec 32 := 0#32
  let v152 : BitVec 1 := Scalar.cmpi .slt v150 c0_i32_115
  let c0_i32_116 : BitVec 32 := 0#32
  let v153 : BitVec 1 := Scalar.cmpi .slt v149 c0_i32_116
  let v154 : BitVec 1 := Scalar.xori v152 v153
  let c0_i32_114 : BitVec 32 := 0#32
  let v151 : BitVec 1 := Scalar.cmpi .ne v150 c0_i32_114
  let v155 : BitVec 1 := Scalar.andi v154 v151
  let v156 : BitVec 32 := Scalar.addi v150 v149
  let v157 : BitVec 32 := Scalar.select v155 v156 v150
  let c0_i32_133 : BitVec 32 := 0#32
  let c0_i32_134 : BitVec 32 := 0#32
  let c0_i32_135 : BitVec 32 := 0#32
  let c0_i32_136 : BitVec 32 := 0#32
  ![v157.toNat, 0, 0, 0, 0]
def k0_off189 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_137 : BitVec 32 := 0#32
  let c0_i32_138 : BitVec 32 := 0#32
  let c0_i32_139 : BitVec 32 := 0#32
  let c0_i32_140 : BitVec 32 := 0#32
  ![v2.toNat, 0, 0, 0, 0]
abbrev stage0_0 : Fin 1 → Memref sig .tc .vmem S8x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x8192x128 : Shape := ⟨3, ![8, 8192, 128]⟩
abbrev S1024x1024 : Shape := ⟨2, ![1024, 1024]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S1x8192x1024 : Shape := ⟨3, ![1, 8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S8x8192x128, .bf16⟩
  | .hbm, ⟨2, _⟩ => ⟨S8x8192x128, .bf16⟩
  | .hbm, ⟨3, _⟩ => ⟨S1024x1024, .bf16⟩
  | .hbm, ⟨4, _⟩ => ⟨S1024x1024, .bf16⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8x8192x8192, .f32⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x8192x128, .f32⟩
  | .hbm, ⟨33, _⟩ => ⟨S8x128x8192, .f32⟩
  | .hbm, ⟨34, _⟩ => ⟨S8192x8x128, .f32⟩
  | .hbm, ⟨35, _⟩ => ⟨S1x8192x1024, .f32⟩
  | .hbm, ⟨36, _⟩ => ⟨S1024x1024, .f32⟩
  | .hbm, ⟨37, _⟩ => ⟨S1x8192x1024, .f32⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Basics.lean ====
/-
  The memrefs that the kernel's body is called on, the slots of its buffers, and the rules for
  running two programs in a row and for a conditional.

  A buffer with a leading axis is used slot by slot: slot `k` is the set of the elements whose
  leading coordinate is `k`.  A transfer addresses a slot by slicing it out and dropping the axis of
  size one that is left.
-/
module

public import proofs.«01_k».proof.Proof.Gen.KernelIdeal.Frame
public import Idealize.ShloMosaic.Lib.Rounds
public import Idealize.ShloMosaic.Lib.Transfers
public import Idealize.ShloMosaic.Lib.Ring

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs of the body -/

abbrev aQ : Memref sig .tc .vmem S8x1024x128 .bf16 := Memref.whole cc0_stg0_0
abbrev aK : Memref sig .tc .vmem S8x1024x128 .bf16 := Memref.whole cc0_stg1_0
abbrev aV : Memref sig .tc .vmem S8x1024x128 .bf16 := Memref.whole cc0_stg2_0
abbrev aM : Memref sig .tc .vmem S1024x1024 .bf16 := Memref.whole cc0_stg3_0
abbrev aO : Memref sig .tc .vmem S8x128x1024 .bf16 := Memref.whole cc0_stg4_0
abbrev aQB : Memref sig .tc .hbm S8x8x1024x128 .bf16 := Memref.whole main_v1_1
abbrev aPA : Memref sig .tc .hbm S8x8x128x1024 .bf16 := Memref.whole main_v1_2
abbrev aQS : Memref sig .tc .vmem S8x1024x128 .bf16 := Memref.whole cc0_scratch0
abbrev aCS : Memref sig .tc .vmem S8x128x1024 .bf16 := Memref.whole cc0_scratch1
abbrev aAB : Memref sig .tc .vmem S2x8x128x1024 .bf16 := Memref.whole cc0_scratch2
abbrev aMB : Memref sig .tc .vmem S2x2x8x1x1024 .bf16 := Memref.whole cc0_scratch3
abbrev aPM : Memref sig .tc .vmem S8x2x8x1x1024 .bf16 := Memref.whole cc0_scratch4
abbrev am : Memref sig .tc .vmem S8x1x1024 .f32 := Memref.whole cc0_scratch5
abbrev al : Memref sig .tc .vmem S8x1x1024 .f32 := Memref.whole cc0_scratch6
abbrev aacc : Memref sig .tc .vmem S8x128x1024 .f32 := Memref.whole cc0_scratch7
abbrev amx : Memref sig .tc .vmem S8x1x1024 .f32 := Memref.whole cc0_scratch8

/-! ## Slots -/

/-- The elements whose leading coordinate is `k`. -/
def lead {n : ℕ} {d : Fin (n + 1) → ℕ} (k : ℕ) : Finset (⟨n + 1, d⟩ : Shape).Idx :=
  Finset.univ.filter fun i => (i 0).val = k

theorem mem_lead {n : ℕ} {d : Fin (n + 1) → ℕ} {k : ℕ} {i : (⟨n + 1, d⟩ : Shape).Idx} :
    i ∈ lead (d := d) k ↔ (i 0).val = k := by simp [lead]

/-- An index without its leading coordinate. -/
def tl {n : ℕ} {N : ℕ} {d : Fin n → ℕ} (i : (⟨n + 1, Matrix.vecCons N d⟩ : Shape).Idx) :
    (⟨n, d⟩ : Shape).Idx := fun a => i a.succ

theorem cons_tl {n : ℕ} {N : ℕ} {d : Fin n → ℕ} (i : (⟨n + 1, Matrix.vecCons N d⟩ : Shape).Idx) (k : Fin N)
    (h : (i 0).val = k.val) :
    (Fin.cons (α := fun a => Fin ((Matrix.vecCons N d : Fin (n + 1) → ℕ) a)) k (tl i) : (⟨n + 1, Matrix.vecCons N d⟩ : Shape).Idx) = i := by
  funext a
  refine Fin.cases ?_ (fun b => rfl) a
  exact Fin.ext h.symm

section Slot
variable {n N : ℕ} {d : Fin n → ℕ} {sp : Space} {e : EltTy}

/-- The slice of slot `k`, its unit axis dropped, reads and writes slot `k`. -/
theorem slot_emb (m : Memref sig .tc sp ⟨n + 1, Matrix.vecCons N d⟩ e) (k : Fin N) {off : Fin (n + 1) → ℕ}
    (h0 : off 0 = k.val) (hs : ∀ i : Fin n, off i.succ = 0)
    (inb : ∀ a, off a + (Matrix.vecCons 1 d : Fin (n + 1) → ℕ) a ≤ (⟨n + 1, Matrix.vecCons N d⟩ : Shape).size a)
    (hr) (hq : (⟨n + 1, Matrix.vecCons 1 d⟩ : Shape).Squeezes ⟨n, d⟩) (x : (⟨n, d⟩ : Shape).Idx) :
    ((m.slice (Rect.unit (s := ⟨n + 1, Matrix.vecCons N d⟩) off (Matrix.vecCons 1 d) inb) hr).squeeze ⟨n, d⟩ hq).view.emb x
      = m.view.emb (Fin.cons (α := fun a => Fin ((Matrix.vecCons N d : Fin (n + 1) → ℕ) a)) k x) := by
  show m.view.emb ((Rect.unit (s := ⟨n + 1, Matrix.vecCons N d⟩) off (Matrix.vecCons 1 d) inb).emb
    (Shape.reshapeEquiv (s := ⟨n + 1, Matrix.vecCons 1 d⟩) (s' := ⟨n, d⟩) hq.numel_eq x)) = _
  have hx := Shape.reshapeEquiv_cons_one (d := d) hq.numel_eq x
  rw [hx]
  congr 1
  funext a
  refine Fin.ext ?_
  refine Fin.cases ?_ (fun b => ?_) a
  · show off 0 + 1 * 0 = k.val; omega
  · show off b.succ + 1 * (x b).val = (x b).val; rw [hs]; omega

end Slot

end Cert.KernelIdeal.Attn

end
-- ==== Proof.Protocol.lean ====
/-
  The protocol of the kernel's transfers.

  Device `c` sends its queries to every device `t < c`; device `t` computes the partial result of
  those queries against its own keys and values and sends it back.  Per device there are four
  families of cells, each with one round of one transfer:

  * `qs t` (`t < c`): the transfer of the queries to `t` has been read out; the owner gets its share
    of the queries' buffer back.
  * `qr s` (`s > c`): the queries of `s` have landed in slot `s` of this device's queries buffer.
    With them `s` hands over the two slots that the answer goes to, so that nothing is written
    into a peer's buffer before that peer has sent its queries.
  * `ps t b` (`t > c`): the transfer of the partial result to `t` has been read out (`b = 0` the
    accumulator, `b = 1` the maxima and sums).
  * `pr s b` (`s < c`): the partial result that `s` computed has landed.

  The levels are 0 for the cells that a device credits itself, 1 for `qr` and 2 for `pr`: a device
  waits for queries owing partial results only, and for partial results owing nothing.
-/
module

public import proofs.«01_k».proof.Proof.Basics
public import proofs.«01_k».proof.Proof.Gen.KernelIdeal.Skeleton

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

/-! ## The algebra: the pipeline library's cells, the protocol's cells, the local copies' counters -/

abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
def ER : Emb (UR sig nD τ) (MT nD τ sig Unit (Elt F) ℕ UU ℕ) :=
  (Emb.inl : Emb (UR sig nD τ) (UR sig nD τ × Counters)).trans embR
instance ER_lands : (ER : Emb (UR sig nD τ) (MT nD τ sig Unit (Elt F) ℕ UU ℕ)).LandsIn
    (upEmb : UEmb _ (MT nD τ sig Unit (Elt F) ℕ UU ℕ)) := by
  unfold ER embR; infer_instance
abbrev EC : UEmb Counters (MT nD τ sig Unit (Elt F) ℕ UU ℕ) := countersEmb

/-! ## The values -/

/-- The blocks that the devices' bodies read. -/
structure Ins (F : FTy → Type) where
  q : Dev nD → S8x1024x128.Idx → Elt F .bf16
  k : Dev nD → S8x1024x128.Idx → Elt F .bf16
  v : Dev nD → S8x1024x128.Idx → Elt F .bf16
  msk : Dev nD → S1024x1024.Idx → Elt F .bf16

/-- An index behind one more leading coordinate. -/
def cs {n N : ℕ} {d : Fin n → ℕ} (k : Fin N) (x : (⟨n, d⟩ : Shape).Idx) :
    (⟨n + 1, Matrix.vecCons N d⟩ : Shape).Idx :=
  Fin.cons (α := fun a => Fin ((Matrix.vecCons N d : Fin (n + 1) → ℕ) a)) k x

theorem tl_cs {n N : ℕ} {d : Fin n → ℕ} (k : Fin N) (x : (⟨n, d⟩ : Shape).Idx) : tl (cs k x) = x := rfl
theorem cs_zero {n N : ℕ} {d : Fin n → ℕ} (k : Fin N) (x : (⟨n, d⟩ : Shape).Idx) : cs k x 0 = k := rfl

/-- The rows of one head. -/
def headRow (X : S8x1024x128.Idx → Elt F .bf16) (h : Fin 8) : Vec F S1x1024x128 .bf16 := fun i => X (cs h (tl i))

/-- The partial accumulator of the queries `q` against the keys and values of another device. -/
def accP (q k v : S8x1024x128.Idx → Elt F .bf16) : S8x128x1024.Idx → Elt F .bf16 := fun i =>
  k0_pay4 (headRow q (i 0)) (headRow k (i 0)) (headRow v (i 0)) (cs (N := 1) 0 (cs (N := 1) 0 (tl i)))

/-- The partial maxima (plane 0) and sums (plane 1). -/
def mlP (q k : S8x1024x128.Idx → Elt F .bf16) : S2x8x1x1024.Idx → Elt F .bf16 := fun i =>
  if (i 0).val = 0 then k0_pay5 (headRow q (i 1)) (headRow k (i 1)) (cs (N := 1) 0 (cs (N := 1) 0 (cs (N := 1) 0 (tl (tl i)))))
  else k0_pay6 (headRow q (i 1)) (headRow k (i 1)) (cs (N := 1) 0 (cs (N := 1) 0 (cs (N := 1) 0 (tl (tl i)))))

variable (A : Ins F)

/-- Queries buffer: slot `s` holds the queries of device `s`. -/
def qbAll : S8x8x1024x128.Idx → Elt F .bf16 := fun i => A.q (i 0) (tl i)
/-- The partial accumulators that device `c` receives: slot `s` from device `s`. -/
def paAll (c : Dev nD) : S8x8x128x1024.Idx → Elt F .bf16 := fun i => accP (A.q c) (A.k (i 0)) (A.v (i 0)) (tl i)
def pmAll (c : Dev nD) : S8x2x8x1x1024.Idx → Elt F .bf16 := fun i => mlP (A.q c) (A.k (i 0)) (tl i)
/-- The partial result for device `t` as device `c` computes it, in a slot of its own buffers. -/
def abT (c t : Dev nD) : S2x8x128x1024.Idx → Elt F .bf16 := fun i => accP (A.q t) (A.k c) (A.v c) (tl i)
def mbT (c t : Dev nD) : S2x2x8x1x1024.Idx → Elt F .bf16 := fun i => mlP (A.q t) (A.k c) (tl i)

/-! ## Cells -/

theorem dev_lt (t : Dev nD) : t.val < 8 := t.isLt
def qsN (t : Dev nD) : DmaSem sig := ⟨5 + t.val, show 5 + t.val < 54 by have := dev_lt t; omega⟩
def qrN (t : Dev nD) : DmaSem sig := ⟨13 + t.val, show 13 + t.val < 54 by have := dev_lt t; omega⟩
def psN (t : Dev nD) (b : Fin 2) : DmaSem sig := ⟨21 + 2 * t.val + b.val, show 21 + 2 * t.val + b.val < 54 by have := dev_lt t; omega⟩
def prN (t : Dev nD) (b : Fin 2) : DmaSem sig := ⟨37 + 2 * t.val + b.val, show 37 + 2 * t.val + b.val < 54 by have := dev_lt t; omega⟩
theorem qsN_val (t : Dev nD) : (qsN t).val = 5 + t.val := rfl
theorem qrN_val (t : Dev nD) : (qrN t).val = 13 + t.val := rfl
theorem psN_val (t : Dev nD) (b : Fin 2) : (psN t b).val = 21 + 2 * t.val + b.val := rfl
theorem prN_val (t : Dev nD) (b : Fin 2) : (prN t b).val = 37 + 2 * t.val + b.val := rfl
def cpN : DmaSem sig := ⟨53, by decide⟩

/-- A cell of device `c`'s TensorCore. -/
abbrev cl (c : Dev nD) (n : DmaSem sig) : GSem nD τ sig := ((c : Thread nD τ), .dma n)

/-- Whether device `c`'s cell of number `n` takes part. -/
def valid (c n : ℕ) : Prop :=
  (5 ≤ n ∧ n < 13 ∧ n - 5 < c) ∨ (13 ≤ n ∧ n < 21 ∧ c < n - 13) ∨
  (21 ≤ n ∧ n < 37 ∧ c < (n - 21) / 2) ∨ (37 ≤ n ∧ n < 53 ∧ (n - 37) / 2 < c)
instance (c n : ℕ) : Decidable (valid c n) := by unfold valid; infer_instance

@[irreducible] def NQ : ℕ := tileCredit S8x1024x128 .bf16
@[irreducible] def NA : ℕ := tileCredit S8x128x1024 .bf16
@[irreducible] def NM : ℕ := tileCredit S2x8x1x1024 .bf16
theorem NQ_pos : 0 < NQ := by unfold NQ; exact tileCredit_pos _ _ (by decide)
theorem NA_pos : 0 < NA := by unfold NA; exact tileCredit_pos _ _ (by decide)
theorem NM_pos : 0 < NM := by unfold NM; exact tileCredit_pos _ _ (by decide)

/-- The units of the transfer of cell number `n`. -/
def amt (n : ℕ) : ℕ := if n < 21 then NQ else if n % 2 = 1 then NA else NM
theorem amt_pos (n : ℕ) : 0 < amt n := by
  unfold amt; split
  · exact NQ_pos
  · split
    · exact NA_pos
    · exact NM_pos
def Nb (b : Fin 2) : ℕ := if b = 0 then NA else NM

theorem amt_qs (t : Dev nD) : amt (qsN t).val = NQ := by
  have := dev_lt t; unfold amt; rw [if_pos (by rw [qsN_val]; omega)]
theorem amt_qr (t : Dev nD) : amt (qrN t).val = NQ := by
  have := dev_lt t; unfold amt; rw [if_pos (by rw [qrN_val]; omega)]
theorem amt_ps (t : Dev nD) (b : Fin 2) : amt (psN t b).val = Nb b := by
  have hb := b.isLt
  unfold amt Nb; rw [if_neg (by rw [psN_val]; omega)]
  rcases (by omega : b.val = 0 ∨ b.val = 1) with hb | hb
  · obtain rfl : b = 0 := Fin.ext hb
    rw [if_pos (by rw [psN_val]; show (21 + 2 * t.val + 0) % 2 = 1; omega), if_pos rfl]
  · obtain rfl : b = 1 := Fin.ext hb
    rw [if_neg (by rw [psN_val]; show ¬(21 + 2 * t.val + 1) % 2 = 1; omega), if_neg (by decide)]
theorem amt_pr (t : Dev nD) (b : Fin 2) : amt (prN t b).val = Nb b := by
  have hb := b.isLt
  unfold amt Nb; rw [if_neg (by rw [prN_val]; omega)]
  rcases (by omega : b.val = 0 ∨ b.val = 1) with hb | hb
  · obtain rfl : b = 0 := Fin.ext hb
    rw [if_pos (by rw [prN_val]; show (37 + 2 * t.val + 0) % 2 = 1; omega), if_pos rfl]
  · obtain rfl : b = 1 := Fin.ext hb
    rw [if_neg (by rw [prN_val]; show ¬(37 + 2 * t.val + 1) % 2 = 1; omega), if_neg (by decide)]

/-! ## Points-tos -/

/-- Part `S` of buffer `b` of device `c` at contents `f`. -/
abbrev pts (c : Dev nD) (b : Ref sig .tc) (S : Finset (Idx ((c : Thread nD τ).loc b))) (q : PosShare TreeShare)
    (f : Buf (Elt F) ((c : Thread nD τ).loc b)) : sProp 𝕄 := (c : Thread nD τ).loc b ↦[S]{q} f
/-- The same at contents not named. -/
abbrev ptsAny (c : Dev nD) (b : Ref sig .tc) (S : Finset (Idx ((c : Thread nD τ).loc b))) : sProp 𝕄 :=
  iprop(∃ f : Buf (Elt F) ((c : Thread nD τ).loc b), pts c b S fullShare f)

/-- The slots. -/
abbrev qbS (s : Dev nD) : Finset S8x8x1024x128.Idx := lead s.val
abbrev paS (s : Dev nD) : Finset S8x8x128x1024.Idx := lead s.val
abbrev pmS (s : Dev nD) : Finset S8x2x8x1x1024.Idx := lead s.val
abbrev abS (b : ℕ) : Finset S2x8x128x1024.Idx := lead b
abbrev mbS (b : ℕ) : Finset S2x2x8x1x1024.Idx := lead b

/-- The share of the queries' buffer that the transfer to `t` holds. -/
abbrev qTok (c t : Dev nD) : sProp 𝕄 := pts c cc0_stg0_0 Finset.univ (shareTok fullShare 8 t) (A.q c)

def qsPay (c t : Dev nD) : sProp 𝕄 := qTok A c t
def qrPay (c s : Dev nD) : sProp 𝕄 :=
  iprop(pts c main_v1_1 (qbS s) fullShare (qbAll A) ∗ ptsAny s main_v1_2 (paS c) ∗ ptsAny s cc0_scratch4 (pmS c))
def psPay (c t : Dev nD) (b : Fin 2) : sProp 𝕄 :=
  if b = 0 then pts c cc0_scratch2 (abS ((t.val - c.val) % 2)) fullShare (abT A c t)
  else pts c cc0_scratch3 (mbS ((t.val - c.val) % 2)) fullShare (mbT A c t)
def prPay (c s : Dev nD) (b : Fin 2) : sProp 𝕄 :=
  if b = 0 then pts c main_v1_2 (paS s) fullShare (paAll A c)
  else pts c cc0_scratch4 (pmS s) fullShare (pmAll A c)

instance qsPay_st (c t : Dev nD) : BI.Storable (upEmb : UEmb _ 𝕄) (qsPay A c t) := by unfold qsPay; infer_instance
instance qrPay_st (c t : Dev nD) : BI.Storable (upEmb : UEmb _ 𝕄) (qrPay A c t) := by unfold qrPay; infer_instance
instance psPay_st (c t : Dev nD) (b) : BI.Storable (upEmb : UEmb _ 𝕄) (psPay A c t b) := by unfold psPay; split <;> infer_instance
instance prPay_st (c t : Dev nD) (b) : BI.Storable (upEmb : UEmb _ 𝕄) (prPay A c t b) := by unfold prPay; split <;> infer_instance

/-- The device of a number. -/
def dv (n : ℕ) : Dev nD := ⟨n % 8, Nat.mod_lt _ (by decide)⟩
def bt (n : ℕ) : Fin 2 := ⟨n % 2, Nat.mod_lt _ (by decide)⟩
theorem dv_val (t : Dev nD) : dv t.val = t := Fin.ext (Nat.mod_eq_of_lt t.isLt)

/-- What the transfer of device `c`'s cell number `n` hands over. -/
def pay (c : Dev nD) (n : ℕ) : sProp 𝕄 :=
  if n < 13 then qsPay A c (dv (n - 5)) else if n < 21 then qrPay A c (dv (n - 13))
  else if n < 37 then psPay A c (dv ((n - 21) / 2)) (bt (n - 21)) else prPay A c (dv ((n - 37) / 2)) (bt (n - 37))

instance pay_st (c : Dev nD) (n) : BI.Storable (upEmb : UEmb _ 𝕄) (pay A c n) := by
  unfold pay; (repeat' split) <;> infer_instance

theorem pay_qs (c t : Dev nD) : pay A c (qsN t).val = qsPay A c t := by
  have h := dev_lt t
  unfold pay; rw [if_pos (by rw [qsN_val]; omega)]; congr 1; rw [show (qsN t).val - 5 = t.val by rw [qsN_val]; omega, dv_val]
theorem pay_qr (c t : Dev nD) : pay A c (qrN t).val = qrPay A c t := by
  have h := dev_lt t
  unfold pay; rw [if_neg (by rw [qrN_val]; omega), if_pos (by rw [qrN_val]; omega)]; congr 1
  rw [show (qrN t).val - 13 = t.val by rw [qrN_val]; omega, dv_val]
theorem pay_ps (c t : Dev nD) (b : Fin 2) : pay A c (psN t b).val = psPay A c t b := by
  have h := dev_lt t; have hb := b.isLt
  unfold pay; rw [if_neg (by rw [psN_val]; omega), if_neg (by rw [psN_val]; omega), if_pos (by rw [psN_val]; omega)]
  rw [show ((psN t b).val - 21) / 2 = t.val by rw [psN_val]; omega, dv_val,
    show bt ((psN t b).val - 21) = b from Fin.ext (by show _ % 2 = _; rw [psN_val]; omega)]
theorem pay_pr (c t : Dev nD) (b : Fin 2) : pay A c (prN t b).val = prPay A c t b := by
  have h := dev_lt t; have hb := b.isLt
  unfold pay; rw [if_neg (by rw [prN_val]; omega), if_neg (by rw [prN_val]; omega), if_neg (by rw [prN_val]; omega)]
  rw [show ((prN t b).val - 37) / 2 = t.val by rw [prN_val]; omega, dv_val,
    show bt ((prN t b).val - 37) = b from Fin.ext (by show _ % 2 = _; rw [prN_val]; omega)]

theorem valid_qs (c t : Dev nD) : valid c.val (qsN t).val ↔ t.val < c.val := by
  have h := dev_lt t; rw [qsN_val]; unfold valid; omega
theorem valid_qr (c t : Dev nD) : valid c.val (qrN t).val ↔ c.val < t.val := by
  have h := dev_lt t; rw [qrN_val]; unfold valid; omega
theorem valid_ps (c t : Dev nD) (b : Fin 2) : valid c.val (psN t b).val ↔ c.val < t.val := by
  have h := dev_lt t; have hb := b.isLt; rw [psN_val]; unfold valid; omega
theorem valid_pr (c t : Dev nD) (b : Fin 2) : valid c.val (prN t b).val ↔ t.val < c.val := by
  have h := dev_lt t; have hb := b.isLt; rw [prN_val]; unfold valid; omega

/-- The number of a DMA cell; 0, which takes no part, for any other. -/
def dmaNo : SemLoc sig → ℕ
  | .dma n => n.val
  | _ => 0

/-- One round, of one transfer, on every cell that takes part. -/
def Rd : Schedule (GSem nD τ sig) Unit 𝕄 where
  duties g r := if r = 0 ∧ g.1.2 = .tc ∧ valid g.1.1.val (dmaNo g.2) then {()} else ∅
  amount g _ _ := amt (dmaNo g.2)
  payload g _ _ := pay A g.1.1 (dmaNo g.2)
  amount_pos g _ _ _ := amt_pos _

instance Rd_st (g : GSem nD τ sig) (r : ℕ) (d : Unit) : BI.Storable (upEmb : UEmb _ 𝕄) ((Rd A).payload g r d) := by
  show BI.Storable _ (pay A g.1.1 (dmaNo g.2)); infer_instance

theorem duties_of (c : Dev nD) (n : DmaSem sig) (h : valid c.val n.val) : (Rd A).duties (cl c n) 0 = {()} := if_pos ⟨rfl, rfl, h⟩
theorem duties_not (c : Dev nD) (n : DmaSem sig) (h : ¬valid c.val n.val) (r : ℕ) : (Rd A).duties (cl c n) r = ∅ :=
  if_neg fun ⟨_, _, h'⟩ => h h'
theorem duties_later (g : GSem nD τ sig) (r : ℕ) (h : 1 ≤ r) : (Rd A).duties g r = ∅ := if_neg fun ⟨h', _⟩ => by omega
theorem expect_of (c : Dev nD) (n : DmaSem sig) (h : valid c.val n.val) : (Rd A).expect (cl c n) 0 = amt n.val := by
  unfold Schedule.expect Schedule.amountOf; rw [duties_of A c n h, Finset.sum_singleton]; rfl
theorem rest_of (c : Dev nD) (n : DmaSem sig) (h : valid c.val n.val) :
    bigSep ((Rd A).duties (cl c n) 0 \ ∅) (fun d => (Rd A).payload (cl c n) 0 d) = pay A c n.val := by
  rw [Finset.sdiff_empty, duties_of A c n h, bigSep_singleton]; rfl

/-! ## Levels -/

def L (g : GSem nD τ sig) : Finset Unit := if g.1.2 = .tc then {()} else ∅
def lvN (n : ℕ) : ℕ := if 13 ≤ n ∧ n < 21 then 1 else if 37 ≤ n ∧ n < 53 then 2 else 0
def lv (g : GSem nD τ sig) (_ : Unit) : ℕ := lvN (dmaNo g.2)

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) : () ∈ L ((c : Thread nD τ), sm) := by rw [L_tc]; exact Finset.mem_singleton_self _

theorem lv_qs (t : Dev nD) : lvN (qsN t).val = 0 := by have := dev_lt t; rw [qsN_val]; unfold lvN; rw [if_neg (by omega), if_neg (by omega)]
theorem lv_qr (t : Dev nD) : lvN (qrN t).val = 1 := by have := dev_lt t; rw [qrN_val]; unfold lvN; rw [if_pos (by omega)]
theorem lv_ps (t : Dev nD) (b : Fin 2) : lvN (psN t b).val = 0 := by
  have := dev_lt t; have := b.isLt; rw [psN_val]; unfold lvN; rw [if_neg (by omega), if_neg (by omega)]
theorem lv_pr (t : Dev nD) (b : Fin 2) : lvN (prN t b).val = 2 := by
  have := dev_lt t; have := b.isLt; rw [prN_val]; unfold lvN; rw [if_neg (by omega), if_pos (by omega)]

/-! ## What a device owes -/

/-- The queries still to be sent when those to the devices at distance at most `k` are out. -/
def owQ (c : Dev nD) (k : ℕ) : CellTallies nD τ sig Unit :=
  ∑ t : Dev nD, if t.val + k < c.val then tallyAt (cl t (qrN c)) () NQ else 0
/-- The partial results still to be sent when those to the devices at distance at most `k` are out. -/
def owP (c : Dev nD) (k : ℕ) : CellTallies nD τ sig Unit :=
  ∑ t : Dev nD, if c.val + k < t.val then tallyAt (cl t (prN c 0)) () NA + tallyAt (cl t (prN c 1)) () NM else 0
/-- What it owes at launch. -/
def O₀ (c : Dev nD) : CellTallies nD τ sig Unit := owQ c 0 + owP c 0

/-- Whatever is owed lies on cells of level at least `b`. -/
def Above (b : ℕ) (O : CellTallies nD τ sig Unit) : Prop :=
  ∀ (g : GSem nD τ sig) (i : Unit), 0 < O g i → i ∈ L g ∧ b < lv g i

theorem above_zero (b : ℕ) : Above b 0 := fun g i h => absurd h (Nat.lt_irrefl 0)
theorem above_add {b : ℕ} {O O' : CellTallies nD τ sig Unit} (h : Above b O) (h' : Above b O') : Above b (O + O') :=
  fun g i hp => by
    rw [Pi.add_apply, Finsupp.add_apply] at hp
    rcases Nat.add_pos_iff_pos_or_pos.mp hp with hp | hp
    · exact h g i hp
    · exact h' g i hp
theorem above_tally {b : ℕ} (c : Dev nD) (n : DmaSem sig) (N : ℕ) (h : b < lvN n.val) : Above b (tallyAt (cl c n) () N) :=
  fun g i hp => by
    rw [tallyAt_apply] at hp
    split at hp
    · next hg => rw [hg.1]; exact ⟨mem_L _ _, h⟩
    · exact absurd hp (Nat.lt_irrefl 0)
theorem above_sum {b : ℕ} {D : Dev nD → CellTallies nD τ sig Unit} (h : ∀ t, Above b (D t)) : Above b (∑ t : Dev nD, D t) :=
  fun g i hp => by
    obtain ⟨t, -, ht⟩ := Pipeline.sum_pos_exists hp
    exact h t g i ht
theorem above_mono {b b' : ℕ} {O : CellTallies nD τ sig Unit} (hb : b ≤ b') (h : Above b' O) : Above b O :=
  fun g i hp => ⟨(h g i hp).1, lt_of_le_of_lt hb (h g i hp).2⟩
theorem above_owQ (c : Dev nD) (k : ℕ) : Above 0 (owQ c k) := above_sum fun t => by
  split
  · exact above_tally _ _ _ (by rw [lv_qr]; decide)
  · exact above_zero _
theorem above_owP (c : Dev nD) (k : ℕ) : Above 1 (owP c k) := above_sum fun t => by
  split
  · exact above_add (above_tally _ _ _ (by rw [lv_pr]; decide)) (above_tally _ _ _ (by rw [lv_pr]; decide))
  · exact above_zero _

theorem mayWait_of (c : Dev nD) (n : DmaSem sig) {O : CellTallies nD τ sig Unit} (h : Above (lvN n.val) O) :
    (levAts L lv : sProp 𝕄) ⊢ MayWait (c : Thread nD τ) (.dma n) () O :=
  Pipeline.mayWait_of_levAts (mem_L _ _) h

/-- A sum with one term changed. -/
theorem sum_change {M : Type} [AddCommMonoid M] {f g : Dev nD → M} (t : Dev nD) (x : M) (h : ∀ j, j ≠ t → f j = g j)
    (ht : f t = g t + x) : ∑ j, f j = ∑ j, g j + x := by
  rw [← Finset.add_sum_erase _ f (Finset.mem_univ t), ← Finset.add_sum_erase _ g (Finset.mem_univ t), ht,
    Finset.sum_congr rfl fun j hj => h j (Finset.ne_of_mem_erase hj)]
  exact add_right_comm _ _ _

theorem owQ_step (c t : Dev nD) (k : ℕ) (h : t.val + k + 1 = c.val) :
    owQ c k = owQ c (k + 1) + tallyAt (cl t (qrN c)) () NQ :=
  sum_change t _ (fun j hj => by
      have : j.val ≠ t.val := fun e => hj (Fin.ext e)
      by_cases hc : j.val + (k + 1) < c.val
      · rw [if_pos hc, if_pos (by omega)]
      · rw [if_neg hc, if_neg (by omega)])
    (by rw [if_pos (by omega), if_neg (by omega), zero_add])
theorem owQ_skip (c : Dev nD) (k : ℕ) (h : c.val < k + 1) : owQ c k = owQ c (k + 1) :=
  Finset.sum_congr rfl fun j _ => by rw [if_neg (by omega), if_neg (by omega)]
theorem owP_step (c t : Dev nD) (k : ℕ) (h : c.val + k + 1 = t.val) :
    owP c k = owP c (k + 1) + (tallyAt (cl t (prN c 0)) () NA + tallyAt (cl t (prN c 1)) () NM) :=
  sum_change t _ (fun j hj => by
      have : j.val ≠ t.val := fun e => hj (Fin.ext e)
      by_cases hc : c.val + (k + 1) < j.val
      · rw [if_pos hc, if_pos (by omega)]
      · rw [if_neg hc, if_neg (by omega)])
    (by rw [if_pos (by omega), if_neg (by omega), zero_add])
theorem owP_skip (c : Dev nD) (k : ℕ) (h : 7 < c.val + k + 1) : owP c k = owP c (k + 1) :=
  Finset.sum_congr rfl fun j _ => by have := dev_lt j; rw [if_neg (by omega), if_neg (by omega)]
theorem owQ_done (c : Dev nD) : owQ c 7 = 0 :=
  Finset.sum_eq_zero fun j _ => by have := dev_lt c; rw [if_neg (by omega)]
theorem owP_done (c : Dev nD) : owP c 7 = 0 :=
  Finset.sum_eq_zero fun j _ => by have := dev_lt j; rw [if_neg (by omega)]

theorem bigSep_split {I : Type} [DecidableEq I] {s : Finset I} {i : I} (h : i ∈ s) {Φ : I → sProp 𝕄} :
    bigSep s Φ = iprop(Φ i ∗ bigSep (s.erase i) Φ) := bigSep_erase h

/-- A conjunction over the devices with one conjunct changed. -/
theorem bigSep_change {Φ Ψ : Dev nD → sProp 𝕄} (t : Dev nD) (h : ∀ j, j ≠ t → Φ j = Ψ j) :
    bigSep Finset.univ Φ ⊢ iprop(Φ t ∗ (Ψ t -∗ bigSep Finset.univ Ψ)) := by
  rw [bigSep_split (Finset.mem_univ t) (Φ := Φ), bigSep_split (Finset.mem_univ t) (Φ := Ψ),
    show bigSep (Finset.univ.erase t) Φ = bigSep (Finset.univ.erase t) Ψ from
      bigSep_congr fun j hj => h j (Finset.ne_of_mem_erase hj)]
  iintro ⟨H, HR⟩
  isplitl [H]; · iexact H
  iintro H'
  isplitl [H'] <;> iassumption

/-! ## What every device knows, and the ghost state per peer -/

variable (κ : GSem nD τ sig → ℕ)

/-- The cells' numbers. -/
def cellNos : Finset (DmaSem sig) := Finset.univ.filter fun n => 5 ≤ n.val ∧ n.val < 53

/-- The invariants of all cells, each with its round reached, and the levels. -/
def Know : sProp 𝕄 :=
  iprop(bigSep (Finset.univ ×ˢ cellNos) (fun x : Dev nD × DmaSem sig => iprop(cellInv ER (Rd A) (κ (cl x.1 x.2)) (cl x.1 x.2) ∗ reached ER (cl x.1 x.2) 0))
    ∗ levAts L lv)

instance Know_pers : BI.Persistent (Know A κ) := by unfold Know; infer_instance

theorem Know_cell (c : Dev nD) (n : DmaSem sig) (h : 5 ≤ n.val ∧ n.val < 53) :
    Know A κ ⊢ iprop(cellInv ER (Rd A) (κ (cl c n)) (cl c n) ∗ reached ER (cl c n) 0) := by
  unfold Know
  have hm : (c, n) ∈ (Finset.univ ×ˢ cellNos : Finset (Dev nD × DmaSem sig)) :=
    Finset.mem_product.mpr ⟨Finset.mem_univ _, Finset.mem_filter.mpr ⟨Finset.mem_univ _, h⟩⟩
  rw [bigSep_split hm]
  iintro ⟨⟨H, -⟩, -⟩
  iexact H
theorem Know_lev : Know A κ ⊢ levAts L lv := by unfold Know; iintro ⟨-, H⟩; iexact H

theorem in_qs (t : Dev nD) : 5 ≤ (qsN t).val ∧ (qsN t).val < 53 := by have := dev_lt t; rw [qsN_val]; omega
theorem in_qr (t : Dev nD) : 5 ≤ (qrN t).val ∧ (qrN t).val < 53 := by have := dev_lt t; rw [qrN_val]; omega
theorem in_ps (t : Dev nD) (b : Fin 2) : 5 ≤ (psN t b).val ∧ (psN t b).val < 53 := by have := dev_lt t; have := b.isLt; rw [psN_val]; omega
theorem in_pr (t : Dev nD) (b : Fin 2) : 5 ≤ (prN t b).val ∧ (prN t b).val < 53 := by have := dev_lt t; have := b.isLt; rw [prN_val]; omega

/-- The position on a cell, its right to one transfer, the credit of one. -/
abbrev at_ (c : Dev nD) (n : DmaSem sig) (r : ℕ) : sProp 𝕄 := atPos ER (cl c n) r ∅ 0
abbrev tok (c : Dev nD) (n : DmaSem sig) : sProp 𝕄 := dutyTok ER (cl c n) 0 ()
abbrev crd (c : Dev nD) (n : DmaSem sig) (N : ℕ) : sProp 𝕄 := cred (tallyAt (cl c n) () N)
/-- Owing `O`. -/
abbrev owe (c : Dev nD) (O : CellTallies nD τ sig Unit) : sProp 𝕄 := iprop(∃ W : Waits sig Unit, owes (c : Thread nD τ) O W)

end Cert.KernelIdeal.Attn

end
-- ==== Proof.Sites.lean ====
/-
  The kernel's transfers and waits, one rule each, over the offsets that the program computes.
-/
module

public import proofs.«01_k».proof.Proof.Protocol

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

/-! ## Running programs -/

section Run
variable (𝒱 : Variants)

/-- Device `c`'s TensorCore runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱 (c : Thread nD τ) none) Set.univ p Q

variable {𝒱} {α β : Type} {c : Dev nD}

/-- A program run first. -/
theorem run_seq {p : Prog (TpuEff nD τ sig (Elt F) Λ₀ .tc) α} {k : α → Prog (TpuEff nD τ sig (Elt F) Λ₀ .tc) β}
    {P : sProp 𝕄} {Q : α → sProp 𝕄} {R : β → sProp 𝕄} (h : P ⊢ WP 𝒱 c p Q) :
    P ⊢ iprop((∀ a, Q a -∗ WP 𝒱 c (k a) R) -∗ WP 𝒱 c (p >>= k) R) := by
  iintro HP Hk
  iapply BIBase.Entails.of_eq (wp_bind _ _ _ p k R).symm
  iapply (wp_wand_r frame (wpE (defs₀ (F := F)) 𝒱 (c : Thread nD τ) none) Set.univ (p := p) (Q := Q))
  isplitl [HP]
  · iapply h $$ HP
  · iexact Hk

/-- A program run last. -/
theorem run_last {p : Prog (TpuEff nD τ sig (Elt F) Λ₀ .tc) α}
    {P : sProp 𝕄} {Q R : α → sProp 𝕄} (h : P ⊢ WP 𝒱 c p Q) :
    P ⊢ iprop((∀ a, Q a -∗ R a) -∗ WP 𝒱 c p R) := by
  iintro HP Hk
  iapply (wp_wand_r frame (wpE (defs₀ (F := F)) 𝒱 (c : Thread nD τ) none) Set.univ (p := p) (Q := Q))
  isplitl [HP]
  · iapply h $$ HP
  · iexact Hk

theorem run_ret {a : α} {R : α → sProp 𝕄} : R a ⊢ WP 𝒱 c (.ret a) R := fupd_intro
theorem run_pure {a : α} {R : α → sProp 𝕄} : R a ⊢ WP 𝒱 c (pure a) R := fupd_intro

/-- A conditional whose branches both run to `Q`. -/
theorem run_dite {p : Prop} [Decidable p] {x : p → Prog (TpuEff nD τ sig (Elt F) Λ₀ .tc) α}
    {y : ¬p → Prog (TpuEff nD τ sig (Elt F) Λ₀ .tc) α} {P : sProp 𝕄} {Q : α → sProp 𝕄}
    (hx : ∀ h, P ⊢ WP 𝒱 c (x h) Q) (hy : ∀ h, P ⊢ WP 𝒱 c (y h) Q) : P ⊢ WP 𝒱 c (if h : p then x h else y h) Q := by
  split
  · next h => exact hx h
  · next h => exact hy h

end Run

/-! ## Views -/

theorem set_of_emb {κ : Kind} {sp : Space} {s : Shape} {e : EltTy} (v : View sig κ sp s e) (S : Finset v.ty.Idx)
    (h1 : ∀ x, v.emb x ∈ S) (h2 : ∀ i ∈ S, ∃ x, v.emb x = i) : v.set = S := by
  ext i
  constructor
  · intro h
    obtain ⟨x, -, rfl⟩ := Finset.mem_map.mp h
    exact h1 x
  · intro h
    obtain ⟨x, rfl⟩ := h2 i h
    exact v.emb_mem_set x

/-- Elements just written, at the contents they then hold. -/
theorem write_pts {sp : Space} {s : Shape} {e : EltTy} (c : Thread nD τ) (v : View sig c.2.kind sp s e)
    {S : Finset v.ty.Idx} (hS : v.set = S) (f G : v.ty.Contents (Elt F)) (w : s.Idx → Elt F e)
    (h : ∀ x, _root_.cast (congrArg (Elt F) v.elt_eq.symm) (w x) = G (v.emb x)) :
    (v.loc c ↦[v.set]{fullShare} (v.write (Elt F) f w Finset.univ) : sProp 𝕄) = (v.loc c ↦[S]{fullShare} G) := by
  subst hS
  refine pointsTo_congr fun i hi => ?_
  obtain ⟨x, -, rfl⟩ := Finset.mem_map.mp hi
  exact (v.write_emb_of_mem f w (Finset.mem_univ x)).trans (h x)

/-- Contents rewritten on a part of what is owned. -/
theorem write_sub {sp : Space} {s : Shape} {e : EltTy} (c : Thread nD τ) (v : View sig c.2.kind sp s e)
    {S : Finset v.ty.Idx} (f G : v.ty.Contents (Elt F)) (w : s.Idx → Elt F e)
    (h : ∀ x, _root_.cast (congrArg (Elt F) v.elt_eq.symm) (w x) = G (v.emb x))
    (h' : ∀ i, (∀ x, v.emb x ≠ i) → i ∈ S → f i = G i) :
    (v.loc c ↦[S]{fullShare} (v.write (Elt F) f w Finset.univ) : sProp 𝕄) = (v.loc c ↦[S]{fullShare} G) := by
  refine pointsTo_congr fun i hi => ?_
  by_cases hx : ∃ x, v.emb x = i
  · obtain ⟨x, rfl⟩ := hx
    exact (v.write_emb_of_mem f w (Finset.mem_univ x)).trans (h x)
  · have hn : ∀ x, v.emb x ≠ i := fun x e => hx ⟨x, e⟩
    rw [v.write_of_not_mem f w Finset.univ (i := i) (fun hm => by
      obtain ⟨x, -, e⟩ := Finset.mem_map.mp hm; exact hn x e)]
    exact h' i hn hi

section Slot
variable {n N : ℕ} {d : Fin n → ℕ} {sp : Space} {e : EltTy}

theorem slot_set (m : Memref sig .tc sp ⟨n + 1, Matrix.vecCons N d⟩ e) (k : Fin N) {off : Fin (n + 1) → ℕ}
    (h0 : off 0 = k.val) (hs : ∀ i : Fin n, off i.succ = 0)
    (inb : ∀ a, off a + (Matrix.vecCons 1 d : Fin (n + 1) → ℕ) a ≤ (⟨n + 1, Matrix.vecCons N d⟩ : Shape).size a)
    (hr) (hq : (⟨n + 1, Matrix.vecCons 1 d⟩ : Shape).Squeezes ⟨n, d⟩) :
    ((m.slice (Rect.unit (s := ⟨n + 1, Matrix.vecCons N d⟩) off (Matrix.vecCons 1 d) inb) hr).squeeze ⟨n, d⟩ hq).view.set
      = ((lead k.val).map m.view.emb : Finset m.view.ty.Idx) := by
  refine set_of_emb _ _ (fun x => ?_) fun i hi => ?_
  · rw [slot_emb m k h0 hs]
    exact Finset.mem_map_of_mem _ (mem_lead.mpr rfl)
  · obtain ⟨j, hj, rfl⟩ := Finset.mem_map.mp hi
    refine ⟨tl j, ?_⟩
    rw [slot_emb m k h0 hs, cons_tl j k (mem_lead.mp hj)]

end Slot

/-- Slots of the buffers that transfers address. -/
abbrev qbSlot (off : Fin 4 → ℕ) (inb : ∀ a, off a + S1x8x1024x128.size a ≤ S8x8x1024x128.size a) : Memref sig .tc .hbm S8x1024x128 .bf16 :=
  (aQB.slice (Rect.unit (s := S8x8x1024x128) off S1x8x1024x128.size inb) (fun _ => rfl)).squeeze S8x1024x128 squeezes_S1x8x1024x128_S8x1024x128
abbrev paSlot (off : Fin 4 → ℕ) (inb : ∀ a, off a + S1x8x128x1024.size a ≤ S8x8x128x1024.size a) : Memref sig .tc .hbm S8x128x1024 .bf16 :=
  (aPA.slice (Rect.unit (s := S8x8x128x1024) off S1x8x128x1024.size inb) (fun _ => rfl)).squeeze S8x128x1024 squeezes_S1x8x128x1024_S8x128x1024
abbrev abSlot (off : Fin 4 → ℕ) (inb : ∀ a, off a + S1x8x128x1024.size a ≤ S2x8x128x1024.size a) : Memref sig .tc .vmem S8x128x1024 .bf16 :=
  (aAB.slice (Rect.unit (s := S2x8x128x1024) off S1x8x128x1024.size inb) (fun _ => rfl)).squeeze S8x128x1024 squeezes_S1x8x128x1024_S8x128x1024
abbrev mbSlot (off : Fin 5 → ℕ) (inb : ∀ a, off a + S1x2x8x1x1024.size a ≤ S2x2x8x1x1024.size a) : Memref sig .tc .vmem S2x8x1x1024 .bf16 :=
  (aMB.slice (Rect.unit (s := S2x2x8x1x1024) off S1x2x8x1x1024.size inb) (fun _ => rfl)).squeeze S2x8x1x1024 squeezes_S1x2x8x1x1024_S2x8x1x1024
abbrev pmSlot (off : Fin 5 → ℕ) (inb : ∀ a, off a + S1x2x8x1x1024.size a ≤ S8x2x8x1x1024.size a) : Memref sig .tc .vmem S2x8x1x1024 .bf16 :=
  (aPM.slice (Rect.unit (s := S8x2x8x1x1024) off S1x2x8x1x1024.size inb) (fun _ => rfl)).squeeze S2x8x1x1024 squeezes_S1x2x8x1x1024_S2x8x1x1024

theorem z4 {k : ℕ} (i : Fin 3) : (![k, 0, 0, 0] : Fin 4 → ℕ) i.succ = 0 := by fin_cases i <;> rfl
theorem z5 {k : ℕ} (i : Fin 4) : (![k, 0, 0, 0, 0] : Fin 5 → ℕ) i.succ = 0 := by fin_cases i <;> rfl

theorem qb_emb (k : Fin 8) (inb) (x) : (qbSlot ![k.val, 0, 0, 0] inb).view.emb x = cs k x :=
  slot_emb aQB k rfl z4 inb _ _ x
theorem pa_emb (k : Fin 8) (inb) (x) : (paSlot ![k.val, 0, 0, 0] inb).view.emb x = cs k x :=
  slot_emb aPA k rfl z4 inb _ _ x
theorem ab_emb (k : Fin 2) (inb) (x) : (abSlot ![k.val, 0, 0, 0] inb).view.emb x = cs k x :=
  slot_emb aAB k rfl z4 inb _ _ x
theorem mb_emb (k : Fin 2) (inb) (x) : (mbSlot ![k.val, 0, 0, 0, 0] inb).view.emb x = cs k x :=
  slot_emb aMB k rfl z5 inb _ _ x
theorem pm_emb (k : Fin 8) (inb) (x) : (pmSlot ![k.val, 0, 0, 0, 0] inb).view.emb x = cs k x :=
  slot_emb aPM k rfl z5 inb _ _ x

theorem qb_set (k : Fin 8) (inb) : (qbSlot ![k.val, 0, 0, 0] inb).view.set = (lead k.val : Finset S8x8x1024x128.Idx) :=
  (slot_set aQB k rfl z4 inb _ _).trans Finset.map_refl
theorem pa_set (k : Fin 8) (inb) : (paSlot ![k.val, 0, 0, 0] inb).view.set = (lead k.val : Finset S8x8x128x1024.Idx) :=
  (slot_set aPA k rfl z4 inb _ _).trans Finset.map_refl
theorem ab_set (k : Fin 2) (inb) : (abSlot ![k.val, 0, 0, 0] inb).view.set = (lead k.val : Finset S2x8x128x1024.Idx) :=
  (slot_set aAB k rfl z4 inb _ _).trans Finset.map_refl
theorem mb_set (k : Fin 2) (inb) : (mbSlot ![k.val, 0, 0, 0, 0] inb).view.set = (lead k.val : Finset S2x2x8x1x1024.Idx) :=
  (slot_set aMB k rfl z5 inb _ _).trans Finset.map_refl
theorem pm_set (k : Fin 8) (inb) : (pmSlot ![k.val, 0, 0, 0, 0] inb).view.set = (lead k.val : Finset S8x2x8x1x1024.Idx) :=
  (slot_set aPM k rfl z5 inb _ _).trans Finset.map_refl

/-! ## The cells that the body addresses -/

abbrev sem1 (a : DmaSems sig S8) (off : Fin 1 → ℕ) (inb : ∀ a, off a + S1.size a ≤ S8.size a) : DmaSem sig :=
  ((a.slice (Rect.unit (s := S8) off S1.size inb)).squeeze S_ squeezes_S1_S_).sem
abbrev sem2 (a : DmaSems sig S8x2) (off : Fin 2 → ℕ) (inb : ∀ a, off a + S1x1.size a ≤ S8x2.size a) : DmaSem sig :=
  ((a.slice (Rect.unit (s := S8x2) off S1x1.size inb)).squeeze S_ squeezes_S1x1_S_).sem

theorem sem_qs (t : Dev nD) (inb) : sem1 cc0_scratch9 ![t.val] inb = qsN t := by revert t; decide
theorem sem_qr (t : Dev nD) (inb) : sem1 cc0_scratch10 ![t.val] inb = qrN t := by revert t; decide
theorem sem_ps (t : Dev nD) (b : Fin 2) (inb) : sem2 cc0_scratch11 ![t.val, b.val] inb = psN t b := by revert t b; decide
theorem sem_pr (t : Dev nD) (b : Fin 2) (inb) : sem2 cc0_scratch12 ![t.val, b.val] inb = prN t b := by revert t b; decide
theorem sem_cp : cc0_scratch13.sem = cpN := by decide

theorem am_qb (off inb) : (qbSlot off inb).view.dmaCredit = NQ := by unfold NQ; rfl
theorem am_aQ : (aQ).view.dmaCredit = NQ := by unfold NQ; rfl
theorem am_pa (off inb) : (paSlot off inb).view.dmaCredit = NA := by unfold NA; rfl
theorem am_ab (off inb) : (abSlot off inb).view.dmaCredit = NA := by unfold NA; rfl
theorem am_mb (off inb) : (mbSlot off inb).view.dmaCredit = NM := by unfold NM; rfl
theorem am_pm (off inb) : (pmSlot off inb).view.dmaCredit = NM := by unfold NM; rfl

end Cert.KernelIdeal.Attn

end
-- ==== Proof.Ops.lean ====
/-
  The kernel's transfers and waits, one rule each, over the offsets that the program computes.
-/
module

public import proofs.«01_k».proof.Proof.Sites

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

section Ops
variable (A : Ins F) (κ : GSem nD τ sig → ℕ) {𝒱 : Variants} (c : Dev nD)

/-- A wait on a cell of the protocol for its one transfer. -/
theorem wait_cell (n : DmaSem sig) (hn : 5 ≤ n.val ∧ n.val < 53) (hv : valid c.val n.val) {sem : DmaSem sig} (hsem : sem = n)
    {N : ℕ} (hN : amt n.val = N)
    {κ' : Kind} {sp sp' : Space} {s s' : Shape} {e e' : EltTy} {srcw : Memref sig .tc sp' s' e'} {dstw : Memref sig κ' sp s e}
    {hsrc : srcw.view.WordExact} {hdst : dstw.view.WordExact} (hc : dstw.view.dmaCredit = N)
    {O : CellTallies nD τ sig Unit} (hO : Above (lvN n.val) O) :
    iprop(Know A κ ∗ crd c n N ∗ owe c O ∗ at_ c n 0)
      ⊢ WP 𝒱 c (Prog.lift (.waitDma2 sem srcw dstw hsrc hdst)) fun _ => iprop(owe c O ∗ at_ c n 1 ∗ pay A c n.val) := by
  subst hsem
  iintro ⟨#HK, Hcr, ⟨%W, HO⟩, Hat⟩
  ihave #⟨Hinv, Hr⟩ := Know_cell A κ c sem hn $$ HK
  ihave #Hlev := Know_lev A κ $$ HK
  iapply (wp_wait_rest_token 𝒱 ER (Rd A) (c : Thread nD τ) none (Es := Set.univ) (κ := κ (cl c sem)) (k' := dstw.view.dmaCredit)
      (wpE_waitDma2_eq 𝒱 (c : Thread nD τ) none Set.univ) (Set.mem_univ _) () (O := O) (W := W) (R := 0) (m := 0) (T := ∅)
      (by rw [expect_of A c sem hv, hN, hc, zero_add])) $$ [Hcr HO Hat]
  · isplitr; · iexact Hinv
    isplitl [Hcr]; · rw [hc]; iexact Hcr
    isplitl [HO]; · iexact HO
    isplitr; · iapply mayWait_of c sem hO $$ Hlev
    iexact Hat
  iintro ⟨HO, Hat, -, Hpay⟩
  iapply run_ret
  isplitl [HO]; · iexists (insert (SemLoc.dma sem, ()) W); iexact HO
  isplitl [Hat]; · iexact Hat
  rw [← rest_of A c sem hv]
  iexact Hpay

/-- A transfer to device `t` of elements owned here into elements owned there. -/
theorem send_cell (t : Dev nD) (nS nR : DmaSem sig) (hnS : 5 ≤ nS.val ∧ nS.val < 53) (hnR : 5 ≤ nR.val ∧ nR.val < 53)
    (hvS : valid c.val nS.val) (hvR : valid t.val nR.val) (t' : Dev nD) (ht : t' = t)
    {sS sR : DmaSem sig} (hS : sS = nS) (hR : sR = nR) {N : ℕ} (hNS : amt nS.val = N) (hNR : amt nR.val = N)
    {sp sp' : Space} {s : Shape} {e : EltTy} {src : Memref sig .tc sp s e} {dst : Memref sig .tc sp' s e} {hsc : dst.view.ref.isScScratch = false}
    {hsrc : src.view.WordExact} {hdst : dst.view.WordExact}
    {hsem : DmaTarget.Typed (nD := nD) (τ := τ) sp (.dma sR) (.remote (Dev.tc t') dst (.dma sS) hsc)}
    (hc : dst.view.dmaCredit = N) {q : PosShare TreeShare}
    {fs : Buf (Elt F) (src.view.loc (c : Thread nD τ))} {fd : Buf (Elt F) (dst.view.loc (t : Thread nD τ))} {X : sProp 𝕄}
    (O : CellTallies nD τ sig Unit)
    (hpay₁ : (src.view.loc (c : Thread nD τ) ↦[src.view.set]{q} fs) ⊢ pay A c nS.val)
    (hpay₂ : iprop((dst.view.loc (t : Thread nD τ) ↦[dst.view.set]{fullShare} (dst.view.write (Elt F) fd (src.view.read (Elt F) fs) Finset.univ)) ∗ X)
      ⊢ pay A t nR.val) :
    iprop(Know A κ ∗ (src.view.loc (c : Thread nD τ) ↦[src.view.set]{q} fs) ∗ ((dst.view.loc (t : Thread nD τ) ↦[dst.view.set]{fullShare} fd) ∗ X)
        ∗ owe c (O + tallyAt (cl t nR) () N) ∗ tok c nS ∗ tok t nR)
      ⊢ WP 𝒱 c (Prog.lift (.enqueueDma src (.remote (Dev.tc t') dst (.dma sS) hsc) (.dma sR) hsrc hdst hsem))
          fun _ => iprop(owe c O ∗ crd c nS N) := by
  subst hS hR ht
  iintro ⟨#HK, Hsrc, Hdst, ⟨%W, HO⟩, Ht1, Ht2⟩
  ihave #⟨Hi1, Hr1⟩ := Know_cell A κ c sS hnS $$ HK
  ihave #⟨Hi2, Hr2⟩ := Know_cell A κ t' sR hnR $$ HK
  iapply (wp_send_pointsTo_with 𝒱 ER (Rd A) (c : Thread nD τ) none (c' := (t' : Thread nD τ)) (Es := Set.univ) (r₁ := 0) (r₂ := 0) (d₁ := ()) (d₂ := ())
      (κ₁ := κ (cl c sS)) (κ₂ := κ (cl t' sR)) (sS := .dma sS) (sem := .dma sR) (F := X) (q := q) (fs := fs) (fd := fd)
      (by rw [duties_of A c sS hvS]; exact Finset.mem_singleton_self _) (by rw [duties_of A t' sR hvR]; exact Finset.mem_singleton_self _)
      () () N (show dst.view.amount (.dma sR) = N from hc) hNS hNR O rfl (W := W) hpay₁ hpay₂) $$ [Hsrc Hdst HO Ht1 Ht2]
  · isplitr; · iexact Hi1
    isplitr; · iexact Hi2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply run_ret
  isplitl [HO]; · iexists W; iexact HO
  iexact Hc

/-- A copy within the device, issued and waited for. -/
theorem copy_start {sp sp' : Space} {s : Shape} {e : EltTy} {src : Memref sig .tc sp s e} {dst : Memref sig .tc sp' s e}
    {hsrc : src.view.WordExact} {hdst : dst.view.WordExact} {sm : SemLoc sig}
    {hsem : DmaTarget.Typed (nD := nD) (τ := τ) sp sm (.here (p := .tc) dst)}
    {N : ℕ} (hN : dst.view.amount sm = N) (hN0 : 0 < N) {q : PosShare TreeShare} {fs : Buf (Elt F) (src.view.loc (c : Thread nD τ))}
    {Sd : Finset (Idx (dst.view.loc (c : Thread nD τ)))} (hSd : dst.view.set ⊆ Sd) {fd : Buf (Elt F) (dst.view.loc (c : Thread nD τ))} :
    iprop((src.view.loc (c : Thread nD τ) ↦[src.view.set]{q} fs) ∗ (dst.view.loc (c : Thread nD τ) ↦[Sd]{fullShare} fd) ∗ semVal (c, sm) 0)
      ⊢ WP 𝒱 c (Prog.lift (.enqueueDma src (.here dst) sm hsrc hdst hsem)) fun _ =>
          Flight EC (c : Thread nD τ) sm () N iprop((dst.view.loc (c : Thread nD τ) ↦[Sd]{fullShare} (dst.view.write (Elt F) fd (src.view.read (Elt F) fs) Finset.univ))
                                    ∗ (src.view.loc (c : Thread nD τ) ↦[src.view.set]{q} fs)) := by
  iintro H
  iapply (wp_dmaLocal EC 𝒱 (c : Thread nD τ) none () N hN hN0 hSd) $$ H
  iintro H
  iapply run_ret
  iexact H

theorem copy_wait {κ' : Kind} {sp sp' : Space} {s s' : Shape} {e e' : EltTy} {srcw : Memref sig .tc sp' s' e'} {dstw : Memref sig κ' sp s e}
    {hsrc : srcw.view.WordExact} {hdst : dstw.view.WordExact} {sem : DmaSem sig} {N : ℕ} (hN : dstw.view.dmaCredit = N) {D : sProp 𝕄}
    {O : CellTallies nD τ sig Unit} (hO : Above (lvN sem.val) O) :
    iprop(Know A κ ∗ Flight EC (c : Thread nD τ) (.dma sem) () N D ∗ owe c O)
      ⊢ WP 𝒱 c (Prog.lift (.waitDma2 sem srcw dstw hsrc hdst)) fun _ => iprop(owe c O ∗ D ∗ semVal (c, SemLoc.dma sem) 0) := by
  iintro ⟨#HK, HF, ⟨%W, HO⟩⟩
  ihave #Hlev := Know_lev A κ $$ HK
  iapply (wp_waitLocalO EC 𝒱 (c : Thread nD τ) none () hN (O := O) (W := W)) $$ [HF HO]
  · isplitl [HF]; · iexact HF
    isplitl [HO]; · iexact HO
    iapply mayWait_of c sem hO $$ Hlev
  iintro ⟨HD, Hv, HO⟩
  iapply run_ret
  isplitl [HO]; · iexists (insert (SemLoc.dma sem, ()) W); iexact HO
  isplitl [HD] <;> iassumption

/-- A load. -/
theorem load_op {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) :
    (m.view.loc (c : Thread nD τ) ↦[S]{q} f) ⊢ WP 𝒱 c (Prog.lift (.load m r hl)) fun v =>
      iprop(⌜v = m.view.readAt (Elt F) r f⌝ ∗ (m.view.loc (c : Thread nD τ) ↦[S]{q} f)) := by
  iintro H
  iapply (wp_load 𝒱 (c : Thread nD τ) none Set.univ hS) $$ H
  iintro H
  iapply run_ret
  isplitr; · ipureintro; rfl
  iexact H

/-- A store. -/
theorem store_op {cs : CoreSpace} {s : Shape} {e : EltTy} {m : Memref sig .tc cs s e} {r : Rect s} {w : r.shape.Idx → Elt F e}
    {hx : (m.access r).Stores Finset.univ} {hm : Finset.univ = (Finset.univ : Finset r.shape.Idx) ∨ ∀ a, r.stride a = 1}
    {S : Finset (Idx ((m.access r).loc (c : Thread nD τ)))} {f : Buf (Elt F) ((m.access r).loc (c : Thread nD τ))}
    (hS : (m.access r).setOn Finset.univ ⊆ S) :
    ((m.access r).loc (c : Thread nD τ) ↦[S]{fullShare} f) ⊢ WP 𝒱 c (Prog.lift (.store m r w Finset.univ hx hm)) fun _ =>
      ((m.access r).loc (c : Thread nD τ) ↦[S]{fullShare} ((m.access r).write (Elt F) f w Finset.univ)) := by
  iintro H
  iapply (wp_store 𝒱 (c : Thread nD τ) none Set.univ hS) $$ H
  iintro H
  iapply run_ret
  iexact H

end Ops

end Cert.KernelIdeal.Attn

end
-- ==== Proof.Peers.lean ====
/-
  What a device holds for each of its peers, by how far the exchange with that peer has come, and the
  rules for the body's sends and waits on it.
-/
module

public import proofs.«01_k».proof.Proof.Ops

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-! ## Per peer -/

/-- Towards a device `t < c`: the queries not sent, sent, and read out. -/
def SQ (t : Dev nD) (n : ℕ) : sProp 𝕄 :=
  if n = 0 then iprop(tok c (qsN t) ∗ tok t (qrN c) ∗ ptsAny t main_v1_1 (qbS c) ∗ ptsAny c main_v1_2 (paS t)
      ∗ ptsAny c cc0_scratch4 (pmS t) ∗ qTok A c t ∗ at_ c (qsN t) 0)
  else if n ≤ 3 then iprop(crd c (qsN t) NQ ∗ at_ c (qsN t) 0)
  else iprop(qTok A c t ∗ at_ c (qsN t) 1)
/-- The maxima and sums from `t`, awaited and received. -/
def RM (t : Dev nD) (n : ℕ) : sProp 𝕄 :=
  if n ≤ 1 then iprop(crd c (prN t 1) NM ∗ at_ c (prN t 1) 0)
  else iprop(at_ c (prN t 1) 1 ∗ pts c cc0_scratch4 (pmS t) fullShare (pmAll A c))
/-- The accumulator from `t`. -/
def RA (t : Dev nD) (n : ℕ) : sProp 𝕄 :=
  if n ≤ 2 then iprop(crd c (prN t 0) NA ∗ at_ c (prN t 0) 0)
  else iprop(at_ c (prN t 0) 1 ∗ pts c main_v1_2 (paS t) fullShare (paAll A c))
def idleE (t : Dev nD) : sProp 𝕄 := iprop(at_ c (qrN t) 0 ∗ at_ c (psN t 0) 0 ∗ at_ c (psN t 1) 0)
/-- Towards a device `t > c`: its queries, awaited and received. -/
def RQ (t : Dev nD) (n : ℕ) : sProp 𝕄 :=
  if n = 0 then iprop(crd c (qrN t) NQ ∗ at_ c (qrN t) 0) else at_ c (qrN t) 1
/-- The partial result for `t`: not sent, sent, read out. -/
def SP (t : Dev nD) (b : Fin 2) (n : ℕ) : sProp 𝕄 :=
  if n = 0 then iprop(tok c (psN t b) ∗ tok t (prN c b) ∗ at_ c (psN t b) 0)
  else if n = 1 then iprop(crd c (psN t b) (Nb b) ∗ at_ c (psN t b) 0) else at_ c (psN t b) 1
def idleB (t : Dev nD) : sProp 𝕄 := iprop(at_ c (qsN t) 0 ∗ at_ c (prN t 0) 0 ∗ at_ c (prN t 1) 0 ∗ qTok A c t)

def PR (t : Dev nD) (n : ℕ) : sProp 𝕄 :=
  if t.val < c.val then iprop(SQ A c t n ∗ RM A c t n ∗ RA A c t n ∗ idleE c t)
  else if c.val < t.val then iprop(RQ c t n ∗ SP c t 0 n ∗ SP c t 1 n ∗ idleB A c t)
  else iprop(idleE c t ∗ idleB A c t)

theorem PR_lt {t : Dev nD} (h : t.val < c.val) (n : ℕ) :
    PR A c t n = iprop(SQ A c t n ∗ RM A c t n ∗ RA A c t n ∗ idleE c t) := if_pos h
theorem PR_gt {t : Dev nD} (h : c.val < t.val) (n : ℕ) :
    PR A c t n = iprop(RQ c t n ∗ SP c t 0 n ∗ SP c t 1 n ∗ idleB A c t) := by
  unfold PR; rw [if_neg (by omega), if_pos h]

theorem SQ_mid (t : Dev nD) {n m : ℕ} (h : 1 ≤ n ∧ n ≤ 3) (h' : 1 ≤ m ∧ m ≤ 3) : SQ A c t n ⊢ SQ A c t m := by
  unfold SQ; rw [if_neg (by omega), if_pos (by omega), if_neg (by omega), if_pos (by omega)]
theorem RM_lo (t : Dev nD) {n m : ℕ} (h : n ≤ 1) (h' : m ≤ 1) : RM A c t n ⊢ RM A c t m := by
  unfold RM; rw [if_pos h, if_pos h']
theorem RM_hi (t : Dev nD) {n m : ℕ} (h : 2 ≤ n) (h' : 2 ≤ m) : RM A c t n ⊢ RM A c t m := by
  unfold RM; rw [if_neg (by omega), if_neg (by omega)]
theorem RA_lo (t : Dev nD) {n m : ℕ} (h : n ≤ 2) (h' : m ≤ 2) : RA A c t n ⊢ RA A c t m := by
  unfold RA; rw [if_pos h, if_pos h']
theorem RA_hi (t : Dev nD) {n m : ℕ} (h : 3 ≤ n) (h' : 3 ≤ m) : RA A c t n ⊢ RA A c t m := by
  unfold RA; rw [if_neg (by omega), if_neg (by omega)]
theorem RQ_hi (t : Dev nD) {n m : ℕ} (h : 1 ≤ n) (h' : 1 ≤ m) : (RQ c t n : sProp 𝕄) ⊢ RQ c t m := by
  unfold RQ; rw [if_neg (by omega), if_neg (by omega)]

/-- All peers, each at a stage. -/
def Stg (f : Dev nD → ℕ) : sProp 𝕄 := bigSep Finset.univ fun t => PR A c t (f t)

theorem Stg_step {f g : Dev nD → ℕ} (t : Dev nD) (h : ∀ j, j ≠ t → f j = g j) :
    Stg A c f ⊢ iprop(PR A c t (f t) ∗ (PR A c t (g t) -∗ Stg A c g)) :=
  bigSep_change (Φ := fun j => PR A c j (f j)) (Ψ := fun j => PR A c j (g j)) t fun j hj => by rw [h j hj]

/-- The stage of peer `t` when the queries are out to the devices at distance at most `k₁`, the partial
    results to those at distance at most `k₂`, the maxima and sums received from those at distance at most
    `k₃`, the accumulators from those at distance at most `k₄`, the queries read out towards those at
    distance at most `k₅`, and the transfers to the last `k₆` devices waited for. -/
def stg (c t k₁ k₂ k₃ k₄ k₅ k₆ : ℕ) : ℕ :=
  if t < c then if c ≤ t + k₅ then 4 else if c ≤ t + k₄ then 3 else if c ≤ t + k₃ then 2 else if c ≤ t + k₁ then 1 else 0
  else if t = c ∨ c + k₂ < t then 0 else if (t + 2 ≤ c + k₂ ∧ t ≤ 5) ∨ 8 ≤ t + k₆ then 2 else 1

/-- All peers, at the stages of `stg`. -/
def S6 (k₁ k₂ k₃ k₄ k₅ k₆ : ℕ) : sProp 𝕄 := Stg A c fun t => stg c.val t.val k₁ k₂ k₃ k₄ k₅ k₆

theorem S6_congr {k₁ k₂ k₃ k₄ k₅ k₆ l₁ l₂ l₃ l₄ l₅ l₆ : ℕ}
    (h : ∀ t : Dev nD, stg c.val t.val k₁ k₂ k₃ k₄ k₅ k₆ = stg c.val t.val l₁ l₂ l₃ l₄ l₅ l₆) :
    S6 A c k₁ k₂ k₃ k₄ k₅ k₆ = S6 A c l₁ l₂ l₃ l₄ l₅ l₆ := by
  unfold S6; congr 1; funext t; exact h t

theorem S6_step {k₁ k₂ k₃ k₄ k₅ k₆ l₁ l₂ l₃ l₄ l₅ l₆ n m : ℕ} (t : Dev nD)
    (h : ∀ j : Dev nD, j ≠ t → stg c.val j.val k₁ k₂ k₃ k₄ k₅ k₆ = stg c.val j.val l₁ l₂ l₃ l₄ l₅ l₆)
    (hn : stg c.val t.val k₁ k₂ k₃ k₄ k₅ k₆ = n) (hm : stg c.val t.val l₁ l₂ l₃ l₄ l₅ l₆ = m) :
    S6 A c k₁ k₂ k₃ k₄ k₅ k₆ ⊢ iprop(PR A c t n ∗ (PR A c t m -∗ S6 A c l₁ l₂ l₃ l₄ l₅ l₆)) := by
  subst hn hm
  exact Stg_step A c (f := fun t => stg c.val t.val k₁ k₂ k₃ k₄ k₅ k₆) (g := fun t => stg c.val t.val l₁ l₂ l₃ l₄ l₅ l₆) t h

/-- The same for a peer `t < c`, -/
theorem S6_lt {k₁ k₂ k₃ k₄ k₅ k₆ l₁ l₂ l₃ l₄ l₅ l₆ n m : ℕ} (t : Dev nD) (ht : t.val < c.val)
    (h : ∀ j : Dev nD, j ≠ t → stg c.val j.val k₁ k₂ k₃ k₄ k₅ k₆ = stg c.val j.val l₁ l₂ l₃ l₄ l₅ l₆)
    (hn : stg c.val t.val k₁ k₂ k₃ k₄ k₅ k₆ = n) (hm : stg c.val t.val l₁ l₂ l₃ l₄ l₅ l₆ = m) :
    S6 A c k₁ k₂ k₃ k₄ k₅ k₆ ⊢ iprop((SQ A c t n ∗ RM A c t n ∗ RA A c t n ∗ idleE c t)
      ∗ ((SQ A c t m ∗ RM A c t m ∗ RA A c t m ∗ idleE c t) -∗ S6 A c l₁ l₂ l₃ l₄ l₅ l₆)) := by
  rw [← PR_lt A c ht, ← PR_lt A c ht]
  exact S6_step A c t h hn hm
/-- and for a peer `t > c`. -/
theorem S6_gt {k₁ k₂ k₃ k₄ k₅ k₆ l₁ l₂ l₃ l₄ l₅ l₆ n m : ℕ} (t : Dev nD) (ht : c.val < t.val)
    (h : ∀ j : Dev nD, j ≠ t → stg c.val j.val k₁ k₂ k₃ k₄ k₅ k₆ = stg c.val j.val l₁ l₂ l₃ l₄ l₅ l₆)
    (hn : stg c.val t.val k₁ k₂ k₃ k₄ k₅ k₆ = n) (hm : stg c.val t.val l₁ l₂ l₃ l₄ l₅ l₆ = m) :
    S6 A c k₁ k₂ k₃ k₄ k₅ k₆ ⊢ iprop((RQ c t n ∗ SP c t 0 n ∗ SP c t 1 n ∗ idleB A c t)
      ∗ ((RQ c t m ∗ SP c t 0 m ∗ SP c t 1 m ∗ idleB A c t) -∗ S6 A c l₁ l₂ l₃ l₄ l₅ l₆)) := by
  rw [← PR_gt A c ht, ← PR_gt A c ht]
  exact S6_step A c t h hn hm
/-- Two peers `t, u > c` at once. -/
theorem S6_gt2 {k₁ k₂ k₃ k₄ k₅ k₆ l₁ l₂ l₃ l₄ l₅ l₆ n m n' m' : ℕ} (t u : Dev nD) (ht : c.val < t.val) (hu : c.val < u.val) (htu : u ≠ t)
    (h : ∀ j : Dev nD, j ≠ t → j ≠ u → stg c.val j.val k₁ k₂ k₃ k₄ k₅ k₆ = stg c.val j.val l₁ l₂ l₃ l₄ l₅ l₆)
    (hn : stg c.val t.val k₁ k₂ k₃ k₄ k₅ k₆ = n) (hm : stg c.val t.val l₁ l₂ l₃ l₄ l₅ l₆ = m)
    (hn' : stg c.val u.val k₁ k₂ k₃ k₄ k₅ k₆ = n') (hm' : stg c.val u.val l₁ l₂ l₃ l₄ l₅ l₆ = m') :
    S6 A c k₁ k₂ k₃ k₄ k₅ k₆ ⊢ iprop((RQ c t n ∗ SP c t 0 n ∗ SP c t 1 n ∗ idleB A c t) ∗ (RQ c u n' ∗ SP c u 0 n' ∗ SP c u 1 n' ∗ idleB A c u)
      ∗ ((RQ c t m ∗ SP c t 0 m ∗ SP c t 1 m ∗ idleB A c t) -∗ (RQ c u m' ∗ SP c u 0 m' ∗ SP c u 1 m' ∗ idleB A c u) -∗ S6 A c l₁ l₂ l₃ l₄ l₅ l₆)) := by
  rw [← PR_gt A c ht, ← PR_gt A c ht, ← PR_gt A c hu, ← PR_gt A c hu]
  subst hn hm hn' hm'
  have hu' : u ∈ Finset.univ.erase t := Finset.mem_erase.mpr ⟨htu, Finset.mem_univ u⟩
  unfold S6 Stg
  rw [bigSep_split (Finset.mem_univ t), bigSep_split (Finset.mem_univ t), bigSep_split hu', bigSep_split hu',
    show bigSep ((Finset.univ.erase t).erase u) (fun j : Dev nD => PR A c j (stg c.val j.val k₁ k₂ k₃ k₄ k₅ k₆))
      = bigSep ((Finset.univ.erase t).erase u) (fun j : Dev nD => PR A c j (stg c.val j.val l₁ l₂ l₃ l₄ l₅ l₆)) from
      bigSep_congr fun j hj => by
        rw [h j (Finset.ne_of_mem_erase (Finset.mem_of_mem_erase hj)) (Finset.ne_of_mem_erase hj)]]
  iintro ⟨H1, H2, HR⟩
  isplitl [H1]; · iexact H1
  isplitl [H2]; · iexact H2
  iintro H1 H2
  isplitl [H1]; · iexact H1
  isplitl [H2] <;> iassumption

/-! ## Sending the queries -/

theorem send_q (t : Dev nD) (h : t.val < c.val) {offS offR : Fin 1 → ℕ} {off : Fin 4 → ℕ} {dev : Dev nD}
    (hS : offS = ![t.val]) (hR : offR = ![c.val]) (ho : off = ![c.val, 0, 0, 0]) (hd : dev = t)
    {iS iR io} {h4 h1 h2 h3} (O : CellTallies nD τ sig Unit) :
    iprop(Know A κ ∗ SQ A c t 0 ∗ owe c (O + tallyAt (cl t (qrN c)) () NQ))
      ⊢ WP 𝒱 c (Prog.lift (.enqueueDma aQ (.remote (Dev.tc dev) (qbSlot off io) (.dma (sem1 cc0_scratch9 offS iS)) h4)
          (.dma (sem1 cc0_scratch10 offR iR)) h1 h2 h3)) fun _ => iprop(owe c O ∗ SQ A c t 1) := by
  subst hS hR ho
  unfold SQ
  rw [if_pos rfl, if_neg (by omega), if_pos (by omega)]
  iintro ⟨#HK, ⟨T1, T2, ⟨%fd, Hq⟩, Hpa, Hpm, HQ, Hat⟩, HO⟩
  iapply (run_last (send_cell A κ c (𝒱 := 𝒱) t (qsN t) (qrN c) (in_qs t) (in_qr c) ((valid_qs c t).mpr h) ((valid_qr t c).mpr h) dev hd
      (sem_qs t iS) (sem_qr c iR) (amt_qs t) (amt_qr c) (src := aQ) (dst := qbSlot ![c.val, 0, 0, 0] io)
      (hsc := h4) (hsrc := h1) (hdst := h2) (hsem := h3)
      (am_qb _ _) (q := shareTok fullShare 8 t) (fs := A.q c) (fd := fd)
      (X := iprop(ptsAny c main_v1_2 (paS t) ∗ ptsAny c cc0_scratch4 (pmS t))) O ?_ ?_)) $$ [T1 T2 Hq Hpa Hpm HQ HO]
  rotate_left 2
  · isplitr; · iexact HK
    isplitl [HQ]; · rw [View.set_whole]; iexact HQ
    isplitl [Hq Hpa Hpm]
    · isplitl [Hq]
      · rw [qb_set c]; iexact Hq
      · isplitl [Hpa] <;> iassumption
    isplitl [HO]; · iexact HO
    isplitl [T1] <;> iassumption
  · iintro %_ ⟨HO, Hc⟩
    isplitl [HO]; · iexact HO
    isplitl [Hc] <;> iassumption
  · rw [pay_qs, View.set_whole]; exact .rfl
  · rw [pay_qr]
    refine sep_mono_left (BIBase.Entails.of_eq ?_)
    exact write_pts (t : Thread nD τ) (qbSlot ![c.val, 0, 0, 0] io).view (qb_set c io) fd (qbAll A) _ fun x => by
      rw [qb_emb c io x]; rfl

/-! ## The partial results -/

/-- The transfer cells of a local copy. -/
abbrev cp0 : sProp 𝕄 := semVal ((c : Thread nD τ), SemLoc.dma cpN) 0
theorem Nb0 : Nb 0 = NA := if_pos rfl
theorem Nb1 : Nb 1 = NM := if_neg (by decide)
theorem lv_cp : lvN cpN.val = 0 := by decide

theorem wait_q (t : Dev nD) (h : c.val < t.val) {offR : Fin 1 → ℕ} {off : Fin 4 → ℕ} (hR : offR = ![t.val]) {iR io} {h1 h2}
    {O : CellTallies nD τ sig Unit} (hO : Above 1 O) :
    iprop(Know A κ ∗ RQ c t 0 ∗ owe c O)
      ⊢ WP 𝒱 c (Prog.lift (.waitDma2 (sem1 cc0_scratch10 offR iR) aQ (qbSlot off io) h1 h2)) fun _ =>
          iprop(owe c O ∗ RQ c t 1 ∗ pts c main_v1_1 (qbS t) fullShare (qbAll A) ∗ ptsAny t main_v1_2 (paS c) ∗ ptsAny t cc0_scratch4 (pmS c)) := by
  subst hR
  unfold RQ
  rw [if_pos rfl, if_neg (by omega)]
  iintro ⟨#HK, ⟨Hc, Hat⟩, HO⟩
  iapply (run_last (wait_cell A κ c (𝒱 := 𝒱) (qrN t) (in_qr t) ((valid_qr c t).mpr h) (sem_qr t iR) (amt_qr t) (am_qb _ _)
    (O := O) (by rw [lv_qr]; exact hO))) $$ [Hc Hat HO]
  · isplitr; · iexact HK
    isplitl [Hc]; · iexact Hc
    isplitl [HO] <;> iassumption
  rw [pay_qr]
  unfold qrPay
  iintro %_ ⟨HO, Hat, H⟩
  isplitl [HO]; · iexact HO
  isplitl [Hat] <;> iassumption

/-- The copy of the received queries into the working buffer, under way. -/
def Fq (t : Dev nD) : sProp 𝕄 :=
  Flight EC (c : Thread nD τ) (.dma cpN) () NQ iprop(pts c cc0_scratch0 Finset.univ fullShare (A.q t) ∗ pts c main_v1_1 (qbS t) fullShare (qbAll A))

theorem copy_q (t : Dev nD) {off : Fin 4 → ℕ} (ho : off = ![t.val, 0, 0, 0]) {io} {h1 h2 h3} :
    iprop(pts c main_v1_1 (qbS t) fullShare (qbAll A) ∗ ptsAny c cc0_scratch0 Finset.univ ∗ cp0 c)
      ⊢ WP 𝒱 c (Prog.lift (.enqueueDma (qbSlot off io) (.here aQS) (.dma cc0_scratch13.sem) h1 h2 h3)) fun _ => Fq A c t := by
  subst ho
  iintro ⟨Hq, ⟨%fd, Hd⟩, Hv⟩
  iapply (run_last (copy_start c (𝒱 := 𝒱) (src := qbSlot ![t.val, 0, 0, 0] io) (dst := aQS) (hsrc := h1) (hdst := h2) (sm := .dma cc0_scratch13.sem) (hsem := h3)
    (N := NQ) (by unfold NQ; rfl) NQ_pos (q := fullShare) (fs := qbAll A) (Sd := Finset.univ) (Finset.subset_univ _) (fd := fd))) $$ [Hq Hd Hv]
  · rw [qb_set t, sem_cp]
    isplitl [Hq]; · iexact Hq
    isplitl [Hd] <;> iassumption
  iintro %_ H
  unfold Fq
  rw [sem_cp, qb_set t io, show (aQS.view.write (Elt F) fd ((qbSlot ![t.val, 0, 0, 0] io).view.read (Elt F) (qbAll A)) Finset.univ) = A.q t from
    funext fun i => (View.write_emb_of_mem (v := aQS.view) fd _ (Finset.mem_univ i)).trans (by
      show qbAll A ((qbSlot ![t.val, 0, 0, 0] io).view.emb i) = _
      rw [qb_emb t io i]; rfl)]
  iexact H

theorem wait_copy_q (t : Dev nD) {off : Fin 4 → ℕ} {io} {h1 h2} {O : CellTallies nD τ sig Unit} (hO : Above 0 O) :
    iprop(Know A κ ∗ Fq A c t ∗ owe c O)
      ⊢ WP 𝒱 c (Prog.lift (.waitDma2 cc0_scratch13.sem (qbSlot off io) aQS h1 h2)) fun _ =>
          iprop(owe c O ∗ pts c cc0_scratch0 Finset.univ fullShare (A.q t) ∗ pts c main_v1_1 (qbS t) fullShare (qbAll A) ∗ cp0 c) := by
  iintro ⟨#HK, HF, HO⟩
  unfold Fq
  iapply (run_last (copy_wait A κ c (𝒱 := 𝒱) (srcw := qbSlot off io) (dstw := aQS) (hsrc := h1) (hdst := h2) (sem := cc0_scratch13.sem) (N := NQ) (by unfold NQ; rfl)
    (O := O) (by rw [sem_cp, lv_cp]; exact hO))) $$ [HF HO]
  · isplitr; · iexact HK
    rw [sem_cp]
    isplitl [HF] <;> iassumption
  rw [sem_cp]
  iintro %_ ⟨HO, ⟨Ha, Hb⟩, Hv⟩
  isplitl [HO]; · iexact HO
  isplitl [Ha]; · iexact Ha
  isplitl [Hb] <;> iassumption

/-- A wait for a partial result to be read out. -/
theorem wait_ps (t : Dev nD) (h : c.val < t.val) (b : Fin 2) {off : Fin 2 → ℕ} (hS : off = ![t.val, b.val]) {iS}
    {κ' : Kind} {sp sp' : Space} {s s' : Shape} {e e' : EltTy} {srcw : Memref sig .tc sp' s' e'} {dstw : Memref sig κ' sp s e}
    {h1 h2} (hc : dstw.view.dmaCredit = Nb b)
    {O : CellTallies nD τ sig Unit} (hO : Above 0 O) :
    iprop(Know A κ ∗ SP c t b 1 ∗ owe c O)
      ⊢ WP 𝒱 c (Prog.lift (.waitDma2 (sem2 cc0_scratch11 off iS) srcw dstw h1 h2)) fun _ =>
          iprop(owe c O ∗ SP c t b 2 ∗ psPay A c t b) := by
  subst hS
  unfold SP
  rw [if_neg (by omega), if_pos rfl, if_neg (by omega), if_neg (by omega)]
  iintro ⟨#HK, ⟨Hc, Hat⟩, HO⟩
  iapply (run_last (wait_cell A κ c (𝒱 := 𝒱) (psN t b) (in_ps t b) ((valid_ps c t b).mpr h) (sem_ps t b iS) (amt_ps t b) hc
    (O := O) (by rw [lv_ps]; exact hO))) $$ [Hc Hat HO]
  · isplitr; · iexact HK
    isplitl [Hc]; · iexact Hc
    isplitl [HO] <;> iassumption
  rw [pay_ps]
  iintro %_ H
  iexact H

/-- A wait for a partial result to land. -/
theorem wait_pr (t : Dev nD) (h : t.val < c.val) (b : Fin 2) {off : Fin 2 → ℕ} (hS : off = ![t.val, b.val]) {iS}
    {κ' : Kind} {sp sp' : Space} {s s' : Shape} {e e' : EltTy} {srcw : Memref sig .tc sp' s' e'} {dstw : Memref sig κ' sp s e}
    {h1 h2} (hc : dstw.view.dmaCredit = Nb b) :
    iprop(Know A κ ∗ crd c (prN t b) (Nb b) ∗ at_ c (prN t b) 0 ∗ owe c 0)
      ⊢ WP 𝒱 c (Prog.lift (.waitDma2 (sem2 cc0_scratch12 off iS) srcw dstw h1 h2)) fun _ =>
          iprop(owe c 0 ∗ at_ c (prN t b) 1 ∗ prPay A c t b) := by
  subst hS
  iintro ⟨#HK, Hc, Hat, HO⟩
  iapply (run_last (wait_cell A κ c (𝒱 := 𝒱) (prN t b) (in_pr t b) ((valid_pr c t b).mpr h) (sem_pr t b iS) (amt_pr t b) hc
    (O := 0) (above_zero _))) $$ [Hc Hat HO]
  · isplitr; · iexact HK
    isplitl [Hc]; · iexact Hc
    isplitl [HO] <;> iassumption
  rw [pay_pr]
  iintro %_ H
  iexact H

/-- A wait for the queries to be read out. -/
theorem wait_qs (t : Dev nD) (h : t.val < c.val) {off : Fin 1 → ℕ} (hS : off = ![t.val]) {iS}
    {κ' : Kind} {sp sp' : Space} {s s' : Shape} {e e' : EltTy} {srcw : Memref sig .tc sp' s' e'} {dstw : Memref sig κ' sp s e}
    {h1 h2} (hc : dstw.view.dmaCredit = NQ) :
    iprop(Know A κ ∗ SQ A c t 3 ∗ owe c 0)
      ⊢ WP 𝒱 c (Prog.lift (.waitDma2 (sem1 cc0_scratch9 off iS) srcw dstw h1 h2)) fun _ =>
          iprop(owe c 0 ∗ SQ A c t 4) := by
  subst hS
  unfold SQ
  rw [if_neg (by omega), if_pos (by omega), if_neg (by omega), if_neg (by omega)]
  iintro ⟨#HK, ⟨Hc, Hat⟩, HO⟩
  iapply (run_last (wait_cell A κ c (𝒱 := 𝒱) (qsN t) (in_qs t) ((valid_qs c t).mpr h) (sem_qs t iS) (amt_qs t) hc
    (O := 0) (above_zero _))) $$ [Hc Hat HO]
  · isplitr; · iexact HK
    isplitl [Hc]; · iexact Hc
    isplitl [HO] <;> iassumption
  rw [pay_qs]
  unfold qsPay
  iintro %_ ⟨HO, Hat, H⟩
  isplitl [HO]; · iexact HO
  isplitl [H] <;> iassumption

/-- The accumulators of a partial result, sent. -/
theorem send_acc (t : Dev nD) (h : c.val < t.val) (b : Fin 2) (hb : b.val = (t.val - c.val) % 2) {offS offR : Fin 2 → ℕ} {offd : Fin 4 → ℕ} {offs : Fin 4 → ℕ} {dev : Dev nD}
    (hS : offS = ![t.val, 0]) (hR : offR = ![c.val, 0]) (hod : offd = ![c.val, 0, 0, 0]) (hos : offs = ![b.val, 0, 0, 0]) (hd : dev = t)
    {iS iR iod ios} {h4 h1 h2 h3} (O : CellTallies nD τ sig Unit) :
    iprop(Know A κ ∗ SP c t 0 0 ∗ owe c (O + tallyAt (cl t (prN c 0)) () NA) ∗ pts c cc0_scratch2 (abS b.val) fullShare (abT A c t) ∗ ptsAny t main_v1_2 (paS c))
      ⊢ WP 𝒱 c (Prog.lift (.enqueueDma (abSlot offs ios) (.remote (Dev.tc dev) (paSlot offd iod) (.dma (sem2 cc0_scratch11 offS iS)) h4)
          (.dma (sem2 cc0_scratch12 offR iR)) h1 h2 h3)) fun _ => iprop(owe c O ∗ SP c t 0 1) := by
  subst hS hR hod hos
  unfold SP
  rw [if_pos rfl, if_neg (by omega), if_pos (by omega), Nb0]
  iintro ⟨#HK, ⟨T1, T2, Hat⟩, HO, Hs, ⟨%fd, Hdst⟩⟩
  iapply (run_last (send_cell A κ c (𝒱 := 𝒱) t (psN t 0) (prN c 0) (in_ps t 0) (in_pr c 0) ((valid_ps c t 0).mpr h) ((valid_pr t c 0).mpr h) dev hd
      (sem_ps t 0 iS) (sem_pr c 0 iR) ((amt_ps t 0).trans Nb0) ((amt_pr c 0).trans Nb0) (src := abSlot ![b.val, 0, 0, 0] ios) (dst := paSlot ![c.val, 0, 0, 0] iod)
      (hsc := h4) (hsrc := h1) (hdst := h2) (hsem := h3)
      (am_pa _ _) (q := fullShare) (fs := abT A c t) (fd := fd)
      (X := iprop(emp)) O ?_ ?_)) $$ [T1 T2 Hs Hdst HO]
  rotate_left 2
  · isplitr; · iexact HK
    isplitl [Hs]; · rw [ab_set b]; iexact Hs
    isplitl [Hdst]
    · isplitl [Hdst]
      · rw [pa_set c]; iexact Hdst
      · iempintro
    isplitl [HO]; · iexact HO
    isplitl [T1] <;> iassumption
  · iintro %_ ⟨HO, Hc⟩
    isplitl [HO]; · iexact HO
    isplitl [Hc] <;> iassumption
  · rw [pay_ps, ab_set b]; unfold psPay; rw [if_pos rfl, ← hb]
  · rw [pay_pr]; unfold prPay; rw [if_pos rfl]
    refine ((sep_emp (PROP := sProp 𝕄)).1).trans (BIBase.Entails.of_eq ?_)
    exact write_pts (t : Thread nD τ) (paSlot ![c.val, 0, 0, 0] iod).view (pa_set c iod) fd (paAll A t) _ fun x => by
      rw [pa_emb c iod x]
      show abT A c t ((abSlot ![b.val, 0, 0, 0] ios).view.emb x) = _
      rw [ab_emb b ios x]; rfl

/-- The maxima and sums of a partial result, sent. -/
theorem send_ml (t : Dev nD) (h : c.val < t.val) (b : Fin 2) (hb : b.val = (t.val - c.val) % 2) {offS offR : Fin 2 → ℕ} {offd : Fin 5 → ℕ} {offs : Fin 5 → ℕ} {dev : Dev nD}
    (hS : offS = ![t.val, 1]) (hR : offR = ![c.val, 1]) (hod : offd = ![c.val, 0, 0, 0, 0]) (hos : offs = ![b.val, 0, 0, 0, 0]) (hd : dev = t)
    {iS iR iod ios} {h4 h1 h2 h3} (O : CellTallies nD τ sig Unit) :
    iprop(Know A κ ∗ SP c t 1 0 ∗ owe c (O + tallyAt (cl t (prN c 1)) () NM) ∗ pts c cc0_scratch3 (mbS b.val) fullShare (mbT A c t) ∗ ptsAny t cc0_scratch4 (pmS c))
      ⊢ WP 𝒱 c (Prog.lift (.enqueueDma (mbSlot offs ios) (.remote (Dev.tc dev) (pmSlot offd iod) (.dma (sem2 cc0_scratch11 offS iS)) h4)
          (.dma (sem2 cc0_scratch12 offR iR)) h1 h2 h3)) fun _ => iprop(owe c O ∗ SP c t 1 1) := by
  subst hS hR hod hos
  unfold SP
  rw [if_pos rfl, if_neg (by omega), if_pos (by omega), Nb1]
  iintro ⟨#HK, ⟨T1, T2, Hat⟩, HO, Hs, ⟨%fd, Hdst⟩⟩
  iapply (run_last (send_cell A κ c (𝒱 := 𝒱) t (psN t 1) (prN c 1) (in_ps t 1) (in_pr c 1) ((valid_ps c t 1).mpr h) ((valid_pr t c 1).mpr h) dev hd
      (sem_ps t 1 iS) (sem_pr c 1 iR) ((amt_ps t 1).trans Nb1) ((amt_pr c 1).trans Nb1) (src := mbSlot ![b.val, 0, 0, 0, 0] ios) (dst := pmSlot ![c.val, 0, 0, 0, 0] iod)
      (hsc := h4) (hsrc := h1) (hdst := h2) (hsem := h3)
      (am_pm _ _) (q := fullShare) (fs := mbT A c t) (fd := fd)
      (X := iprop(emp)) O ?_ ?_)) $$ [T1 T2 Hs Hdst HO]
  rotate_left 2
  · isplitr; · iexact HK
    isplitl [Hs]; · rw [mb_set b]; iexact Hs
    isplitl [Hdst]
    · isplitl [Hdst]
      · rw [pm_set c]; iexact Hdst
      · iempintro
    isplitl [HO]; · iexact HO
    isplitl [T1] <;> iassumption
  · iintro %_ ⟨HO, Hc⟩
    isplitl [HO]; · iexact HO
    isplitl [Hc] <;> iassumption
  · rw [pay_ps, mb_set b]; unfold psPay; rw [if_neg (by decide), ← hb]
  · rw [pay_pr]; unfold prPay; rw [if_neg (by decide)]
    refine ((sep_emp (PROP := sProp 𝕄)).1).trans (BIBase.Entails.of_eq ?_)
    exact write_pts (t : Thread nD τ) (pmSlot ![c.val, 0, 0, 0, 0] iod).view (pm_set c iod) fd (pmAll A t) _ fun x => by
      rw [pm_emb c iod x]
      show mbT A c t ((mbSlot ![b.val, 0, 0, 0, 0] ios).view.emb x) = _
      rw [mb_emb b ios x]; rfl

end Cert.KernelIdeal.Attn

end
-- ==== Proof.Deal.lean ====
/-
  Dealing the protocol's ghost state at launch, and closing the cells at the end.

  At launch every device's counters are zero.  The cells are opened on all devices at once, so that
  a sender knows a peer's cells before that peer has run.  The rights to the transfers, the slots of
  the queries' buffers and the credits are then dealt to whoever uses them.
-/
module

public import proofs.«01_k».proof.Proof.Peers

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) (c : Dev nD)

/-! ## The cells of a device, peer by peer -/

/-- The six cells of a device towards its peer `t`. -/
def cN (t : Dev nD) : Fin 6 → DmaSem sig := ![qsN t, qrN t, psN t 0, psN t 1, prN t 0, prN t 1]

theorem six (Φ : Fin 6 → sProp 𝕄) :
    bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem cN_inj : Function.Injective fun x : Dev nD × Fin 6 => cN x.1 x.2 := by
  show ∀ x y : Dev nD × Fin 6, cN x.1 x.2 = cN y.1 y.2 → x = y
  decide +kernel
def cE : Dev nD × Fin 6 ↪ DmaSem sig := ⟨_, cN_inj⟩
theorem cellNos_eq : cellNos = Finset.univ.map cE := by decide +kernel
theorem in_cN (t : Dev nD) (k : Fin 6) : 5 ≤ (cN t k).val ∧ (cN t k).val < 53 := by revert t k; decide +kernel

/-- A cell of some device. -/
def gE : Dev nD × DmaSem sig ↪ GSem nD τ sig :=
  ⟨fun x => cl x.1 x.2, fun x y h => by
    have h1 := congrArg (fun g : GSem nD τ sig => g.1.1) h
    have h2 := congrArg (fun g : GSem nD τ sig => g.2) h
    exact Prod.ext h1 (SemLoc.dma.inj h2)⟩
/-- All cells of the protocol, -/
def allCells : Finset (GSem nD τ sig) := (Finset.univ ×ˢ cellNos).map gE
/-- and the right to one transfer on each. -/
def allToks : Finset (GSem nD τ sig × ℕ × Unit) :=
  allCells.map ⟨fun g => (g, 0, ()), fun _ _ h => (Prod.mk.inj h).1⟩

theorem bigSep_allCells (Φ : GSem nD τ sig → sProp 𝕄) :
    bigSep allCells Φ = bigSep Finset.univ fun c : Dev nD => bigSep Finset.univ fun t : Dev nD => bigSep Finset.univ fun k : Fin 6 => Φ (cl c (cN t k)) := by
  unfold allCells
  have h : (Finset.univ ×ˢ cellNos : Finset (Dev nD × DmaSem sig))
      = Finset.univ.map ((Function.Embedding.refl (Dev nD)).prodMap cE) := by
    ext ⟨c, n⟩
    rw [cellNos_eq]
    simp only [Finset.mem_product, Finset.mem_univ, true_and, Finset.mem_map]
    constructor
    · rintro ⟨x, hx⟩; exact ⟨(c, x), Prod.ext rfl hx⟩
    · rintro ⟨x, hx⟩; exact ⟨x.2, congrArg Prod.snd hx⟩
  rw [BI.bigSep_map, h, BI.bigSep_map, BI.bigSep_univ_prod]
  refine bigSep_congr fun c _ => ?_
  rw [BI.bigSep_univ_prod]
  rfl

/-- Two conjunctions over the devices, in the other order. -/
theorem bigSep_swap (Φ : Dev nD → Dev nD → sProp 𝕄) :
    (bigSep Finset.univ fun a => bigSep Finset.univ fun b => Φ a b) = bigSep Finset.univ fun b => bigSep Finset.univ fun a => Φ a b := by
  have h := BI.bigSep_map (s := Finset.univ) (Equiv.prodComm (Dev nD) (Dev nD)).toEmbedding (Φ := fun x => Φ x.1 x.2)
  rw [Finset.map_univ_equiv] at h
  exact (BI.bigSep_univ_prod fun x => Φ x.1 x.2).symm.trans (h.trans (BI.bigSep_univ_prod fun x => Φ x.2 x.1))

/-! ## What a device is dealt towards one peer -/

/-- The positions on the six cells, -/
def AT (t : Dev nD) : sProp 𝕄 := bigSep Finset.univ fun k : Fin 6 => at_ c (cN t k) 0
/-- the rights to the transfers between the two, -/
def TK (t : Dev nD) : sProp 𝕄 :=
  iprop(tok c (qsN t) ∗ tok t (qrN c) ∗ tok c (psN t 0) ∗ tok c (psN t 1) ∗ tok t (prN c 0) ∗ tok t (prN c 1))
/-- the credits of the transfers that the peer owes, -/
def CR (t : Dev nD) : sProp 𝕄 :=
  iprop(cred (if c.val < t.val then tallyAt (cl c (qrN t)) () NQ else 0)
    ∗ cred (if t.val < c.val then tallyAt (cl c (prN t 0)) () NA + tallyAt (cl c (prN t 1)) () NM else 0))
/-- and the slots that the transfers write. -/
def SLt (t : Dev nD) : sProp 𝕄 := iprop(ptsAny t main_v1_1 (qbS c) ∗ ptsAny c main_v1_2 (paS t))
def START (t : Dev nD) : sProp 𝕄 := iprop(AT c t ∗ TK c t ∗ CR c t ∗ SLt c t)

/-- The slot for a peer's maxima and sums, of a peer that sends none. -/
def KP (t : Dev nD) : sProp 𝕄 := if t.val < c.val then iprop(emp) else ptsAny c cc0_scratch4 (pmS t)

theorem PR_start (t : Dev nD) :
    iprop(START c t ∗ qTok A c t ∗ ptsAny c cc0_scratch4 (pmS t)) ⊢ iprop(PR A c t (stg c.val t.val 0 0 0 0 0 0) ∗ KP c t) := by
  unfold START AT TK CR SLt
  rw [six]
  rcases lt_trichotomy t.val c.val with h | h | h
  · rw [show stg c.val t.val 0 0 0 0 0 0 = 0 by
      unfold stg; split_ifs <;> omega, PR_lt A c h]
    unfold KP SQ RM RA idleE
    rw [if_pos h, if_pos h, if_pos rfl, if_pos (by omega : 0 ≤ 1), if_pos (by omega : 0 ≤ 2)]
    have hc := (cred_add (tallyAt (cl c (prN t 0)) () NA) (tallyAt (cl c (prN t 1)) () NM) : _ ⊣⊢ (_ : sProp 𝕄)).1
    iintro ⟨⟨⟨A0, A1, A2, A3, A4, A5⟩, ⟨T0, T1, -⟩, ⟨-, C⟩, Hq, Hp⟩, HQ, Hm⟩
    ihave C := hc $$ C
    icases C with ⟨C0, C1⟩
    isplitl
    · isplitl [T0 T1 Hq Hp Hm HQ A0]
      · isplitl [T0]; · iexact T0
        isplitl [T1]; · iexact T1
        isplitl [Hq]; · iexact Hq
        isplitl [Hp]; · iexact Hp
        isplitl [Hm]; · iexact Hm
        isplitl [HQ]; · iexact HQ
        iexact A0
      isplitl [C1 A5]
      · isplitl [C1]; · iexact C1
        iexact A5
      isplitl [C0 A4]
      · isplitl [C0]; · iexact C0
        iexact A4
      isplitl [A1]; · iexact A1
      isplitl [A2]; · iexact A2
      iexact A3
    · iempintro
  · rw [show stg c.val t.val 0 0 0 0 0 0 = 0 by
      unfold stg; split_ifs <;> omega]
    have n1 : ¬t.val < c.val := by omega
    have n2 : ¬c.val < t.val := by omega
    unfold KP PR idleE idleB
    simp only [if_neg n1, if_neg n2]
    iintro ⟨⟨⟨A0, A1, A2, A3, A4, A5⟩, -, -, -⟩, HQ, Hm⟩
    isplitr [Hm]
    · isplitl [A1 A2 A3]
      · isplitl [A1]; · iexact A1
        isplitl [A2]; · iexact A2
        iexact A3
      isplitl [A0]; · iexact A0
      isplitl [A4]; · iexact A4
      isplitl [A5]; · iexact A5
      iexact HQ
    · iexact Hm
  · rw [show stg c.val t.val 0 0 0 0 0 0 = 0 by
      unfold stg; split_ifs <;> omega, PR_gt A c h]
    have n1 : ¬t.val < c.val := by omega
    unfold KP RQ SP idleB
    simp only [if_pos h, if_neg n1, if_true]
    iintro ⟨⟨⟨A0, A1, A2, A3, A4, A5⟩, ⟨-, -, T2, T3, T4, T5⟩, ⟨C, -⟩, -⟩, HQ, Hm⟩
    isplitr [Hm]
    · isplitl [C A1]
      · isplitl [C]; · iexact C
        iexact A1
      isplitl [T2 T4 A2]
      · isplitl [T2]; · iexact T2
        isplitl [T4]; · iexact T4
        iexact A2
      isplitl [T3 T5 A3]
      · isplitl [T3]; · iexact T3
        isplitl [T5]; · iexact T5
        iexact A3
      isplitl [A0]; · iexact A0
      isplitl [A4]; · iexact A4
      isplitl [A5]; · iexact A5
      iexact HQ
    · iexact Hm

/-! ## Closing the cells -/

theorem close_cell (n : DmaSem sig) (hn : 5 ≤ n.val ∧ n.val < 53) (r : ℕ) (hr : ¬valid c.val n.val ∨ 1 ≤ r) :
    iprop(Know A κ ∗ at_ c n r) ⊢ |={Set.univ}=> semVal (cl c n) 0 := by
  have hk := Know_cell A κ c n hn
  iintro ⟨HK, Ha⟩
  ihave HK := hk $$ HK
  icases HK with ⟨HI, -⟩
  iapply (cell_close ER (Rd A) (g := cl c n) (κ := κ (cl c n)) (Set.mem_univ _) (fun h => nomatch h) (R := r) fun r' h' =>
    hr.elim (fun hv => duties_not A c n hv r') fun h1 => duties_later A _ r' (h1.trans h'))
  isplitl [HI] <;> iassumption

theorem close_six (t : Dev nD) (r : Fin 6 → ℕ) (hr : ∀ k, ¬valid c.val (cN t k).val ∨ 1 ≤ r k) :
    iprop(Know A κ ∗ bigSep Finset.univ fun k : Fin 6 => at_ c (cN t k) (r k))
      ⊢ |={Set.univ}=> bigSep Finset.univ fun k : Fin 6 => semVal (cl c (cN t k)) 0 := by
  refine BIBase.Entails.trans ?_ (bigSep_fupd Finset.univ fun k : Fin 6 => semVal (cl c (cN t k)) 0)
  have h : iprop(Know A κ ∗ bigSep Finset.univ fun k : Fin 6 => at_ c (cN t k) (r k))
      ⊢ bigSep Finset.univ fun k : Fin 6 => iprop(Know A κ ∗ at_ c (cN t k) (r k)) := by
    rw [bigSep_sep']
    iintro ⟨#HK, H⟩
    isplitr
    · iapply (BI.bigSep_intro_persistent (S := Finset.univ) fun (k : Fin 6) _ => (BI.Entails.refl (Know A κ))); iexact HK
    iexact H
  exact h.trans (bigSep_mono fun k _ => close_cell A κ c (cN t k) (in_cN t k) (r k) (hr k))

theorem PR_end (t : Dev nD) :
    iprop(Know A κ ∗ PR A c t (stg c.val t.val 7 7 7 7 7 2) ∗ KP c t)
      ⊢ |={Set.univ}=> iprop((bigSep Finset.univ fun k : Fin 6 => semVal (cl c (cN t k)) 0) ∗ qTok A c t ∗ ptsAny c cc0_scratch4 (pmS t)) := by
  have hc := dev_lt c
  have ht := dev_lt t
  have vals : ∀ r : Fin 6 → ℕ, (bigSep Finset.univ fun k : Fin 6 => (at_ c (cN t k) (r k) : sProp 𝕄))
      = iprop(at_ c (qsN t) (r 0) ∗ at_ c (qrN t) (r 1) ∗ at_ c (psN t 0) (r 2) ∗ at_ c (psN t 1) (r 3) ∗ at_ c (prN t 0) (r 4) ∗ at_ c (prN t 1) (r 5)) :=
    fun r => six _
  rcases lt_trichotomy t.val c.val with h | h | h
  · have H := close_six A κ c t ![1, 0, 0, 0, 1, 1] (by
      intro k
      match k with
      | 0 => exact .inr le_rfl
      | 1 => exact .inl fun hv => absurd ((valid_qr c t).mp hv) (by omega)
      | 2 => exact .inl fun hv => absurd ((valid_ps c t 0).mp hv) (by omega)
      | 3 => exact .inl fun hv => absurd ((valid_ps c t 1).mp hv) (by omega)
      | 4 => exact .inr le_rfl
      | 5 => exact .inr le_rfl)
    rw [vals] at H
    rw [show stg c.val t.val 7 7 7 7 7 2 = 4 by unfold stg; split_ifs <;> omega, PR_lt A c h]
    unfold KP SQ RM RA idleE
    rw [if_pos h, if_neg (by omega), if_neg (by omega), if_neg (by omega), if_neg (by omega)]
    iintro ⟨HK, ⟨⟨HQ, A0⟩, ⟨A5, Hm⟩, ⟨A4, -⟩, A1, A2, A3⟩, -⟩
    imod H $$ [HK A0 A1 A2 A3 A4 A5] with H
    · isplitl [HK]; · iexact HK
      isplitl [A0]; · iexact A0
      isplitl [A1]; · iexact A1
      isplitl [A2]; · iexact A2
      isplitl [A3]; · iexact A3
      isplitl [A4]; · iexact A4
      iexact A5
    imodintro
    isplitl [H]; · iexact H
    isplitl [HQ]; · iexact HQ
    iexists _; iexact Hm
  · have H := close_six A κ c t ![0, 0, 0, 0, 0, 0] (by
      intro k
      match k with
      | 0 => exact .inl fun hv => absurd ((valid_qs c t).mp hv) (by omega)
      | 1 => exact .inl fun hv => absurd ((valid_qr c t).mp hv) (by omega)
      | 2 => exact .inl fun hv => absurd ((valid_ps c t 0).mp hv) (by omega)
      | 3 => exact .inl fun hv => absurd ((valid_ps c t 1).mp hv) (by omega)
      | 4 => exact .inl fun hv => absurd ((valid_pr c t 0).mp hv) (by omega)
      | 5 => exact .inl fun hv => absurd ((valid_pr c t 1).mp hv) (by omega))
    rw [vals] at H
    have n1 : ¬t.val < c.val := by omega
    have n2 : ¬c.val < t.val := by omega
    unfold KP PR idleE idleB
    simp only [if_neg n1, if_neg n2]
    iintro ⟨HK, ⟨⟨A1, A2, A3⟩, A0, A4, A5, HQ⟩, Hm⟩
    imod H $$ [HK A0 A1 A2 A3 A4 A5] with H
    · isplitl [HK]; · iexact HK
      isplitl [A0]; · iexact A0
      isplitl [A1]; · iexact A1
      isplitl [A2]; · iexact A2
      isplitl [A3]; · iexact A3
      isplitl [A4]; · iexact A4
      iexact A5
    imodintro
    isplitl [H]; · iexact H
    isplitl [HQ] <;> iassumption
  · have H := close_six A κ c t ![0, 1, 1, 1, 0, 0] (by
      intro k
      match k with
      | 0 => exact .inl fun hv => absurd ((valid_qs c t).mp hv) (by omega)
      | 1 => exact .inr le_rfl
      | 2 => exact .inr le_rfl
      | 3 => exact .inr le_rfl
      | 4 => exact .inl fun hv => absurd ((valid_pr c t 0).mp hv) (by omega)
      | 5 => exact .inl fun hv => absurd ((valid_pr c t 1).mp hv) (by omega))
    rw [vals] at H
    rw [show stg c.val t.val 7 7 7 7 7 2 = 2 by
      unfold stg; split_ifs <;> omega, PR_gt A c h]
    have n1 : ¬t.val < c.val := by omega
    unfold KP RQ SP idleB
    simp only [if_neg n1, if_neg (by decide : ¬(2 : ℕ) = 0), if_neg (by decide : ¬(2 : ℕ) = 1)]
    iintro ⟨HK, ⟨A1, A2, A3, A0, A4, A5, HQ⟩, Hm⟩
    imod H $$ [HK A0 A1 A2 A3 A4 A5] with H
    · isplitl [HK]; · iexact HK
      isplitl [A0]; · iexact A0
      isplitl [A1]; · iexact A1
      isplitl [A2]; · iexact A2
      isplitl [A3]; · iexact A3
      isplitl [A4]; · iexact A4
      iexact A5
    imodintro
    isplitl [H]; · iexact H
    isplitl [HQ] <;> iassumption

/-- All peers at the start, -/
theorem peers_start :
    iprop((bigSep Finset.univ fun t : Dev nD => START c t) ∗ (bigSep Finset.univ fun t : Dev nD => qTok A c t)
        ∗ bigSep Finset.univ fun t : Dev nD => ptsAny c cc0_scratch4 (pmS t))
      ⊢ iprop(S6 A c 0 0 0 0 0 0 ∗ bigSep Finset.univ fun t : Dev nD => KP c t) := by
  unfold S6 Stg
  rw [← bigSep_sep', ← bigSep_sep', ← bigSep_sep']
  exact bigSep_mono fun t _ => PR_start A c t

/-- and at the end. -/
theorem peers_end :
    iprop(Know A κ ∗ S6 A c 7 7 7 7 7 2 ∗ bigSep Finset.univ fun t : Dev nD => KP c t)
      ⊢ |={Set.univ}=> iprop((bigSep Finset.univ fun t : Dev nD => bigSep Finset.univ fun k : Fin 6 => semVal (cl c (cN t k)) 0)
        ∗ (bigSep Finset.univ fun t : Dev nD => qTok A c t) ∗ bigSep Finset.univ fun t : Dev nD => ptsAny c cc0_scratch4 (pmS t)) := by
  unfold S6 Stg
  rw [← bigSep_sep', ← bigSep_sep', ← bigSep_sep']
  refine BIBase.Entails.trans ?_ ((bigSep_mono fun t _ => PR_end A κ c t).trans (bigSep_fupd Finset.univ _))
  refine BIBase.Entails.trans ?_ (BIBase.Entails.of_eq (bigSep_sep' Finset.univ (fun _ : Dev nD => Know A κ)
    (fun t : Dev nD => iprop(PR A c t (stg c.val t.val 7 7 7 7 7 2) ∗ KP c t))).symm)
  iintro ⟨#HK, H⟩
  isplitr
  · iapply (BI.bigSep_intro_persistent (S := Finset.univ) fun (t : Dev nD) _ => (BI.Entails.refl (Know A κ))); iexact HK
  iexact H

/-! ## The launch -/

/-- All cells opened at once: what every device knows, the positions, the rights to the transfers. -/
theorem fund_cells :
    iprop((bigSep Finset.univ fun c : Dev nD => bigSep Finset.univ fun t : Dev nD => bigSep Finset.univ fun k : Fin 6 => semVal (cl c (cN t k)) 0)
        ∗ BI.own (ER (launchOf allCells ∅ allToks)) ∗ levAts L lv)
      ⊢ |={Set.univ}=> iprop((∃ κ, Know A κ) ∗ (bigSep Finset.univ fun c : Dev nD => bigSep Finset.univ fun t : Dev nD => AT c t)
        ∗ bigSep Finset.univ fun c : Dev nD => bigSep Finset.univ fun t : Dev nD => TK c t) := by
  have h := fund_launch (Name := ℕ) ER (Rd A) (S := allCells) (Sd := ∅) (Finset.disjoint_empty_right _)
    (fun g hg => absurd hg (Finset.notMem_empty g)) allToks (Es := Set.univ)
  have hK : ∀ κ : GSem nD τ sig → ℕ, iprop(bigSep (allCells ∪ ∅) (fun g => cellInv ER (Rd A) (κ g) g)
      ∗ bigSep allCells (fun g => reached ER g 0) ∗ levAts L lv) ⊢ Know A κ := by
    intro κ
    unfold Know
    rw [Finset.union_empty, bigSep_sep']
    unfold allCells
    rw [BI.bigSep_map, BI.bigSep_map]
    iintro ⟨H1, H2, H3⟩
    isplitr [H3]
    · isplitl [H1]; · iexact H1
      iexact H2
    iexact H3
  have hT : bigSep allToks (fun x => (dutyTok ER x.1 x.2.1 x.2.2 : sProp 𝕄))
      ⊢ bigSep Finset.univ fun c : Dev nD => bigSep Finset.univ fun t : Dev nD => TK c t := by
    unfold allToks
    rw [BI.bigSep_map]
    refine (BIBase.Entails.of_eq (bigSep_allCells fun g => dutyTok ER g 0 ())).trans ?_
    simp only [six]
    unfold TK
    simp only [bigSep_sep']
    rw [bigSep_swap fun c t : Dev nD => (dutyTok ER (cl t (qrN c)) 0 () : sProp 𝕄),
      bigSep_swap fun c t : Dev nD => (dutyTok ER (cl t (prN c 0)) 0 () : sProp 𝕄),
      bigSep_swap fun c t : Dev nD => (dutyTok ER (cl t (prN c 1)) 0 () : sProp 𝕄)]
    exact BI.Entails.refl _
  rw [← bigSep_allCells fun g => semVal g 0]
  iintro ⟨HS, HO, Hla⟩
  imod h $$ [HS HO] with ⟨%κ, -, H1, H2, H3, -, H5⟩
  · isplitl [HS] <;> iassumption
  imodintro
  isplitl [H1 H2 Hla]
  · iexists κ
    iapply (hK κ)
    isplitl [H1]; · iexact H1
    isplitl [H2] <;> iassumption
  isplitl [H3]
  · unfold AT
    iapply (BIBase.Entails.of_eq (bigSep_allCells fun g => atPos ER g 0 ∅ 0)); iexact H3
  iapply hT; iexact H5

/-- The credits. -/
def CRsum : CellTallies nD τ sig Unit :=
  ∑ t : Dev nD, ((if c.val < t.val then tallyAt (cl c (qrN t)) () NQ else 0)
    + if t.val < c.val then tallyAt (cl c (prN t 0)) () NA + tallyAt (cl c (prN t 1)) () NM else 0)

theorem cr_sum : (∑ d : Dev nD, O₀ d) = ∑ d : Dev nD, CRsum d := by
  unfold O₀ owQ owP CRsum
  simp only [← Finset.sum_add_distrib, Nat.add_zero]
  rw [Finset.sum_comm]

theorem tallyAt_own {d : Dev nD} {n : DmaSem sig} {N : ℕ} {g : GSem nD τ sig} (h : (tallyAt (cl d n) () N : CellTallies nD τ sig Unit) g ≠ 0) :
    g.1 = (d : Thread nD τ) := by
  obtain ⟨i, hi⟩ := DFunLike.ne_iff.mp h
  rw [tallyAt_apply] at hi
  split at hi
  · next hg => rw [hg.1]
  · exact absurd rfl hi

theorem cr_own (d : Dev nD) (g : GSem nD τ sig) (h : CRsum d g ≠ 0) : g.1 = (d : Thread nD τ) := by
  by_contra hne
  refine h ?_
  have h0 : ∀ (n : DmaSem sig) (N : ℕ), (tallyAt (cl d n) () N : CellTallies nD τ sig Unit) g = 0 := fun n N => by
    by_contra h1; exact hne (tallyAt_own h1)
  unfold CRsum
  rw [Finset.sum_apply]
  refine Finset.sum_eq_zero fun t _ => ?_
  rw [Pi.add_apply]
  split <;> split <;> simp only [Pi.add_apply, h0, Pi.zero_apply, add_zero]

theorem launch_credit : (Pipeline.launchCred O₀ c : sProp 𝕄) ⊢ bigSep Finset.univ fun t : Dev nD => CR c t := by
  rw [Pipeline.launchCred_of_sum O₀ CRsum cr_sum cr_own c]
  unfold CRsum CR
  rw [Pipeline.cred_finsetSum]
  exact bigSep_mono fun t _ => (cred_add _ _).1

/-! ## A buffer slot by slot -/

theorem lead_disj {n : ℕ} {d : Fin (n + 1) → ℕ} {k k' : ℕ} (h : k ≠ k') : Disjoint (lead (d := d) k) (lead k') :=
  Finset.disjoint_left.mpr fun i hi hi' => h ((mem_lead.mp hi).symm.trans (mem_lead.mp hi'))
theorem lead_cover {n N : ℕ} {d : Fin n → ℕ} :
    (Finset.univ : Finset (Fin N)).biUnion (fun k => lead (d := Matrix.vecCons N d) k.val) = Finset.univ :=
  Finset.eq_univ_iff_forall.mpr fun i => Finset.mem_biUnion.mpr ⟨i 0, Finset.mem_univ _, mem_lead.mpr rfl⟩

/-- A buffer held whole is held slot by slot, -/
theorem slots_split (b : Ref sig .tc) {N : ℕ} (I : Fin N → Finset (Idx ((c : Thread nD τ).loc b)))
    (hd : ∀ k k', k ≠ k' → Disjoint (I k) (I k')) (hc : Finset.univ.biUnion I = Finset.univ) :
    ptsAny c b Finset.univ ⊢ bigSep Finset.univ fun k => (ptsAny c b (I k) : sProp 𝕄) := by
  iintro ⟨%f, H⟩
  have h := BIBase.Entails.of_eq (Ring.pointsTo_blocks (ℓ := (c : Thread nD τ).loc b) I hd hc (q := fullShare) f : _ = (_ : sProp 𝕄))
  have h2 : (bigSep Finset.univ fun k => ((c : Thread nD τ).loc b ↦[I k]{fullShare} f : sProp 𝕄)) ⊢ bigSep Finset.univ fun k => (ptsAny c b (I k) : sProp 𝕄) :=
    bigSep_mono fun k _ => by unfold ptsAny; exact BIClass.exists_intro (Φ := fun f => iprop((c : Thread nD τ).loc b ↦[I k]{fullShare} f)) f
  iapply h2; iapply h; iexact H
/-- and back. -/
theorem slots_join (b : Ref sig .tc) {N : ℕ} (I : Fin N → Finset (Idx ((c : Thread nD τ).loc b)))
    (hd : ∀ k k', k ≠ k' → Disjoint (I k) (I k')) (hc : Finset.univ.biUnion I = Finset.univ) :
    (bigSep Finset.univ fun k => (ptsAny c b (I k) : sProp 𝕄)) ⊢ ptsAny c b Finset.univ :=
  Ring.pointsTo_blocks_join_exists (ℓ := (c : Thread nD τ).loc b) I hd hc (fun _ => Classical.arbitrary _)

end Cert.KernelIdeal.Attn

end
-- ==== Proof.HeadLoop.lean ====
/-
  The loop over the heads that computes the partial result for a peer: trip `h` writes row `h` of the
  accumulator slot and the two rows `h` of the slot of maxima and sums.
-/
module

public import proofs.«01_k».proof.Proof.Peers

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) {𝒱 : Variants} (c : Dev nD)

/-! ## Rows -/

theorem fin1 (a : Fin 1) : a.val = 0 := by omega

/-- What a load of row `h` reads. -/
theorem read_row (m : Ref sig .tc) (X : S8x1024x128.Idx → Elt F .bf16) (h : Fin 8)
    (inb : ∀ a, (![h.val, 0, 0] : Fin 3 → ℕ) a + S1x1024x128.size a ≤ S8x1024x128.size a) :
    (fun x => X ((Rect.unit (s := S8x1024x128) ![h.val, 0, 0] S1x1024x128.size inb).toLoadRect.idx x)) = headRow X h := by
  funext x
  show X _ = X _
  congr 1
  funext a
  refine Fin.ext ?_
  match a with
  | ⟨0, _⟩ => show h.val + 1 * (x 0).val = h.val; have : (x 0).val < 1 := (x 0).isLt; omega
  | ⟨1, _⟩ => show 0 + 1 * (x 1).val = (x 1).val; omega
  | ⟨2, _⟩ => show 0 + 1 * (x 2).val = (x 2).val; omega

section AB
variable (b : Fin 2) (h : Fin 8) (inb : ∀ a, (![b.val, h.val, 0, 0] : Fin 4 → ℕ) a + S1x1x128x1024.size a ≤ S2x8x128x1024.size a)

abbrev abAcc : View sig .tc .vmem S1x1x128x1024 .bf16 := aAB.access (Rect.unit (s := S2x8x128x1024) ![b.val, h.val, 0, 0] S1x1x128x1024.size inb)

theorem ab_in (x : S1x1x128x1024.Idx) : ((abAcc b h inb).emb x (0 : Fin 4)).val = b.val ∧ ((abAcc b h inb).emb x (1 : Fin 4)).val = h.val := by
  have h0 : (x 0).val < 1 := (x 0).isLt
  have h1 : (x 1).val < 1 := (x 1).isLt
  constructor
  · show b.val + 1 * (x 0).val = b.val; omega
  · show h.val + 1 * (x 1).val = h.val; omega
theorem ab_at (i : S2x8x128x1024.Idx) (h0 : (i 0).val = b.val) (h1 : (i 1).val = h.val) :
    (abAcc b h inb).emb (cs (N := 1) 0 (cs (N := 1) 0 (tl (tl i)))) = i := by
  funext a
  refine Fin.ext ?_
  match a with
  | ⟨0, _⟩ => show b.val + 1 * 0 = (i 0).val; omega
  | ⟨1, _⟩ => show h.val + 1 * 0 = (i 1).val; omega
  | ⟨2, _⟩ => show 0 + 1 * (i 2).val = (i 2).val; omega
  | ⟨3, _⟩ => show 0 + 1 * (i 3).val = (i 3).val; omega
theorem ab_sub : (abAcc b h inb).setOn Finset.univ ⊆ abS b.val := fun i hi => by
  obtain ⟨x, -, rfl⟩ := Finset.mem_map.mp hi
  exact mem_lead.mpr (ab_in b h inb x).1
theorem ab_subl : aAB.view.setOn (Rect.unit (s := S2x8x128x1024) ![b.val, h.val, 0, 0] S1x1x128x1024.size inb).toLoadRect.set ⊆ abS b.val :=
  (View.set_slice aAB.view (Rect.unit (s := S2x8x128x1024) ![b.val, h.val, 0, 0] S1x1x128x1024.size inb)).ge.trans (ab_sub b h inb)

/-- The accumulator slot with row `h` written. -/
theorem ab_write (f : S2x8x128x1024.Idx → Elt F .bf16) (w : S1x1x128x1024.Idx → Elt F .bf16) (i : S2x8x128x1024.Idx) (h0 : (i 0).val = b.val) :
    (abAcc b h inb).write (Elt F) f w Finset.univ i = if (i 1).val = h.val then w (cs (N := 1) 0 (cs (N := 1) 0 (tl (tl i)))) else f i := by
  split
  · next h1 =>
    have hw := View.write_emb_of_mem (v := abAcc b h inb) (Val := Elt F) f w (Finset.mem_univ (cs (N := 1) 0 (cs (N := 1) 0 (tl (tl i)))))
    rw [ab_at b h inb i h0 h1] at hw
    exact hw
  · next h1 =>
    exact View.write_of_not_mem (v := abAcc b h inb) (Val := Elt F) f w Finset.univ fun hm => by
      obtain ⟨x, -, rfl⟩ := Finset.mem_map.mp hm
      exact h1 (ab_in b h inb x).2

end AB

section MB
variable (b p : Fin 2) (h : Fin 8) (inb : ∀ a, (![b.val, p.val, h.val, 0, 0] : Fin 5 → ℕ) a + S1x1x1x1x1024.size a ≤ S2x2x8x1x1024.size a)

abbrev mbAcc : View sig .tc .vmem S1x1x1x1x1024 .bf16 := aMB.access (Rect.unit (s := S2x2x8x1x1024) ![b.val, p.val, h.val, 0, 0] S1x1x1x1x1024.size inb)

theorem mb_in (x : S1x1x1x1x1024.Idx) : ((mbAcc b p h inb).emb x (0 : Fin 5)).val = b.val ∧ ((mbAcc b p h inb).emb x (1 : Fin 5)).val = p.val
    ∧ ((mbAcc b p h inb).emb x (2 : Fin 5)).val = h.val := by
  have h0 : (x 0).val < 1 := (x 0).isLt
  have h1 : (x 1).val < 1 := (x 1).isLt
  have h2 : (x 2).val < 1 := (x 2).isLt
  refine ⟨?_, ?_, ?_⟩
  · show b.val + 1 * (x 0).val = b.val; omega
  · show p.val + 1 * (x 1).val = p.val; omega
  · show h.val + 1 * (x 2).val = h.val; omega
theorem mb_at (i : S2x2x8x1x1024.Idx) (h0 : (i 0).val = b.val) (h1 : (i 1).val = p.val) (h2 : (i 2).val = h.val) :
    (mbAcc b p h inb).emb (cs (N := 1) 0 (cs (N := 1) 0 (cs (N := 1) 0 (tl (tl (tl i)))))) = i := by
  funext a
  refine Fin.ext ?_
  match a with
  | ⟨0, _⟩ => show b.val + 1 * 0 = (i 0).val; omega
  | ⟨1, _⟩ => show p.val + 1 * 0 = (i 1).val; omega
  | ⟨2, _⟩ => show h.val + 1 * 0 = (i 2).val; omega
  | ⟨3, _⟩ => show 0 + 1 * (i 3).val = (i 3).val; omega
  | ⟨4, _⟩ => show 0 + 1 * (i 4).val = (i 4).val; omega
theorem mb_sub : (mbAcc b p h inb).setOn Finset.univ ⊆ mbS b.val := fun i hi => by
  obtain ⟨x, -, rfl⟩ := Finset.mem_map.mp hi
  exact mem_lead.mpr (mb_in b p h inb x).1
theorem mb_subl : aMB.view.setOn (Rect.unit (s := S2x2x8x1x1024) ![b.val, p.val, h.val, 0, 0] S1x1x1x1x1024.size inb).toLoadRect.set ⊆ mbS b.val :=
  (View.set_slice aMB.view (Rect.unit (s := S2x2x8x1x1024) ![b.val, p.val, h.val, 0, 0] S1x1x1x1x1024.size inb)).ge.trans (mb_sub b p h inb)

/-- The slot of maxima and sums with row `h` of plane `p` written. -/
theorem mb_write (f : S2x2x8x1x1024.Idx → Elt F .bf16) (w : S1x1x1x1x1024.Idx → Elt F .bf16) (i : S2x2x8x1x1024.Idx) (h0 : (i 0).val = b.val) :
    (mbAcc b p h inb).write (Elt F) f w Finset.univ i
      = if (i 1).val = p.val ∧ (i 2).val = h.val then w (cs (N := 1) 0 (cs (N := 1) 0 (cs (N := 1) 0 (tl (tl (tl i)))))) else f i := by
  split
  · next h1 =>
    have hw := View.write_emb_of_mem (v := mbAcc b p h inb) (Val := Elt F) f w (Finset.mem_univ (cs (N := 1) 0 (cs (N := 1) 0 (cs (N := 1) 0 (tl (tl (tl i)))))))
    rw [mb_at b p h inb i h0 h1.1 h1.2] at hw
    exact hw
  · next h1 =>
    exact View.write_of_not_mem (v := mbAcc b p h inb) (Val := Elt F) f w Finset.univ fun hm => by
      obtain ⟨x, -, rfl⟩ := Finset.mem_map.mp hm
      exact h1 (mb_in b p h inb x).2

end MB

/-! ## The loop -/

/-- The buffers that the loop reads. -/
abbrev kvQ (t : Dev nD) : sProp 𝕄 :=
  iprop(pts c cc0_scratch0 Finset.univ fullShare (A.q t) ∗ pts c cc0_stg1_0 Finset.univ fullShare (A.k c) ∗ pts c cc0_stg2_0 Finset.univ fullShare (A.v c))

/-- Rows below `n` of the two slots are written. -/
def headInv (t : Dev nD) (b : Fin 2) (n : ℕ) : sProp 𝕄 :=
  iprop(kvQ A c t
    ∗ (∃ f : S2x8x128x1024.Idx → Elt F .bf16, ⌜∀ i, (i 0).val = b.val → (i 1).val < n → f i = abT A c t i⌝ ∗ pts c cc0_scratch2 (abS b.val) fullShare f)
    ∗ (∃ f : S2x2x8x1x1024.Idx → Elt F .bf16, ⌜∀ i, (i 0).val = b.val → (i 2).val < n → f i = mbT A c t i⌝ ∗ pts c cc0_scratch3 (mbS b.val) fullShare f))

theorem headInv_start (t : Dev nD) (b : Fin 2) :
    iprop(kvQ A c t ∗ ptsAny c cc0_scratch2 (abS b.val) ∗ ptsAny c cc0_scratch3 (mbS b.val)) ⊢ headInv A c t b 0 := by
  unfold headInv
  iintro ⟨H, ⟨%f, Hf⟩, ⟨%g, Hg⟩⟩
  isplitl [H]; · iexact H
  isplitl [Hf]
  · iexists f
    isplitr; · ipureintro; exact fun i _ h => absurd h (Nat.not_lt_zero _)
    iexact Hf
  · iexists g
    isplitr; · ipureintro; exact fun i _ h => absurd h (Nat.not_lt_zero _)
    iexact Hg

theorem headInv_done (t : Dev nD) (b : Fin 2) (n : ℕ) (hn : 8 ≤ n) :
    headInv A c t b n ⊢ iprop(kvQ A c t ∗ pts c cc0_scratch2 (abS b.val) fullShare (abT A c t) ∗ pts c cc0_scratch3 (mbS b.val) fullShare (mbT A c t)) := by
  unfold headInv
  iintro ⟨H, ⟨%f, %hf, Hf⟩, ⟨%g, %hg, Hg⟩⟩
  isplitl [H]; · iexact H
  isplitl [Hf]
  · rw [show (pts c cc0_scratch2 (abS b.val) fullShare (abT A c t) : sProp 𝕄) = pts c cc0_scratch2 (abS b.val) fullShare f from
      pointsTo_congr fun i hi => (hf i (mem_lead.mp hi) (lt_of_lt_of_le (i 1).isLt hn)).symm]
    iexact Hf
  · rw [show (pts c cc0_scratch3 (mbS b.val) fullShare (mbT A c t) : sProp 𝕄) = pts c cc0_scratch3 (mbS b.val) fullShare g from
      pointsTo_congr fun i hi => (hg i (mem_lead.mp hi) (lt_of_lt_of_le (i 2).isLt hn)).symm]
    iexact Hg

/-- One trip. -/
theorem head_trip (t : Dev nD) (b : Fin 2) (h : Fin 8) {o3 : Fin 3 → ℕ} {o4 : Fin 4 → ℕ} {oa ob : Fin 5 → ℕ}
    (h3 : o3 = ![h.val, 0, 0]) (h4 : o4 = ![b.val, h.val, 0, 0]) (ha : oa = ![b.val, 0, h.val, 0, 0]) (hb : ob = ![b.val, 1, h.val, 0, 0])
    {i3 : ∀ a, o3 a + S1x1024x128.size a ≤ S8x1024x128.size a} {i4 : ∀ a, o4 a + S1x1x128x1024.size a ≤ S2x8x128x1024.size a}
    {ia : ∀ a, oa a + S1x1x1x1x1024.size a ≤ S2x2x8x1x1024.size a} {ib : ∀ a, ob a + S1x1x1x1x1024.size a ≤ S2x2x8x1x1024.size a}
    {p1 p2 p3 p4 p5 p6 p7 p8 p9 p10 p11 p12} :
    headInv A c t b h.val ⊢ WP 𝒱 c (do
      let v180 : Vec F S1x1024x128 .bf16 ← Prog.lift (.load aQS (Rect.unit (s := S8x1024x128) o3 S1x1024x128.size i3).toLoadRect p1)
      let v183 : Vec F S1x1024x128 .bf16 ← Prog.lift (.load aK (Rect.unit (s := S8x1024x128) o3 S1x1024x128.size i3).toLoadRect p2)
      let v186 : Vec F S1x1024x128 .bf16 ← Prog.lift (.load aV (Rect.unit (s := S8x1024x128) o3 S1x1024x128.size i3).toLoadRect p3)
      let v200 : Vec F S1x1x128x1024 .bf16 ← Prog.lift (.load aAB (Rect.unit (s := S2x8x128x1024) o4 S1x1x128x1024.size i4).toLoadRect p4)
      Prog.lift (.store aAB (Rect.unit (s := S2x8x128x1024) o4 S1x1x128x1024.size i4) (k0_pay4 v180 v183 v186) Finset.univ p5 p6)
      let v205 : Vec F S1x1x1x1x1024 .bf16 ← Prog.lift (.load aMB (Rect.unit (s := S2x2x8x1x1024) oa S1x1x1x1x1024.size ia).toLoadRect p7)
      Prog.lift (.store aMB (Rect.unit (s := S2x2x8x1x1024) oa S1x1x1x1x1024.size ia) (k0_pay5 v180 v183) Finset.univ p8 p9)
      let v210 : Vec F S1x1x1x1x1024 .bf16 ← Prog.lift (.load aMB (Rect.unit (s := S2x2x8x1x1024) ob S1x1x1x1x1024.size ib).toLoadRect p10)
      Prog.lift (.store aMB (Rect.unit (s := S2x2x8x1x1024) ob S1x1x1x1x1024.size ib) (k0_pay6 v180 v183) Finset.univ p11 p12)
      pure ⟨⟩) fun _ : PUnit => headInv A c t b (h.val + 1) := by
  subst h3 h4 ha hb
  unfold headInv
  iintro ⟨⟨Hq, Hk, Hv⟩, ⟨%f, %hf, Hf⟩, ⟨%g, %hg, Hg⟩⟩
  iapply (run_seq (load_op c (m := aQS) (S := Finset.univ) (f := A.q t) (Finset.subset_univ _))) $$ Hq
  iintro %v180 ⟨%e1, Hq⟩
  iapply (run_seq (load_op c (m := aK) (S := Finset.univ) (f := A.k c) (Finset.subset_univ _))) $$ Hk
  iintro %v183 ⟨%e2, Hk⟩
  iapply (run_seq (load_op c (m := aV) (S := Finset.univ) (f := A.v c) (Finset.subset_univ _))) $$ Hv
  iintro %v186 ⟨%e3, Hv⟩
  iapply (run_seq (load_op c (m := aAB) (S := abS b.val) (f := f) (ab_subl b h i4))) $$ Hf
  iintro %v200 ⟨-, Hf⟩
  iapply (run_seq (store_op c (m := aAB) (r := Rect.unit (s := S2x8x128x1024) ![b.val, h.val, 0, 0] S1x1x128x1024.size i4) (S := abS b.val) (f := f) (ab_sub b h i4))) $$ Hf
  iintro %_ Hf
  iapply (run_seq (load_op c (m := aMB) (S := mbS b.val) (f := g) (mb_subl b 0 h ia))) $$ Hg
  iintro %v205 ⟨-, Hg⟩
  iapply (run_seq (store_op c (m := aMB) (r := Rect.unit (s := S2x2x8x1x1024) ![b.val, 0, h.val, 0, 0] S1x1x1x1x1024.size ia) (S := mbS b.val) (f := g) (mb_sub b 0 h ia))) $$ Hg
  iintro %_ Hg
  iapply (run_seq (load_op c (m := aMB) (S := mbS b.val) (mb_subl b 1 h ib))) $$ Hg
  iintro %v210 ⟨-, Hg⟩
  iapply (run_seq (store_op c (m := aMB) (r := Rect.unit (s := S2x2x8x1x1024) ![b.val, 1, h.val, 0, 0] S1x1x1x1x1024.size ib) (S := mbS b.val) (mb_sub b 1 h ib))) $$ Hg
  iintro %_ Hg
  have r1 : v180 = headRow (A.q t) h := e1.trans (read_row cc0_scratch0 (A.q t) h i3)
  have r2 : v183 = headRow (A.k c) h := e2.trans (read_row cc0_scratch0 (A.k c) h i3)
  have r3 : v186 = headRow (A.v c) h := e3.trans (read_row cc0_scratch0 (A.v c) h i3)
  iapply run_pure
  isplitl [Hq Hk Hv]
  · isplitl [Hq]; · iexact Hq
    isplitl [Hk] <;> iassumption
  isplitl [Hf]
  · iexists _
    isplitr
    rotate_left
    · iexact Hf
    ipureintro
    intro i h0 h1
    rw [ab_write b h i4 f _ i h0]
    split
    · next e =>
      rw [r1, r2, r3]
      show _ = accP (A.q t) (A.k c) (A.v c) (tl i)
      unfold accP
      rw [show (tl i 0 : Fin 8) = h from Fin.ext e]
    · next e => exact hf i h0 (by omega)
  · iexists _
    isplitr
    rotate_left
    · iexact Hg
    ipureintro
    intro i h0 h1
    refine (mb_write b 1 h ib _ _ i h0).trans ?_
    have hm : ∀ e : (i 2).val = h.val, (tl i 1 : Fin 8) = h := fun e => Fin.ext e
    split
    · next e =>
      rw [r1, r2]
      show _ = mlP (A.q t) (A.k c) (tl i)
      unfold mlP
      rw [hm e.2, if_neg (by have e1 : (tl i 0).val = 1 := e.1; omega)]
    · next e =>
      refine (mb_write b 0 h ia _ _ i h0).trans ?_
      split
      · next e =>
        rw [r1, r2]
        show _ = mlP (A.q t) (A.k c) (tl i)
        unfold mlP
        rw [hm e.2, if_pos (by exact e.1)]
      · next e' =>
        refine hg i h0 ?_
        have hp : (i 1).val < 2 := (i 1).isLt
        have e1 : ¬((i 1).val = 1 ∧ (i 2).val = h.val) := e
        have e2 : ¬((i 1).val = 0 ∧ (i 2).val = h.val) := e'
        omega

/-- The whole loop. -/
theorem head_loop (t : Dev nD) (b : Fin 2) {lb ub st : BitVec 32} (hn : Scf.trips lb ub st = 8) {ok : Scf.OK lb ub st}
    {body : Fin (Scf.trips lb ub st) → Unit → Prog (TpuEff nD τ sig (Elt F) Λ₀ .tc) Unit}
    (hbody : ∀ k : Fin (Scf.trips lb ub st), headInv A c t b k.val ⊢ WP 𝒱 c (body k ()) fun _ => headInv A c t b (k.val + 1)) :
    iprop(kvQ A c t ∗ ptsAny c cc0_scratch2 (abS b.val) ∗ ptsAny c cc0_scratch3 (mbS b.val))
      ⊢ WP 𝒱 c (Scf.for lb ub st ok () body) fun _ =>
        iprop(kvQ A c t ∗ pts c cc0_scratch2 (abS b.val) fullShare (abT A c t) ∗ pts c cc0_scratch3 (mbS b.val) fullShare (mbT A c t)) := by
  iintro H
  iapply (Scf.wp_for frame (wpE (defs₀ (F := F)) 𝒱 (c : Thread nD τ) none) Set.univ lb ub st ok () body (fun n _ => headInv A c t b n) (fun k acc => hbody k))
  isplitl [H]
  · iapply headInv_start A c t b $$ H
  · iintro %_ H
    iapply headInv_done A c t b _ hn.ge $$ H

end Cert.KernelIdeal.Attn

end
-- ==== Proof.Partial.lean ====
/-
  The partial results for the devices `t > c`, one site of the body per distance: wait for the queries,
  copy them into the working buffer, run the loop over the heads, send the result back.  From distance
  three on, the slot is first taken back from the transfer two sites earlier.
-/
module

public import proofs.«01_k».proof.Proof.HeadLoop

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- The keys and the values. -/
abbrev KV : sProp 𝕄 := iprop(pts c cc0_stg1_0 Finset.univ fullShare (A.k c) ∗ pts c cc0_stg2_0 Finset.univ fullShare (A.v c))
/-- The working copy of the queries, free. -/
abbrev qsFree : sProp 𝕄 := ptsAny c cc0_scratch0 Finset.univ
/-- Slot `b` of the two buffers that results are sent from, free. -/
abbrev slots (b : ℕ) : sProp 𝕄 := iprop(ptsAny c cc0_scratch2 (abS b) ∗ ptsAny c cc0_scratch3 (mbS b))

/-- Waiting for the queries of `t` and copying them. -/
theorem pre_site (t : Dev nD) (h : c.val < t.val) {offR : Fin 1 → ℕ} {off : Fin 4 → ℕ} (hR : offR = ![t.val]) (ho : off = ![t.val, 0, 0, 0])
    {iR io} {h1 h2 h3 h4 h5 h6 h7} {O : CellTallies nD τ sig Unit} (hO : Above 1 O) {α : Type} {k : Prog (TpuEff nD τ sig (Elt F) Λ₀ .tc) α}
    {R : α → sProp 𝕄} :
    iprop(Know A κ ∗ RQ c t 0 ∗ qsFree c ∗ cp0 c ∗ owe c O)
      ⊢ iprop((iprop(RQ c t 1 ∗ pts c cc0_scratch0 Finset.univ fullShare (A.q t) ∗ cp0 c ∗ owe c O ∗ ptsAny t main_v1_2 (paS c) ∗ ptsAny t cc0_scratch4 (pmS c))
            -∗ WP 𝒱 c k R) -∗
        WP 𝒱 c (Prog.lift (.waitDma2 (sem1 cc0_scratch10 offR iR) aQ (qbSlot off io) h1 h2) >>= fun _ : PUnit =>
          Prog.lift (.enqueueDma (qbSlot off io) (.here aQS) (.dma cc0_scratch13.sem) h3 h4 h5) >>= fun _ : PUnit =>
          Prog.lift (.waitDma2 cc0_scratch13.sem (qbSlot off io) aQS h6 h7) >>= fun _ : PUnit => k) R) := by
  iintro ⟨#HK, HR, Hq, Hv, HO⟩ Hk
  iapply (run_seq (wait_q A κ c t h hR hO)) $$ [HR HO]
  · isplitr; · iexact HK
    isplitl [HR] <;> iassumption
  iintro %_ ⟨HO, HR, Hb, Hpa, Hpm⟩
  iapply (run_seq (copy_q A c t ho)) $$ [Hb Hq Hv]
  · isplitl [Hb]; · iexact Hb
    isplitl [Hq] <;> iassumption
  iintro %_ HF
  iapply (run_seq (wait_copy_q A κ c t (above_mono (Nat.zero_le 1) hO))) $$ [HF HO]
  · isplitr; · iexact HK
    isplitl [HF] <;> iassumption
  iintro %_ ⟨HO, Hq, -, Hv⟩
  iapply Hk
  isplitl [HR]; · iexact HR
  isplitl [Hq]; · iexact Hq
  isplitl [Hv]; · iexact Hv
  isplitl [HO]; · iexact HO
  isplitl [Hpa] <;> iassumption

/-- Before and after the part of a site at distance one or two that ends with the accumulators sent. -/
def lowPre (t : Dev nD) (b : ℕ) (O : CellTallies nD τ sig Unit) : sProp 𝕄 :=
  iprop(Know A κ ∗ RQ c t 0 ∗ SP c t 0 0 ∗ qsFree c ∗ cp0 c ∗ KV A c ∗ slots c b ∗ owe c (O + tallyAt (cl t (prN c 0)) () NA))
def lowPost (t : Dev nD) (b : ℕ) (O : CellTallies nD τ sig Unit) : sProp 𝕄 :=
  iprop(RQ c t 1 ∗ SP c t 0 1 ∗ qsFree c ∗ cp0 c ∗ KV A c ∗ pts c cc0_scratch3 (mbS b) fullShare (mbT A c t) ∗ ptsAny t cc0_scratch4 (pmS c) ∗ owe c O)

theorem low_part (t : Dev nD) (h : c.val < t.val) (b : Fin 2) (hb : b.val = (t.val - c.val) % 2)
    {offR : Fin 1 → ℕ} {off : Fin 4 → ℕ} (hR : offR = ![t.val]) (ho : off = ![t.val, 0, 0, 0]) {iR io} {h1 h2 h3 h4 h5 h6 h7}
    {lb ub st : BitVec 32} (hn : Scf.trips lb ub st = 8) {ok : Scf.OK lb ub st}
    {body : Fin (Scf.trips lb ub st) → Unit → Prog (TpuEff nD τ sig (Elt F) Λ₀ .tc) Unit}
    (hbody : ∀ k : Fin (Scf.trips lb ub st), headInv A c t b k.val ⊢ WP 𝒱 c (body k ()) fun _ => headInv A c t b (k.val + 1))
    {offS offT : Fin 2 → ℕ} {offd : Fin 4 → ℕ} {offs : Fin 4 → ℕ} {dev : Dev nD}
    (hS : offS = ![t.val, 0]) (hT : offT = ![c.val, 0]) (hod : offd = ![c.val, 0, 0, 0]) (hos : offs = ![b.val, 0, 0, 0]) (hd : dev = t)
    {iS iT iod ios} {g4 g1 g2 g3} (O : CellTallies nD τ sig Unit) (hO : Above 1 (O + tallyAt (cl t (prN c 0)) () NA))
    {α : Type} {x : α} :
    lowPre A κ c t b.val O ⊢
        WP 𝒱 c (Prog.lift (.waitDma2 (sem1 cc0_scratch10 offR iR) aQ (qbSlot off io) h1 h2) >>= fun _ : PUnit =>
          Prog.lift (.enqueueDma (qbSlot off io) (.here aQS) (.dma cc0_scratch13.sem) h3 h4 h5) >>= fun _ : PUnit =>
          Prog.lift (.waitDma2 cc0_scratch13.sem (qbSlot off io) aQS h6 h7) >>= fun _ : PUnit =>
          Scf.for lb ub st ok () body >>= fun _ : Unit =>
          Prog.lift (.enqueueDma (abSlot offs ios) (.remote (Dev.tc dev) (paSlot offd iod) (.dma (sem2 cc0_scratch11 offS iS)) g4)
          (.dma (sem2 cc0_scratch12 offT iT)) g1 g2 g3) >>= fun _ : PUnit => pure x) fun _ => lowPost A c t b.val O := by
  unfold lowPre lowPost
  iintro ⟨#HK, HR, HS, Hq, Hv, ⟨Hkk, Hvv⟩, ⟨Hab, Hmb⟩, HO⟩
  iapply (pre_site A κ c t h hR ho hO) $$ [HR Hq Hv HO]
  · isplitr; · iexact HK
    isplitl [HR]; · iexact HR
    isplitl [Hq]; · iexact Hq
    isplitl [Hv] <;> iassumption
  iintro ⟨HR, Hq, Hv, HO, Hpa, Hpm⟩
  iapply (run_seq (head_loop A c t b hn hbody)) $$ [Hq Hkk Hvv Hab Hmb]
  · isplitl [Hq Hkk Hvv]
    · isplitl [Hq]; · iexact Hq
      isplitl [Hkk] <;> iassumption
    isplitl [Hab] <;> iassumption
  iintro %_ ⟨⟨Hq, Hkk, Hvv⟩, Hab, Hmb⟩
  iapply (run_seq (send_acc A κ c t h b hb hS hT hod hos hd O)) $$ [HS HO Hab Hpa]
  · isplitr; · iexact HK
    isplitl [HS]; · iexact HS
    isplitl [HO]; · iexact HO
    isplitl [Hab] <;> iassumption
  iintro %_ ⟨HO, HS⟩
  iapply run_pure
  isplitl [HR]; · iexact HR
  isplitl [HS]; · iexact HS
  isplitl [Hq]; · iexists (A.q t); iexact Hq
  isplitl [Hv]; · iexact Hv
  isplitl [Hkk Hvv]; · isplitl [Hkk] <;> iassumption
  isplitl [Hmb]; · iexact Hmb
  isplitl [Hpm] <;> iassumption

/-- Before and after the part of a later site that ends with the accumulators' slot taken back from the
    transfer to `u`. -/
def highPre (t u : Dev nD) (O : CellTallies nD τ sig Unit) : sProp 𝕄 :=
  iprop(Know A κ ∗ RQ c t 0 ∗ SP c u 0 1 ∗ qsFree c ∗ cp0 c ∗ owe c O)
def highPost (t u : Dev nD) (b : ℕ) (O : CellTallies nD τ sig Unit) : sProp 𝕄 :=
  iprop(RQ c t 1 ∗ SP c u 0 2 ∗ pts c cc0_scratch0 Finset.univ fullShare (A.q t) ∗ cp0 c ∗ ptsAny c cc0_scratch2 (abS b)
    ∗ ptsAny t main_v1_2 (paS c) ∗ ptsAny t cc0_scratch4 (pmS c) ∗ owe c O)

theorem psPay_slots (t : Dev nD) (b : ℕ) (hb : b = (t.val - c.val) % 2) :
    iprop(psPay A c t 0 ∗ psPay A c t 1) ⊢ (slots c b : sProp 𝕄) := by
  subst hb
  unfold psPay
  rw [if_pos rfl, if_neg (by decide)]
  iintro ⟨H1, H2⟩
  isplitl [H1]
  · iexists _; iexact H1
  · iexists _; iexact H2
theorem psPay0 (t : Dev nD) (b : ℕ) (hb : b = (t.val - c.val) % 2) : psPay A c t 0 ⊢ ptsAny c cc0_scratch2 (abS b) := by
  subst hb
  unfold psPay
  rw [if_pos rfl]
  iintro H1
  iexists _; iexact H1
theorem psPay1 (t : Dev nD) (b : ℕ) (hb : b = (t.val - c.val) % 2) : psPay A c t 1 ⊢ ptsAny c cc0_scratch3 (mbS b) := by
  subst hb
  unfold psPay
  rw [if_neg (by decide)]
  iintro H1
  iexists _; iexact H1

theorem high_part (t u : Dev nD) (h : c.val < t.val) (hu : c.val < u.val) (b : ℕ) (hb : b = (u.val - c.val) % 2)
    {offR : Fin 1 → ℕ} {off : Fin 4 → ℕ} (hR : offR = ![t.val]) (ho : off = ![t.val, 0, 0, 0]) {iR io} {h1 h2 h3 h4 h5 h6 h7}
    {offS : Fin 2 → ℕ} {offd offs : Fin 4 → ℕ} (hS : offS = ![u.val, 0]) {iS iod ios} {g1 g2}
    (O : CellTallies nD τ sig Unit) (hO : Above 1 O) {α : Type} {x : α} :
    highPre A κ c t u O ⊢
        WP 𝒱 c (Prog.lift (.waitDma2 (sem1 cc0_scratch10 offR iR) aQ (qbSlot off io) h1 h2) >>= fun _ : PUnit =>
          Prog.lift (.enqueueDma (qbSlot off io) (.here aQS) (.dma cc0_scratch13.sem) h3 h4 h5) >>= fun _ : PUnit =>
          Prog.lift (.waitDma2 cc0_scratch13.sem (qbSlot off io) aQS h6 h7) >>= fun _ : PUnit =>
          Prog.lift (.waitDma2 (sem2 cc0_scratch11 offS iS) (paSlot offd iod) (abSlot offs ios) g1 g2) >>= fun _ : PUnit => pure x)
          fun _ => highPost A c t u b O := by
  unfold highPre highPost
  iintro ⟨#HK, HR, HS, Hq, Hv, HO⟩
  iapply (pre_site A κ c t h hR ho hO) $$ [HR Hq Hv HO]
  · isplitr; · iexact HK
    isplitl [HR]; · iexact HR
    isplitl [Hq]; · iexact Hq
    isplitl [Hv] <;> iassumption
  iintro ⟨HR, Hq, Hv, HO, Hpa, Hpm⟩
  iapply (run_seq (wait_ps A κ c u hu 0 hS ((am_ab _ _).trans Nb0.symm) (above_mono (Nat.zero_le 1) hO))) $$ [HS HO]
  · isplitr; · iexact HK
    isplitl [HS] <;> iassumption
  iintro %_ ⟨HO, HS, Hp⟩
  iapply run_pure
  isplitl [HR]; · iexact HR
  isplitl [HS]; · iexact HS
  isplitl [Hq]; · iexact Hq
  isplitl [Hv]; · iexact Hv
  isplitl [Hp]; · iapply psPay0 A c u b hb $$ Hp
  isplitl [Hpa]; · iexact Hpa
  isplitl [Hpm] <;> iassumption

end Cert.KernelIdeal.Attn

end
-- ==== Proof.FirstHalf.lean ====
/-
  The sites of the body's first half over the state of all peers: sending the queries, and answering
  the queries of the devices `t > c`.
-/
module

public import proofs.«01_k».proof.Proof.Partial

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-! ## Sending the queries -/

/-- The queries are out to the devices at distance at most `d`. -/
def StQ (d : ℕ) : sProp 𝕄 := iprop(S6 A c d 0 0 0 0 0 ∗ owe c (owQ c d + owP c 0))

theorem dv_of {n : ℕ} (h : n < 8) : (dv n).val = n := Nat.mod_eq_of_lt h

theorem q_site (d : ℕ) {p : Prop} [Decidable p] {offS offR : p → Fin 1 → ℕ} {off : p → Fin 4 → ℕ} {dev : p → Dev nD}
    (hp : p → d + 1 ≤ c.val) (hn : ¬p → c.val < d + 1)
    (hf : ∀ h : p, offS h = ![c.val - (d + 1)] ∧ offR h = ![c.val] ∧ off h = ![c.val, 0, 0, 0] ∧ (dev h).val = c.val - (d + 1))
    {iS : ∀ h : p, ∀ a, offS h a + S1.size a ≤ S8.size a} {iR : ∀ h : p, ∀ a, offR h a + S1.size a ≤ S8.size a}
    {io : ∀ h : p, ∀ a, off h a + S1x8x1024x128.size a ≤ S8x8x1024x128.size a}
    {h4 : ∀ h : p, (qbSlot (off h) (io h)).view.ref.isScScratch = false} {h1 : p → (aQ).view.WordExact} {h2 : ∀ h : p, (qbSlot (off h) (io h)).view.WordExact}
    {h3 : ∀ h : p, DmaTarget.Typed (nD := nD) (τ := τ) .vmem (.dma (sem1 cc0_scratch10 (offR h) (iR h)))
      (.remote (p := .tc) (Dev.tc (dev h)) (qbSlot (off h) (io h)) (.dma (sem1 cc0_scratch9 (offS h) (iS h))) (h4 h))}
    {α : Type} {k : PUnit → Prog (TpuEff nD τ sig (Elt F) Λ₀ .tc) α} {R : α → sProp 𝕄} {X : sProp 𝕄}
    (hk : iprop(Know A κ ∗ StQ A c (d + 1) ∗ X) ⊢ WP 𝒱 c (k ⟨⟩) R) :
    iprop(Know A κ ∗ StQ A c d ∗ X) ⊢ WP 𝒱 c
      (if h : p then Prog.lift (.enqueueDma aQ (.remote (Dev.tc (dev h)) (qbSlot (off h) (io h)) (.dma (sem1 cc0_scratch9 (offS h) (iS h))) (h4 h))
          (.dma (sem1 cc0_scratch10 (offR h) (iR h))) (h1 h) (h2 h) (h3 h)) >>= fun _ : PUnit => k ⟨⟩
        else k ⟨⟩) R := by
  have hc := dev_lt c
  split
  · next h =>
    obtain ⟨e1, e2, e3, e4⟩ := hf h
    have hd := hp h
    obtain ⟨t, ht⟩ : ∃ t : Dev nD, t.val = c.val - (d + 1) := ⟨dv (c.val - (d + 1)), dv_of (by omega)⟩
    rw [← ht] at e1 e4
    unfold StQ
    rw [owQ_step c t d (by omega), add_right_comm]
    iintro ⟨#HK, ⟨HS, HO⟩, HX⟩
    ihave ⟨⟨HQ, HM, HA, Hi⟩, Hback⟩ := (S6_lt A c (l₁ := d + 1) (l₂ := 0) (l₃ := 0) (l₄ := 0) (l₅ := 0) (l₆ := 0) (n := 0) (m := 1) t (by omega)
      (fun j hj => by
        have hj' : j.val ≠ t.val := fun e => hj (Fin.ext e)
        have := dev_lt j
        unfold stg; (repeat' split) <;> omega)
      (by unfold stg; (repeat' split) <;> omega) (by unfold stg; (repeat' split) <;> omega)) $$ HS
    iapply (run_seq (send_q A κ c t (by omega) e1 e2 e3 (Fin.ext e4) (owQ c (d + 1) + owP c 0))) $$ [HQ HO]
    · isplitr; · iexact HK
      isplitl [HQ] <;> iassumption
    iintro %_ ⟨HO, HQ⟩
    iapply hk
    isplitr; · iexact HK
    isplitr [HX]
    rotate_left
    · iexact HX
    unfold StQ
    isplitr [HO]
    rotate_left
    · iexact HO
    iapply Hback
    isplitl [HQ]; · iexact HQ
    isplitl [HM]; · iapply (RM_lo A c t (by omega) (by omega)) $$ HM
    isplitl [HA]; · iapply (RA_lo A c t (by omega) (by omega)) $$ HA
    iexact Hi
  · next h =>
    have hd := hn h
    refine Entails.trans (BIBase.Entails.of_eq ?_) hk
    unfold StQ
    have e : S6 A c d 0 0 0 0 0 = S6 A c (d + 1) 0 0 0 0 0 :=
      S6_congr A c (fun t => by unfold stg; have := dev_lt t; (repeat' split) <;> omega)
    rw [owQ_skip c d hd, e]

/-! ## Answering -/

/-- The slots not lent to a transfer once the sites at distance at most `d` have run. -/
def SL (d : ℕ) : sProp 𝕄 :=
  iprop((if 1 ≤ d ∧ c.val + 1 ≤ 7 then emp else slots c 1) ∗ (if 2 ≤ d ∧ c.val + 2 ≤ 7 then emp else slots c 0))

/-- The results are out to the devices at distance at most `d`. -/
def StP (d : ℕ) : sProp 𝕄 :=
  iprop(S6 A c 7 d 0 0 0 0 ∗ owe c (owP c d) ∗ SL c d ∗ qsFree c ∗ cp0 c ∗ KV A c)

theorem StP_skip (d : ℕ) (h : 7 < c.val + (d + 1)) : StP A c d = StP A c (d + 1) := by
  unfold StP SL
  have e1 : owP c d = owP c (d + 1) := owP_skip c d (by omega)
  have e2 : S6 A c 7 d 0 0 0 0 = S6 A c 7 (d + 1) 0 0 0 0 :=
    S6_congr A c (fun t => by unfold stg; have := dev_lt t; (repeat' split) <;> omega)
  rw [e1, e2]
  congr 3
  congr 1
  · rcases (by omega : d = 0 ∨ 1 ≤ d) with h0 | h0
    · rw [if_neg (by omega), if_neg (by omega)]
    · by_cases h' : c.val + 1 ≤ 7
      · rw [if_pos (by omega), if_pos (by omega)]
      · rw [if_neg (by omega), if_neg (by omega)]
  · by_cases h' : 2 ≤ d ∧ c.val + 2 ≤ 7
    · rw [if_pos h', if_pos (by omega)]
    · rw [if_neg h', if_neg (by omega)]

theorem SL_low (d : ℕ) (hd : d < 2) (h : c.val + (d + 1) ≤ 7) :
    (SL c d : sProp 𝕄) ⊢ iprop(slots c ((d + 1) % 2) ∗ SL c (d + 1)) := by
  unfold SL
  obtain rfl | rfl : d = 0 ∨ d = 1 := by omega
  · rw [if_neg (by omega), if_neg (by omega), if_pos (by omega), if_neg (by omega)]
    iintro ⟨H1, H2⟩
    isplitl [H1]; · iexact H1
    isplitr; · iempintro
    iexact H2
  · rw [if_pos (by omega), if_neg (by omega), if_pos (by omega), if_pos (by omega)]
    iintro ⟨-, H2⟩
    isplitl [H2]; · iexact H2
    isplitr <;> iempintro
theorem SL_high (d : ℕ) (hd : 2 ≤ d) : (SL c d : sProp 𝕄) = SL c (d + 1) := by
  unfold SL
  by_cases h1 : c.val + 1 ≤ 7 <;> by_cases h2 : c.val + 2 ≤ 7
  · rw [if_pos (by omega), if_pos (by omega), if_pos (by omega), if_pos (by omega)]
  · rw [if_pos (by omega), if_neg (by omega), if_pos (by omega), if_neg (by omega)]
  · omega
  · rw [if_neg (by omega), if_neg (by omega), if_neg (by omega), if_neg (by omega)]

/-- A site at distance one or two. -/
theorem low_site (d : ℕ) (hd : d < 2) (b : Fin 2) (hb : b.val = (d + 1) % 2) {p : Prop} [Decidable p]
    (hp : p → c.val + (d + 1) ≤ 7) (hn : ¬p → 7 < c.val + (d + 1))
    {β : Type} {part : p → Prog (TpuEff nD τ sig (Elt F) Λ₀ .tc) β}
    (hpart : ∀ (h : p) (t : Dev nD), t.val = c.val + (d + 1) →
      lowPre A κ c t b.val (owP c (d + 1) + tallyAt (cl t (prN c 1)) () NM) ⊢ WP 𝒱 c (part h) fun _ =>
        lowPost A c t b.val (owP c (d + 1) + tallyAt (cl t (prN c 1)) () NM))
    {offS offR : p → Fin 2 → ℕ} {offd : p → Fin 5 → ℕ} {offs : Fin 5 → ℕ} {dev : p → Dev nD}
    (hos : offs = ![b.val, 0, 0, 0, 0])
    (hf : ∀ h : p, offS h = ![c.val + (d + 1), 1] ∧ offR h = ![c.val, 1] ∧ offd h = ![c.val, 0, 0, 0, 0] ∧ (dev h).val = c.val + (d + 1))
    {iS : ∀ h : p, ∀ a, offS h a + S1x1.size a ≤ S8x2.size a} {iR : ∀ h : p, ∀ a, offR h a + S1x1.size a ≤ S8x2.size a}
    {iod : ∀ h : p, ∀ a, offd h a + S1x2x8x1x1024.size a ≤ S8x2x8x1x1024.size a} {ios}
    {h4 : ∀ h : p, (pmSlot (offd h) (iod h)).view.ref.isScScratch = false} {h1 : p → (mbSlot offs ios).view.WordExact} {h2 : ∀ h : p, (pmSlot (offd h) (iod h)).view.WordExact}
    {h3 : ∀ h : p, DmaTarget.Typed (nD := nD) (τ := τ) .vmem (.dma (sem2 cc0_scratch12 (offR h) (iR h)))
      (.remote (p := .tc) (Dev.tc (dev h)) (pmSlot (offd h) (iod h)) (.dma (sem2 cc0_scratch11 (offS h) (iS h))) (h4 h))}
    {α : Type} {k : PUnit → Prog (TpuEff nD τ sig (Elt F) Λ₀ .tc) α} {R : α → sProp 𝕄} {X : sProp 𝕄}
    (hk : iprop(Know A κ ∗ StP A c (d + 1) ∗ X) ⊢ WP 𝒱 c (k ⟨⟩) R) :
    iprop(Know A κ ∗ StP A c d ∗ X) ⊢ WP 𝒱 c
      (if h : p then part h >>= fun _ : β => Prog.lift (.enqueueDma (mbSlot offs ios) (.remote (Dev.tc (dev h)) (pmSlot (offd h) (iod h)) (.dma (sem2 cc0_scratch11 (offS h) (iS h))) (h4 h))
          (.dma (sem2 cc0_scratch12 (offR h) (iR h))) (h1 h) (h2 h) (h3 h)) >>= fun _ : PUnit => k ⟨⟩
        else k ⟨⟩) R := by
  have hc := dev_lt c
  split
  · next h =>
    obtain ⟨e1, e2, e3, e4⟩ := hf h
    have hd' := hp h
    obtain ⟨t, ht⟩ : ∃ t : Dev nD, t.val = c.val + (d + 1) := ⟨dv (c.val + (d + 1)), dv_of (by omega)⟩
    rw [← ht] at e1 e4
    unfold StP
    rw [owP_step c t d (by omega), add_comm (tallyAt (cl t (prN c 0)) () NA), ← add_assoc]
    have hsl := SL_low (F := F) c d hd hd'
    rw [← hb] at hsl
    iintro ⟨#HK, ⟨HS, HO, HSL, Hqs, Hcp, HKV⟩, HX⟩
    ihave ⟨Hsl, HSL⟩ := hsl $$ HSL
    ihave ⟨⟨HQ, H0, H1, Hi⟩, Hback⟩ := (S6_gt A c (l₁ := 7) (l₂ := d + 1) (l₃ := 0) (l₄ := 0) (l₅ := 0) (l₆ := 0) (n := 0) (m := 1) t (by omega)
      (fun j hj => by
        have hj' : j.val ≠ t.val := fun e => hj (Fin.ext e)
        have := dev_lt j
        unfold stg; split <;> (repeat' split) <;> omega)
      (by unfold stg; (repeat' split) <;> omega) (by unfold stg; (repeat' split) <;> omega)) $$ HS
    iapply (run_seq (hpart h t ht)) $$ [HQ H0 Hqs Hcp HKV Hsl HO]
    · unfold lowPre
      isplitr; · iexact HK
      isplitl [HQ]; · iexact HQ
      isplitl [H0]; · iexact H0
      isplitl [Hqs]; · iexact Hqs
      isplitl [Hcp]; · iexact Hcp
      isplitl [HKV]; · iexact HKV
      isplitl [Hsl] <;> iassumption
    iintro %_ Hpost
    unfold lowPost
    icases Hpost with ⟨HQ, H0, Hqs, Hcp, HKV, Hmb, Hpm, HO⟩
    iapply (run_seq (send_ml A κ c t (by omega) b (by omega) e1 e2 e3 hos (Fin.ext e4) (owP c (d + 1)))) $$ [H1 HO Hmb Hpm]
    · isplitr; · iexact HK
      isplitl [H1]; · iexact H1
      isplitl [HO]; · iexact HO
      isplitl [Hmb] <;> iassumption
    iintro %_ ⟨HO, H1⟩
    iapply hk
    isplitr; · iexact HK
    isplitr [HX]
    rotate_left
    · iexact HX
    unfold StP
    isplitl [Hback HQ H0 H1 Hi]
    · iapply Hback
      isplitl [HQ]; · iexact HQ
      isplitl [H0]; · iexact H0
      isplitl [H1] <;> iassumption
    isplitl [HO]; · iexact HO
    isplitl [HSL]; · iexact HSL
    isplitl [Hqs]; · iexact Hqs
    isplitl [Hcp] <;> iassumption
  · next h =>
    rw [StP_skip A c d (hn h)]
    exact hk

/-- A site at distance three or more. -/
theorem high_site (d : ℕ) (hd : 2 ≤ d) (b : Fin 2) (hb : b.val = (d + 1) % 2) {p : Prop} [Decidable p]
    (hp : p → c.val + (d + 1) ≤ 7) (hn : ¬p → 7 < c.val + (d + 1))
    {β : Type} {part : p → Prog (TpuEff nD τ sig (Elt F) Λ₀ .tc) β}
    (hpart : ∀ (h : p) (t u : Dev nD) (O : CellTallies nD τ sig Unit), t.val = c.val + (d + 1) → u.val + 1 = c.val + d → Above 1 O →
      highPre A κ c t u O ⊢ WP 𝒱 c (part h) fun _ => highPost A c t u b.val O)
    {lb ub st : BitVec 32} (hn8 : Scf.trips lb ub st = 8) {ok : p → Scf.OK lb ub st}
    {body : p → Fin (Scf.trips lb ub st) → Unit → Prog (TpuEff nD τ sig (Elt F) Λ₀ .tc) Unit}
    (hbody : ∀ (h : p) (t : Dev nD), ∀ k : Fin (Scf.trips lb ub st), headInv A c t b k.val ⊢ WP 𝒱 c (body h k ()) fun _ => headInv A c t b (k.val + 1))
    {offW offT offU offS offR : p → Fin 2 → ℕ} {offa : p → Fin 4 → ℕ} {offb : Fin 4 → ℕ} {offd : p → Fin 5 → ℕ} {offs : Fin 5 → ℕ} {dev dev' : p → Dev nD}
    (hob : offb = ![b.val, 0, 0, 0]) (hos : offs = ![b.val, 0, 0, 0, 0])
    (hf : ∀ h : p, offW h = ![c.val + (d + 1) - 2, 1] ∧ offT h = ![c.val + (d + 1), 0] ∧ offU h = ![c.val, 0] ∧ offa h = ![c.val, 0, 0, 0] ∧ (dev' h).val = c.val + (d + 1)
      ∧ offS h = ![c.val + (d + 1), 1] ∧ offR h = ![c.val, 1] ∧ offd h = ![c.val, 0, 0, 0, 0] ∧ (dev h).val = c.val + (d + 1))
    {iW : ∀ h : p, ∀ a, offW h a + S1x1.size a ≤ S8x2.size a}
    {iT : ∀ h : p, ∀ a, offT h a + S1x1.size a ≤ S8x2.size a} {iU : ∀ h : p, ∀ a, offU h a + S1x1.size a ≤ S8x2.size a}
    {ioa : ∀ h : p, ∀ a, offa h a + S1x8x128x1024.size a ≤ S8x8x128x1024.size a} {iob}
    {iS : ∀ h : p, ∀ a, offS h a + S1x1.size a ≤ S8x2.size a} {iR : ∀ h : p, ∀ a, offR h a + S1x1.size a ≤ S8x2.size a}
    {iod : ∀ h : p, ∀ a, offd h a + S1x2x8x1x1024.size a ≤ S8x2x8x1x1024.size a} {ios}
    {w1 : ∀ h : p, (pmSlot (offd h) (iod h)).view.WordExact} {w2 : p → (mbSlot offs ios).view.WordExact}
    {g4 : ∀ h : p, (paSlot (offa h) (ioa h)).view.ref.isScScratch = false} {g1 : p → (abSlot offb iob).view.WordExact} {g2 : ∀ h : p, (paSlot (offa h) (ioa h)).view.WordExact}
    {g3 : ∀ h : p, DmaTarget.Typed (nD := nD) (τ := τ) .vmem (.dma (sem2 cc0_scratch12 (offU h) (iU h)))
      (.remote (p := .tc) (Dev.tc (dev' h)) (paSlot (offa h) (ioa h)) (.dma (sem2 cc0_scratch11 (offT h) (iT h))) (g4 h))}
    {h4 : ∀ h : p, (pmSlot (offd h) (iod h)).view.ref.isScScratch = false} {h1 : p → (mbSlot offs ios).view.WordExact} {h2 : ∀ h : p, (pmSlot (offd h) (iod h)).view.WordExact}
    {h3 : ∀ h : p, DmaTarget.Typed (nD := nD) (τ := τ) .vmem (.dma (sem2 cc0_scratch12 (offR h) (iR h)))
      (.remote (p := .tc) (Dev.tc (dev h)) (pmSlot (offd h) (iod h)) (.dma (sem2 cc0_scratch11 (offS h) (iS h))) (h4 h))}
    {α : Type} {k : PUnit → Prog (TpuEff nD τ sig (Elt F) Λ₀ .tc) α} {R : α → sProp 𝕄} {X : sProp 𝕄}
    (hk : iprop(Know A κ ∗ StP A c (d + 1) ∗ X) ⊢ WP 𝒱 c (k ⟨⟩) R) :
    iprop(Know A κ ∗ StP A c d ∗ X) ⊢ WP 𝒱 c
      (if h : p then part h >>= fun _ : β =>
          Prog.lift (.waitDma2 (sem2 cc0_scratch11 (offW h) (iW h)) (pmSlot (offd h) (iod h)) (mbSlot offs ios) (w1 h) (w2 h)) >>= fun _ : PUnit =>
          Scf.for lb ub st (ok h) () (body h) >>= fun _ : Unit =>
          Prog.lift (.enqueueDma (abSlot offb iob) (.remote (Dev.tc (dev' h)) (paSlot (offa h) (ioa h)) (.dma (sem2 cc0_scratch11 (offT h) (iT h))) (g4 h))
            (.dma (sem2 cc0_scratch12 (offU h) (iU h))) (g1 h) (g2 h) (g3 h)) >>= fun _ : PUnit =>
          Prog.lift (.enqueueDma (mbSlot offs ios) (.remote (Dev.tc (dev h)) (pmSlot (offd h) (iod h)) (.dma (sem2 cc0_scratch11 (offS h) (iS h))) (h4 h))
          (.dma (sem2 cc0_scratch12 (offR h) (iR h))) (h1 h) (h2 h) (h3 h)) >>= fun _ : PUnit => k ⟨⟩
        else k ⟨⟩) R := by
  have hc := dev_lt c
  split
  · next h =>
    obtain ⟨e0, a1, a2, a3, a4, e1, e2, e3, e4⟩ := hf h
    have hd' := hp h
    obtain ⟨t, ht⟩ : ∃ t : Dev nD, t.val = c.val + (d + 1) := ⟨dv (c.val + (d + 1)), dv_of (by omega)⟩
    obtain ⟨u, hu⟩ : ∃ u : Dev nD, u.val = c.val + (d + 1) - 2 := ⟨dv (c.val + (d + 1) - 2), dv_of (by omega)⟩
    rw [← ht] at e1 e4 a1 a4
    rw [← hu] at e0
    unfold StP
    rw [owP_step c t d (by omega), SL_high c d hd]
    iintro ⟨#HK, ⟨HS, HO, HSL, Hqs, Hcp, HKV⟩, HX⟩
    have hO := above_add (above_owP c (d + 1)) (above_add (above_tally (b := 1) t (prN c 0) NA (by rw [lv_pr]; decide)) (above_tally t (prN c 1) NM (by rw [lv_pr]; decide)))
    ihave ⟨⟨HQ, H0, H1, Hi⟩, ⟨HuQ, Hu0, Hu1, Hui⟩, Hback⟩ := (S6_gt2 A c (l₁ := 7) (l₂ := d + 1) (l₃ := 0) (l₄ := 0) (l₅ := 0) (l₆ := 0) (n := 0) (m := 1) (n' := 1) (m' := 2) t u (by omega) (by omega)
      (fun e => by have := congrArg Fin.val e; omega)
      (fun j hj hju => by
        have hj' : j.val ≠ t.val := fun e => hj (Fin.ext e)
        have hju' : j.val ≠ u.val := fun e => hju (Fin.ext e)
        have := dev_lt j
        unfold stg; split <;> (repeat' split) <;> omega)
      (by unfold stg; (repeat' split) <;> omega) (by unfold stg; (repeat' split) <;> omega)
      (by unfold stg; (repeat' split) <;> omega) (by unfold stg; (repeat' split) <;> omega)) $$ HS
    iapply (run_seq (hpart h t u _ ht (by omega) hO)) $$ [HQ Hu0 Hqs Hcp HO]
    · unfold highPre
      isplitr; · iexact HK
      isplitl [HQ]; · iexact HQ
      isplitl [Hu0]; · iexact Hu0
      isplitl [Hqs]; · iexact Hqs
      isplitl [Hcp] <;> iassumption
    iintro %_ Hpost
    unfold highPost
    icases Hpost with ⟨HQ, Hu0, Hq, Hcp, Hab, Hpa, Hpm, HO⟩
    iapply (run_seq (wait_ps A κ c u (by omega) 1 e0 ((am_mb _ _).trans Nb1.symm) (above_mono (Nat.zero_le 1) hO))) $$ [Hu1 HO]
    · isplitr; · iexact HK
      isplitl [Hu1] <;> iassumption
    iintro %_ ⟨HO, Hu1, Hmb⟩
    ihave Hmb := (psPay1 A c u b.val (by omega)) $$ Hmb
    icases HKV with ⟨Hk, Hv⟩
    iapply (run_seq (head_loop A c t b hn8 (hbody h t))) $$ [Hq Hk Hv Hab Hmb]
    · isplitl [Hq Hk Hv]
      · isplitl [Hq]; · iexact Hq
        isplitl [Hk] <;> iassumption
      isplitl [Hab] <;> iassumption
    iintro %_ ⟨⟨Hq, Hk, Hv⟩, Hab, Hmb⟩
    rw [add_comm (tallyAt (cl t (prN c 0)) () NA), ← add_assoc]
    iapply (run_seq (send_acc A κ c t (by omega) b (by omega) a1 a2 a3 hob (Fin.ext a4) (owP c (d + 1) + tallyAt (cl t (prN c 1)) () NM))) $$ [H0 HO Hab Hpa]
    · isplitr; · iexact HK
      isplitl [H0]; · iexact H0
      isplitl [HO]; · iexact HO
      isplitl [Hab] <;> iassumption
    iintro %_ ⟨HO, H0⟩
    iapply (run_seq (send_ml A κ c t (by omega) b (by omega) e1 e2 e3 hos (Fin.ext e4) (owP c (d + 1)))) $$ [H1 HO Hmb Hpm]
    · isplitr; · iexact HK
      isplitl [H1]; · iexact H1
      isplitl [HO]; · iexact HO
      isplitl [Hmb] <;> iassumption
    iintro %_ ⟨HO, H1⟩
    iapply hk
    isplitr; · iexact HK
    isplitr [HX]
    rotate_left
    · iexact HX
    unfold StP
    isplitl [Hback HQ H0 H1 Hi HuQ Hu0 Hu1 Hui]
    · iapply Hback $$ [HQ H0 H1 Hi]
      · isplitl [HQ]; · iexact HQ
        isplitl [H0]; · iexact H0
        isplitl [H1] <;> iassumption
      · isplitl [HuQ]; · iapply (RQ_hi c u (by omega) (by omega)) $$ HuQ
        isplitl [Hu0]; · iexact Hu0
        isplitl [Hu1] <;> iassumption
    isplitl [HO]; · iexact HO
    isplitl [HSL]; · iexact HSL
    isplitl [Hq]; · iexists (A.q t); iexact Hq
    isplitl [Hcp]; · iexact Hcp
    isplitl [Hk] <;> iassumption
  · next h =>
    rw [StP_skip A c d (hn h)]
    exact hk

end Cert.KernelIdeal.Attn

end
-- ==== Proof.Parts.lean ====
/-
  The body's parts at this program's buffers.
-/
module

public import proofs.«01_k».proof.Proof.FirstHalf

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

abbrev prog15 : Prog (TpuEff nD τ sig (Elt F) Λ₀ .tc) (Σ' (d0 : Dev nD) (v2 : BitVec 32), BitVec 1) :=
  k0_part15_skel (F := F) aQ (Memref.isWhole_whole _) aK (Memref.isWhole_whole _) aV (Memref.isWhole_whole _) aM (Memref.isWhole_whole _) aO (Memref.isWhole_whole _) aQB (Memref.isWhole_whole _) aPA (Memref.isWhole_whole _) aQS (Memref.isWhole_whole _) aCS (Memref.isWhole_whole _) aAB (Memref.isWhole_whole _) aMB (Memref.isWhole_whole _) aPM (Memref.isWhole_whole _) am (Memref.isWhole_whole _) al (Memref.isWhole_whole _) aacc (Memref.isWhole_whole _) amx (Memref.isWhole_whole _) cc0_scratch9 cc0_scratch10 cc0_scratch11 cc0_scratch12 cc0_scratch13
abbrev prog16 (d0 : Dev nD) (v2 : BitVec 32) (v29 : BitVec 1) : Prog (TpuEff nD τ sig (Elt F) Λ₀ .tc) (FVec F S8x1x1024 .f32) :=
  k0_part16_skel (F := F) aQ (Memref.isWhole_whole _) aK (Memref.isWhole_whole _) aV (Memref.isWhole_whole _) aM (Memref.isWhole_whole _) aO (Memref.isWhole_whole _) aQB (Memref.isWhole_whole _) aPA (Memref.isWhole_whole _) aQS (Memref.isWhole_whole _) aCS (Memref.isWhole_whole _) aAB (Memref.isWhole_whole _) aMB (Memref.isWhole_whole _) aPM (Memref.isWhole_whole _) am (Memref.isWhole_whole _) al (Memref.isWhole_whole _) aacc (Memref.isWhole_whole _) amx (Memref.isWhole_whole _) cc0_scratch9 cc0_scratch10 cc0_scratch11 cc0_scratch12 cc0_scratch13 d0 v2 v29
abbrev prog17 (d0 : Dev nD) (v2 : BitVec 32) (v56 : FVec F S8x1x1024 .f32) :
    Prog (TpuEff nD τ sig (Elt F) Λ₀ .tc) (Σ' (v81 : FVec F S8x1x1024 .f32), FVec F S8x1x1024 .f32) :=
  k0_part17_skel (F := F) aQ (Memref.isWhole_whole _) aK (Memref.isWhole_whole _) aV (Memref.isWhole_whole _) aM (Memref.isWhole_whole _) aO (Memref.isWhole_whole _) aQB (Memref.isWhole_whole _) aPA (Memref.isWhole_whole _) aQS (Memref.isWhole_whole _) aCS (Memref.isWhole_whole _) aAB (Memref.isWhole_whole _) aMB (Memref.isWhole_whole _) aPM (Memref.isWhole_whole _) am (Memref.isWhole_whole _) al (Memref.isWhole_whole _) aacc (Memref.isWhole_whole _) amx (Memref.isWhole_whole _) cc0_scratch9 cc0_scratch10 cc0_scratch11 cc0_scratch12 cc0_scratch13 d0 v2 v56
abbrev prog18 (d0 : Dev nD) (v2 : BitVec 32) (v81 v83 : FVec F S8x1x1024 .f32) : Prog (TpuEff nD τ sig (Elt F) Λ₀ .tc) PUnit :=
  k0_part18_skel (F := F) aQ (Memref.isWhole_whole _) aK (Memref.isWhole_whole _) aV (Memref.isWhole_whole _) aM (Memref.isWhole_whole _) aO (Memref.isWhole_whole _) aQB (Memref.isWhole_whole _) aPA (Memref.isWhole_whole _) aQS (Memref.isWhole_whole _) aCS (Memref.isWhole_whole _) aAB (Memref.isWhole_whole _) aMB (Memref.isWhole_whole _) aPM (Memref.isWhole_whole _) am (Memref.isWhole_whole _) al (Memref.isWhole_whole _) aacc (Memref.isWhole_whole _) amx (Memref.isWhole_whole _) cc0_scratch9 cc0_scratch10 cc0_scratch11 cc0_scratch12 cc0_scratch13 d0 v2 v81 v83
abbrev prog19 (d0 : Dev nD) (v2 : BitVec 32) : Prog (TpuEff nD τ sig (Elt F) Λ₀ .tc) (BitVec 1) :=
  k0_part19_skel (F := F) aQ (Memref.isWhole_whole _) aK (Memref.isWhole_whole _) aV (Memref.isWhole_whole _) aM (Memref.isWhole_whole _) aO (Memref.isWhole_whole _) aQB (Memref.isWhole_whole _) aPA (Memref.isWhole_whole _) aQS (Memref.isWhole_whole _) aCS (Memref.isWhole_whole _) aAB (Memref.isWhole_whole _) aMB (Memref.isWhole_whole _) aPM (Memref.isWhole_whole _) am (Memref.isWhole_whole _) al (Memref.isWhole_whole _) aacc (Memref.isWhole_whole _) amx (Memref.isWhole_whole _) cc0_scratch9 cc0_scratch10 cc0_scratch11 cc0_scratch12 cc0_scratch13 d0 v2
abbrev progAll : Prog (TpuEff nD τ sig (Elt F) Λ₀ .tc) PUnit :=
  cc0__attn_body_skel (F := F) aQ (Memref.isWhole_whole _) aK (Memref.isWhole_whole _) aV (Memref.isWhole_whole _) aM (Memref.isWhole_whole _) aO (Memref.isWhole_whole _) aQB (Memref.isWhole_whole _) aPA (Memref.isWhole_whole _) aQS (Memref.isWhole_whole _) aCS (Memref.isWhole_whole _) aAB (Memref.isWhole_whole _) aMB (Memref.isWhole_whole _) aPM (Memref.isWhole_whole _) am (Memref.isWhole_whole _) al (Memref.isWhole_whole _) aacc (Memref.isWhole_whole _) amx (Memref.isWhole_whole _) cc0_scratch9 cc0_scratch10 cc0_scratch11 cc0_scratch12 cc0_scratch13

end Cert.KernelIdeal.Attn

end
-- ==== Proof.FirstRun.lean ====
/-
  The first part of the body: the queries sent to every device below, and the device next above answered.
-/
module

public import proofs.«01_k».proof.Proof.Parts

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- What a site that sends the queries to the device at distance `d` is given. -/
abbrev QFact (d : ℕ) (cond : BitVec 1) (oS oR : Fin 1 → ℕ) (o : Fin 4 → ℕ) (dev : ℕ) : Prop :=
  (cond = 1#1 → d ≤ c.val ∧ oS = ![c.val - d] ∧ oR = ![c.val] ∧ o = ![c.val, 0, 0, 0] ∧ dev = c.val - d) ∧ (¬cond = 1#1 → c.val < d)

theorem q_facts : QFact c 1 (k0_cond1 c) (k0_off1 c) (k0_off2 c) (k0_off3 c) (k0_dev1 c)
    ∧ QFact c 2 (k0_cond2 c) (k0_off4 c) (k0_off5 c) (k0_off6 c) (k0_dev2 c)
    ∧ QFact c 3 (k0_cond3 c) (k0_off7 c) (k0_off8 c) (k0_off9 c) (k0_dev3 c)
    ∧ QFact c 4 (k0_cond4 c) (k0_off10 c) (k0_off11 c) (k0_off12 c) (k0_dev4 c)
    ∧ QFact c 5 (k0_cond5 c) (k0_off13 c) (k0_off14 c) (k0_off15 c) (k0_dev5 c)
    ∧ QFact c 6 (k0_cond6 c) (k0_off16 c) (k0_off17 c) (k0_off18 c) (k0_dev6 c)
    ∧ QFact c 7 (k0_cond7 c) (k0_off19 c) (k0_off20 c) (k0_off21 c) (k0_dev7 c) := by
  refine ⟨?_, ?_, ?_, ?_, ?_, ?_, ?_⟩ <;> (revert c; decide +kernel)

/-- What a site that answers the device at distance one or two is given. -/
abbrev LowFact (d : ℕ) (cond : BitVec 1) (oR : Fin 1 → ℕ) (o : Fin 4 → ℕ) (oS oT : Fin 2 → ℕ) (oa : Fin 4 → ℕ) (dev : ℕ)
    (mS mR : Fin 2 → ℕ) (mo : Fin 5 → ℕ) (dev' : ℕ) : Prop :=
  (cond = 1#1 → c.val + d ≤ 7 ∧ (oR = ![c.val + d] ∧ o = ![c.val + d, 0, 0, 0] ∧ oS = ![c.val + d, 0] ∧ oT = ![c.val, 0] ∧ oa = ![c.val, 0, 0, 0] ∧ dev = c.val + d)
    ∧ mS = ![c.val + d, 1] ∧ mR = ![c.val, 1] ∧ mo = ![c.val, 0, 0, 0, 0] ∧ dev' = c.val + d) ∧ (¬cond = 1#1 → 7 < c.val + d)

theorem low_facts : LowFact c 1 (k0_cond8 c) (k0_off22 c) (k0_off23 c) (k0_off28 c) (k0_off29 c) (k0_off30 c) (k0_dev8 c) (k0_off31 c) (k0_off32 c) (k0_off33 c) (k0_dev9 c)
    ∧ LowFact c 2 (k0_cond9 c) (k0_off34 c) (k0_off35 c) (k0_off40 c) (k0_off41 c) (k0_off42 c) (k0_dev10 c) (k0_off43 c) (k0_off44 c) (k0_off45 c) (k0_dev11 c) := by
  refine ⟨?_, ?_⟩ <;> (revert c; decide +kernel)

/-- What a site that answers a device further away is given. -/
abbrev HighFact (d : ℕ) (cond : BitVec 1) (oR : Fin 1 → ℕ) (o : Fin 4 → ℕ) (oW : Fin 2 → ℕ) (oa : Fin 4 → ℕ) (mW : Fin 2 → ℕ) (mo : Fin 5 → ℕ)
    (oS oT : Fin 2 → ℕ) (dev : ℕ) (mS mR : Fin 2 → ℕ) (dev' : ℕ) : Prop :=
  (cond = 1#1 → c.val + d ≤ 7 ∧ (oR = ![c.val + d] ∧ o = ![c.val + d, 0, 0, 0] ∧ oW = ![c.val + d - 2, 0])
    ∧ mW = ![c.val + d - 2, 1] ∧ oS = ![c.val + d, 0] ∧ oT = ![c.val, 0] ∧ oa = ![c.val, 0, 0, 0] ∧ dev = c.val + d
    ∧ mS = ![c.val + d, 1] ∧ mR = ![c.val, 1] ∧ mo = ![c.val, 0, 0, 0, 0] ∧ dev' = c.val + d) ∧ (¬cond = 1#1 → 7 < c.val + d)

theorem high_facts :
    HighFact c 3 (k0_cond10 c) (k0_off46 c) (k0_off47 c) (k0_off48 c) (k0_off49 c) (k0_off50 c) (k0_off51 c) (k0_off56 c) (k0_off57 c) (k0_dev12 c) (k0_off58 c) (k0_off59 c) (k0_dev13 c)
    ∧ HighFact c 4 (k0_cond11 c) (k0_off60 c) (k0_off61 c) (k0_off62 c) (k0_off63 c) (k0_off64 c) (k0_off65 c) (k0_off70 c) (k0_off71 c) (k0_dev14 c) (k0_off72 c) (k0_off73 c) (k0_dev15 c)
    ∧ HighFact c 5 (k0_cond12 c) (k0_off74 c) (k0_off75 c) (k0_off76 c) (k0_off77 c) (k0_off78 c) (k0_off79 c) (k0_off84 c) (k0_off85 c) (k0_dev16 c) (k0_off86 c) (k0_off87 c) (k0_dev17 c)
    ∧ HighFact c 6 (k0_cond13 c) (k0_off88 c) (k0_off89 c) (k0_off90 c) (k0_off91 c) (k0_off92 c) (k0_off93 c) (k0_off98 c) (k0_off99 c) (k0_dev18 c) (k0_off100 c) (k0_off101 c) (k0_dev19 c)
    ∧ HighFact c 7 (k0_cond14 c) (k0_off102 c) (k0_off103 c) (k0_off104 c) (k0_off105 c) (k0_off106 c) (k0_off107 c) (k0_off112 c) (k0_off113 c) (k0_dev20 c) (k0_off114 c) (k0_off115 c) (k0_dev21 c) := by
  refine ⟨?_, ?_, ?_, ?_, ?_⟩ <;> (revert c; decide +kernel)

/-- A loop over the heads: its trips and the offsets of its accesses. -/
abbrev LoopFact (b n : ℕ) (o3 : Fin n → Fin 3 → ℕ) (o4 : Fin n → Fin 4 → ℕ) (oa ob : Fin n → Fin 5 → ℕ) : Prop :=
  n = 8 ∧ ∀ k : Fin n, o3 k = ![k.val, 0, 0] ∧ o4 k = ![b, k.val, 0, 0] ∧ oa k = ![b, 0, k.val, 0, 0] ∧ ob k = ![b, 1, k.val, 0, 0]

theorem loop_facts : LoopFact 1 _ k0_off24 k0_off25 k0_off26 k0_off27 ∧ LoopFact 0 _ k0_off36 k0_off37 k0_off38 k0_off39
    ∧ LoopFact 1 _ k0_off52 k0_off53 k0_off54 k0_off55 ∧ LoopFact 0 _ k0_off66 k0_off67 k0_off68 k0_off69
    ∧ LoopFact 1 _ k0_off80 k0_off81 k0_off82 k0_off83 ∧ LoopFact 0 _ k0_off94 k0_off95 k0_off96 k0_off97
    ∧ LoopFact 1 _ k0_off108 k0_off109 k0_off110 k0_off111 := by
  refine ⟨?_, ?_, ?_, ?_, ?_, ?_, ?_⟩ <;> decide +kernel

/-- Reading the device's number. -/
theorem dev_op {α : Type} {k : Dev nD → Prog (TpuEff nD τ sig (Elt F) Λ₀ .tc) α} {P : sProp 𝕄} {R : α → sProp 𝕄}
    (h : P ⊢ WP 𝒱 c (k c) R) : P ⊢ WP 𝒱 c (Prog.lift .deviceId >>= k) R :=
  h.trans (BIBase.Entails.of_eq (wp_deviceId 𝒱 (c : Thread nD τ) none Set.univ (k := k)).symm)

theorem above_low (t : Dev nD) (d : ℕ) :
    Above 1 ((owP c d + tallyAt (cl t (prN c 1)) () NM) + tallyAt (cl t (prN c 0)) () NA) :=
  above_add (above_add (above_owP c d) (above_tally t (prN c 1) NM (by rw [lv_pr]; decide))) (above_tally (b := 1) t (prN c 0) NA (by rw [lv_pr]; decide))

set_option maxHeartbeats 8000000 in
/-- The first part: all queries sent, and the device at distance one answered. -/
theorem run15 :
    iprop(Know A κ ∗ StQ A c 0 ∗ SL c 0 ∗ qsFree c ∗ cp0 c ∗ KV A c) ⊢ WP 𝒱 c prog15 fun x => iprop(⌜x.1 = c⌝ ∗ Know A κ ∗ StP A c 1) := by
  obtain ⟨q1, q2, q3, q4, q5, q6, q7⟩ := q_facts c
  obtain ⟨l1, -⟩ := low_facts c
  obtain ⟨lp, -⟩ := loop_facts
  unfold prog15 k0_part15_skel
  refine dev_op c ?_
  extract_lets
  refine q_site A κ c 0 (fun h => (q1.1 h).1) q1.2 (fun h => (q1.1 h).2) ?_
  refine q_site A κ c 1 (fun h => (q2.1 h).1) q2.2 (fun h => (q2.1 h).2) ?_
  refine q_site A κ c 2 (fun h => (q3.1 h).1) q3.2 (fun h => (q3.1 h).2) ?_
  refine q_site A κ c 3 (fun h => (q4.1 h).1) q4.2 (fun h => (q4.1 h).2) ?_
  refine q_site A κ c 4 (fun h => (q5.1 h).1) q5.2 (fun h => (q5.1 h).2) ?_
  refine q_site A κ c 5 (fun h => (q6.1 h).1) q6.2 (fun h => (q6.1 h).2) ?_
  refine q_site A κ c 6 (fun h => (q7.1 h).1) q7.2 (fun h => (q7.1 h).2) ?_
  have e : iprop(Know A κ ∗ StQ A c (6 + 1) ∗ SL c 0 ∗ qsFree c ∗ cp0 c ∗ KV A c) ⊢ iprop(Know A κ ∗ StP A c 0 ∗ emp) := by
    unfold StQ StP
    rw [owQ_done, zero_add]
    iintro ⟨HK, ⟨HS, HO⟩, HR⟩
    isplitl [HK]; · iexact HK
    isplitl
    rotate_left
    · iempintro
    isplitl [HS]; · iexact HS
    isplitl [HO] <;> iassumption
  refine e.trans ?_
  refine low_site A κ c 0 (by omega) 1 rfl (fun h => (l1.1 h).1) l1.2 ?_ rfl (fun h => (l1.1 h).2.2) ?_
  · intro h t ht
    obtain ⟨-, ⟨e1, e2, e3, e4, e5, e6⟩, -⟩ := l1.1 h
    rw [← ht] at e1 e2 e3 e6
    rw [k0_part1_eq_skeleton]
    unfold k0_part1_skel
    refine low_part A κ c t (by omega) 1 (by show 1 = _; omega) e1 e2 lp.1 (fun k => ?_) e3 e4 e5 rfl (Fin.ext e6) _ (above_low c t _)
    obtain ⟨f1, f2, f3, f4⟩ := lp.2 k
    exact head_trip A c t 1 ⟨k.val, lp.1 ▸ k.isLt⟩ f1 f2 f3 f4
  · iintro ⟨HK, HP, -⟩
    iapply run_pure
    isplitr; · ipureintro; rfl
    isplitl [HK]; · iexact HK
    iexact HP

end Cert.KernelIdeal.Attn

end
-- ==== Proof.Values.lean ====
/-
  The values of the body's second half, and the loop over the heads of the device's own keys.
-/
module

public import proofs.«01_k».proof.Proof.HeadLoop

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-! ## The values -/

/-- The maxima, the sums and the accumulators of the device's own keys. -/
def dM : S8x1x1024.Idx → Elt F .f32 := fun i =>
  k0_pay60 (headRow (A.q c) (i 0)) (headRow (A.k c) (i 0)) (A.msk c) (cs (N := 1) 0 (tl i))
def dL : S8x1x1024.Idx → Elt F .f32 := fun i =>
  k0_pay61 (headRow (A.q c) (i 0)) (headRow (A.k c) (i 0)) (A.msk c) (cs (N := 1) 0 (tl i))
def dA : S8x128x1024.Idx → Elt F .f32 := fun i =>
  k0_pay62 (headRow (A.q c) (i 0)) (headRow (A.k c) (i 0)) (headRow (A.v c) (i 0)) (A.msk c) (cs (N := 1) 0 (tl i))

/-- Plane `p` of what device `s` sent: its maxima (0), its sums (1). -/
def pmRow (s : Dev nD) (p : Fin 2) : Vec F S1x1x8x1x1024 .bf16 := fun i => pmAll A c (cs (N := 8) s (cs (N := 2) p (tl (tl i))))

/-- The maxima over the own keys and those of the devices at distance at most `e`. -/
def mxA : ℕ → (S8x1x1024.Idx → Elt F .f32)
  | 0 => k0_pay63 (dM A c)
  | e + 1 => if e + 1 ≤ c.val then k0_pay64 (mxA e) (pmRow A c (dv (c.val - (e + 1))) 0) else mxA e
/-- The sums, and the accumulators, against the maxima over all. -/
def lA : ℕ → (S8x1x1024.Idx → Elt F .f32)
  | 0 => k0_pay73 (k0_pay72 (dM A c) (mxA A c 7) (dL A c))
  | e + 1 => if e + 1 ≤ c.val then
      k0_pay76 (k0_pay13 (pmRow A c (dv (c.val - (e + 1))) 0) (mxA A c 7)) (lA e) (pmRow A c (dv (c.val - (e + 1))) 1) else lA e
def aA : ℕ → (S8x128x1024.Idx → Elt F .f32)
  | 0 => k0_pay74 (k0_pay71 (dM A c) (mxA A c 7)) (dA A c)
  | e + 1 => if e + 1 ≤ c.val then
      k0_pay75 (k0_pay14 (pmRow A c (dv (c.val - (e + 1))) 0) (mxA A c 7) (aA e)
        (accP (A.q c) (A.k (dv (c.val - (e + 1)))) (A.v (dv (c.val - (e + 1)))))) else aA e
/-- The device's block of the result. -/
def outA : S8x128x1024.Idx → Elt F .bf16 := k0_pay89 (aA A c 7) (lA A c 7)

/-! ## Whole buffers -/

theorem idx3 (inb : ∀ a, (![0, 0, 0] : Fin 3 → ℕ) a + S8x1x1024.size a ≤ S8x1x1024.size a) (x : S8x1x1024.Idx) :
    (Rect.unit (s := S8x1x1024) ![0, 0, 0] S8x1x1024.size inb).idx x = x := by
  funext a
  refine Fin.ext ?_
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem idx4 (inb : ∀ a, (![0, 0, 0] : Fin 3 → ℕ) a + S8x128x1024.size a ≤ S8x128x1024.size a) (x : S8x128x1024.Idx) :
    (Rect.unit (s := S8x128x1024) ![0, 0, 0] S8x128x1024.size inb).idx x = x := by
  funext a
  refine Fin.ext ?_
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem idxM (inb : ∀ a, (![0, 0] : Fin 2 → ℕ) a + S1024x1024.size a ≤ S1024x1024.size a) (x : S1024x1024.Idx) :
    (Rect.unit (s := S1024x1024) ![0, 0] S1024x1024.size inb).idx x = x := by
  funext a
  refine Fin.ext ?_
  match a with
  | ⟨0, _⟩ => show 0 + 1 * (x 0).val = (x 0).val; omega
  | ⟨1, _⟩ => show 0 + 1 * (x 1).val = (x 1).val; omega

section Whole
variable {inb3 : ∀ a, (![0, 0, 0] : Fin 3 → ℕ) a + S8x1x1024.size a ≤ S8x1x1024.size a}
  {inb4 : ∀ a, (![0, 0, 0] : Fin 3 → ℕ) a + S8x128x1024.size a ≤ S8x128x1024.size a}

abbrev all3 (inb : ∀ a, (![0, 0, 0] : Fin 3 → ℕ) a + S8x1x1024.size a ≤ S8x1x1024.size a) : Rect S8x1x1024 := Rect.unit (s := S8x1x1024) ![0, 0, 0] S8x1x1024.size inb
abbrev all4 (inb : ∀ a, (![0, 0, 0] : Fin 3 → ℕ) a + S8x128x1024.size a ≤ S8x128x1024.size a) : Rect S8x128x1024 := Rect.unit (s := S8x128x1024) ![0, 0, 0] S8x128x1024.size inb

theorem mx_write (f w : S8x1x1024.Idx → Elt F .f32) : (amx.access (all3 inb3)).write (Elt F) f w Finset.univ = w :=
  funext fun i => by
    have hw := View.write_emb_of_mem (v := amx.access (all3 inb3)) (Val := Elt F) f w (Finset.mem_univ i)
    rw [show (amx.access (all3 inb3)).emb i = i from idx3 inb3 i] at hw
    exact hw
theorem l_write (f w : S8x1x1024.Idx → Elt F .f32) : (al.access (all3 inb3)).write (Elt F) f w Finset.univ = w :=
  funext fun i => by
    have hw := View.write_emb_of_mem (v := al.access (all3 inb3)) (Val := Elt F) f w (Finset.mem_univ i)
    rw [show (al.access (all3 inb3)).emb i = i from idx3 inb3 i] at hw
    exact hw
theorem acc_write (f w : S8x128x1024.Idx → Elt F .f32) : (aacc.access (all4 inb4)).write (Elt F) f w Finset.univ = w :=
  funext fun i => by
    have hw := View.write_emb_of_mem (v := aacc.access (all4 inb4)) (Val := Elt F) f w (Finset.mem_univ i)
    rw [show (aacc.access (all4 inb4)).emb i = i from idx4 inb4 i] at hw
    exact hw
theorem o_write (f w : S8x128x1024.Idx → Elt F .bf16) : (aO.access (all4 inb4)).write (Elt F) f w Finset.univ = w :=
  funext fun i => by
    have hw := View.write_emb_of_mem (v := aO.access (all4 inb4)) (Val := Elt F) f w (Finset.mem_univ i)
    rw [show (aO.access (all4 inb4)).emb i = i from idx4 inb4 i] at hw
    exact hw

variable {c}

/-- Loads and stores of whole buffers. -/
theorem mx_load {f : S8x1x1024.Idx → Elt F .f32} {hl} : pts c cc0_scratch8 Finset.univ fullShare f ⊢ WP 𝒱 c (Prog.lift (.load amx (all3 inb3).toLoadRect hl)) fun v =>
    iprop(⌜v = f⌝ ∗ pts c cc0_scratch8 Finset.univ fullShare f) := by
  iintro H
  iapply (run_last (load_op c (m := amx) (S := Finset.univ) (f := f) (Finset.subset_univ _))) $$ H
  iintro %v ⟨%e, H⟩
  isplitr; · ipureintro; exact e.trans (funext fun x => congrArg f (idx3 inb3 x))
  iexact H
theorem m_load {f : S8x1x1024.Idx → Elt F .f32} {hl} : pts c cc0_scratch5 Finset.univ fullShare f ⊢ WP 𝒱 c (Prog.lift (.load am (all3 inb3).toLoadRect hl)) fun v =>
    iprop(⌜v = f⌝ ∗ pts c cc0_scratch5 Finset.univ fullShare f) := by
  iintro H
  iapply (run_last (load_op c (m := am) (S := Finset.univ) (f := f) (Finset.subset_univ _))) $$ H
  iintro %v ⟨%e, H⟩
  isplitr; · ipureintro; exact e.trans (funext fun x => congrArg f (idx3 inb3 x))
  iexact H
theorem l_load {f : S8x1x1024.Idx → Elt F .f32} {hl} : pts c cc0_scratch6 Finset.univ fullShare f ⊢ WP 𝒱 c (Prog.lift (.load al (all3 inb3).toLoadRect hl)) fun v =>
    iprop(⌜v = f⌝ ∗ pts c cc0_scratch6 Finset.univ fullShare f) := by
  iintro H
  iapply (run_last (load_op c (m := al) (S := Finset.univ) (f := f) (Finset.subset_univ _))) $$ H
  iintro %v ⟨%e, H⟩
  isplitr; · ipureintro; exact e.trans (funext fun x => congrArg f (idx3 inb3 x))
  iexact H
theorem acc_load {f : S8x128x1024.Idx → Elt F .f32} {hl} : pts c cc0_scratch7 Finset.univ fullShare f ⊢ WP 𝒱 c (Prog.lift (.load aacc (all4 inb4).toLoadRect hl)) fun v =>
    iprop(⌜v = f⌝ ∗ pts c cc0_scratch7 Finset.univ fullShare f) := by
  iintro H
  iapply (run_last (load_op c (m := aacc) (S := Finset.univ) (f := f) (Finset.subset_univ _))) $$ H
  iintro %v ⟨%e, H⟩
  isplitr; · ipureintro; exact e.trans (funext fun x => congrArg f (idx4 inb4 x))
  iexact H
theorem cs_load {f : S8x128x1024.Idx → Elt F .bf16} {hl} : pts c cc0_scratch1 Finset.univ fullShare f ⊢ WP 𝒱 c (Prog.lift (.load aCS (all4 inb4).toLoadRect hl)) fun v =>
    iprop(⌜v = f⌝ ∗ pts c cc0_scratch1 Finset.univ fullShare f) := by
  iintro H
  iapply (run_last (load_op c (m := aCS) (S := Finset.univ) (f := f) (Finset.subset_univ _))) $$ H
  iintro %v ⟨%e, H⟩
  isplitr; · ipureintro; exact e.trans (funext fun x => congrArg f (idx4 inb4 x))
  iexact H
theorem mx_store {f w : S8x1x1024.Idx → Elt F .f32} {h1 h2} : pts c cc0_scratch8 Finset.univ fullShare f ⊢ WP 𝒱 c (Prog.lift (.store amx (all3 inb3) w Finset.univ h1 h2)) fun _ =>
    pts c cc0_scratch8 Finset.univ fullShare w := by
  iintro H
  iapply (run_last (store_op c (m := amx) (r := all3 inb3) (S := Finset.univ) (f := f) (Finset.subset_univ _))) $$ H
  rw [mx_write]
  iintro %_ H
  iexact H
theorem l_store {f w : S8x1x1024.Idx → Elt F .f32} {h1 h2} : pts c cc0_scratch6 Finset.univ fullShare f ⊢ WP 𝒱 c (Prog.lift (.store al (all3 inb3) w Finset.univ h1 h2)) fun _ =>
    pts c cc0_scratch6 Finset.univ fullShare w := by
  iintro H
  iapply (run_last (store_op c (m := al) (r := all3 inb3) (S := Finset.univ) (f := f) (Finset.subset_univ _))) $$ H
  rw [l_write]
  iintro %_ H
  iexact H
theorem acc_store {f w : S8x128x1024.Idx → Elt F .f32} {h1 h2} : pts c cc0_scratch7 Finset.univ fullShare f ⊢ WP 𝒱 c (Prog.lift (.store aacc (all4 inb4) w Finset.univ h1 h2)) fun _ =>
    pts c cc0_scratch7 Finset.univ fullShare w := by
  iintro H
  iapply (run_last (store_op c (m := aacc) (r := all4 inb4) (S := Finset.univ) (f := f) (Finset.subset_univ _))) $$ H
  rw [acc_write]
  iintro %_ H
  iexact H
theorem o_store {f w : S8x128x1024.Idx → Elt F .bf16} {h1 h2} : pts c cc0_stg4_0 Finset.univ fullShare f ⊢ WP 𝒱 c (Prog.lift (.store aO (all4 inb4) w Finset.univ h1 h2)) fun _ =>
    pts c cc0_stg4_0 Finset.univ fullShare w := by
  iintro H
  iapply (run_last (store_op c (m := aO) (r := all4 inb4) (S := Finset.univ) (f := f) (Finset.subset_univ _))) $$ H
  rw [o_write]
  iintro %_ H
  iexact H

end Whole

/-! ## One row -/

section Row
variable (h : Fin 8)

theorem row3_in (inb : ∀ a, (![h.val, 0, 0] : Fin 3 → ℕ) a + S1x1x1024.size a ≤ S8x1x1024.size a) (x : S1x1x1024.Idx) :
    ((Rect.unit (s := S8x1x1024) ![h.val, 0, 0] S1x1x1024.size inb).idx x 0).val = h.val := by
  have : (x 0).val < 1 := (x 0).isLt
  show h.val + 1 * (x 0).val = h.val; omega
theorem row3_at (inb : ∀ a, (![h.val, 0, 0] : Fin 3 → ℕ) a + S1x1x1024.size a ≤ S8x1x1024.size a) (i : S8x1x1024.Idx) (h0 : (i 0).val = h.val) :
    (Rect.unit (s := S8x1x1024) ![h.val, 0, 0] S1x1x1024.size inb).idx (cs (N := 1) 0 (tl i)) = i := by
  funext a
  refine Fin.ext ?_
  match a with
  | ⟨0, _⟩ => show h.val + 1 * 0 = (i 0).val; omega
  | ⟨1, _⟩ => show 0 + 1 * (i 1).val = (i 1).val; omega
  | ⟨2, _⟩ => show 0 + 1 * (i 2).val = (i 2).val; omega
theorem row4_in (inb : ∀ a, (![h.val, 0, 0] : Fin 3 → ℕ) a + S1x128x1024.size a ≤ S8x128x1024.size a) (x : S1x128x1024.Idx) :
    ((Rect.unit (s := S8x128x1024) ![h.val, 0, 0] S1x128x1024.size inb).idx x 0).val = h.val := by
  have : (x 0).val < 1 := (x 0).isLt
  show h.val + 1 * (x 0).val = h.val; omega
theorem row4_at (inb : ∀ a, (![h.val, 0, 0] : Fin 3 → ℕ) a + S1x128x1024.size a ≤ S8x128x1024.size a) (i : S8x128x1024.Idx) (h0 : (i 0).val = h.val) :
    (Rect.unit (s := S8x128x1024) ![h.val, 0, 0] S1x128x1024.size inb).idx (cs (N := 1) 0 (tl i)) = i := by
  funext a
  refine Fin.ext ?_
  match a with
  | ⟨0, _⟩ => show h.val + 1 * 0 = (i 0).val; omega
  | ⟨1, _⟩ => show 0 + 1 * (i 1).val = (i 1).val; omega
  | ⟨2, _⟩ => show 0 + 1 * (i 2).val = (i 2).val; omega

variable {inb3 : ∀ a, (![h.val, 0, 0] : Fin 3 → ℕ) a + S1x1x1024.size a ≤ S8x1x1024.size a}
  {inb4 : ∀ a, (![h.val, 0, 0] : Fin 3 → ℕ) a + S1x128x1024.size a ≤ S8x128x1024.size a}

theorem m_row (f : S8x1x1024.Idx → Elt F .f32) (w : S1x1x1024.Idx → Elt F .f32) (i : S8x1x1024.Idx) :
    (am.access (Rect.unit (s := S8x1x1024) ![h.val, 0, 0] S1x1x1024.size inb3)).write (Elt F) f w Finset.univ i
      = if (i 0).val = h.val then w (cs (N := 1) 0 (tl i)) else f i := by
  split
  · next h0 =>
    have hw := View.write_emb_of_mem (v := am.access (Rect.unit (s := S8x1x1024) ![h.val, 0, 0] S1x1x1024.size inb3)) (Val := Elt F) f w (Finset.mem_univ (cs (N := 1) 0 (tl i)))
    rw [show (am.access (Rect.unit (s := S8x1x1024) ![h.val, 0, 0] S1x1x1024.size inb3)).emb (cs (N := 1) 0 (tl i)) = i from row3_at h inb3 i h0] at hw
    exact hw
  · next h0 =>
    exact View.write_of_not_mem (v := am.access (Rect.unit (s := S8x1x1024) ![h.val, 0, 0] S1x1x1024.size inb3)) (Val := Elt F) f w Finset.univ fun hm => by
      obtain ⟨x, -, rfl⟩ := Finset.mem_map.mp hm
      exact h0 (row3_in h inb3 x)
theorem l_row (f : S8x1x1024.Idx → Elt F .f32) (w : S1x1x1024.Idx → Elt F .f32) (i : S8x1x1024.Idx) :
    (al.access (Rect.unit (s := S8x1x1024) ![h.val, 0, 0] S1x1x1024.size inb3)).write (Elt F) f w Finset.univ i
      = if (i 0).val = h.val then w (cs (N := 1) 0 (tl i)) else f i := by
  split
  · next h0 =>
    have hw := View.write_emb_of_mem (v := al.access (Rect.unit (s := S8x1x1024) ![h.val, 0, 0] S1x1x1024.size inb3)) (Val := Elt F) f w (Finset.mem_univ (cs (N := 1) 0 (tl i)))
    rw [show (al.access (Rect.unit (s := S8x1x1024) ![h.val, 0, 0] S1x1x1024.size inb3)).emb (cs (N := 1) 0 (tl i)) = i from row3_at h inb3 i h0] at hw
    exact hw
  · next h0 =>
    exact View.write_of_not_mem (v := al.access (Rect.unit (s := S8x1x1024) ![h.val, 0, 0] S1x1x1024.size inb3)) (Val := Elt F) f w Finset.univ fun hm => by
      obtain ⟨x, -, rfl⟩ := Finset.mem_map.mp hm
      exact h0 (row3_in h inb3 x)
theorem acc_row (f : S8x128x1024.Idx → Elt F .f32) (w : S1x128x1024.Idx → Elt F .f32) (i : S8x128x1024.Idx) :
    (aacc.access (Rect.unit (s := S8x128x1024) ![h.val, 0, 0] S1x128x1024.size inb4)).write (Elt F) f w Finset.univ i
      = if (i 0).val = h.val then w (cs (N := 1) 0 (tl i)) else f i := by
  split
  · next h0 =>
    have hw := View.write_emb_of_mem (v := aacc.access (Rect.unit (s := S8x128x1024) ![h.val, 0, 0] S1x128x1024.size inb4)) (Val := Elt F) f w (Finset.mem_univ (cs (N := 1) 0 (tl i)))
    rw [show (aacc.access (Rect.unit (s := S8x128x1024) ![h.val, 0, 0] S1x128x1024.size inb4)).emb (cs (N := 1) 0 (tl i)) = i from row4_at h inb4 i h0] at hw
    exact hw
  · next h0 =>
    exact View.write_of_not_mem (v := aacc.access (Rect.unit (s := S8x128x1024) ![h.val, 0, 0] S1x128x1024.size inb4)) (Val := Elt F) f w Finset.univ fun hm => by
      obtain ⟨x, -, rfl⟩ := Finset.mem_map.mp hm
      exact h0 (row4_in h inb4 x)

end Row

/-! ## The loop over the own keys -/

/-- The buffers that the loop reads. -/
abbrev ownQ : sProp 𝕄 :=
  iprop(qTok A c c ∗ pts c cc0_stg1_0 Finset.univ fullShare (A.k c) ∗ pts c cc0_stg2_0 Finset.univ fullShare (A.v c) ∗ pts c cc0_stg3_0 Finset.univ fullShare (A.msk c))

/-- Rows below `n` of the three buffers are written. -/
def ownInv (n : ℕ) : sProp 𝕄 :=
  iprop(ownQ A c
    ∗ (∃ f : S8x1x1024.Idx → Elt F .f32, ⌜∀ i, (i 0).val < n → f i = dM A c i⌝ ∗ pts c cc0_scratch5 Finset.univ fullShare f)
    ∗ (∃ f : S8x1x1024.Idx → Elt F .f32, ⌜∀ i, (i 0).val < n → f i = dL A c i⌝ ∗ pts c cc0_scratch6 Finset.univ fullShare f)
    ∗ (∃ f : S8x128x1024.Idx → Elt F .f32, ⌜∀ i, (i 0).val < n → f i = dA A c i⌝ ∗ pts c cc0_scratch7 Finset.univ fullShare f))

theorem own_trip (h : Fin 8) {o3 o1 o2 : Fin 3 → ℕ} (e3 : o3 = ![h.val, 0, 0]) (e1 : o1 = ![h.val, 0, 0]) (e2 : o2 = ![h.val, 0, 0])
    {i3 : ∀ a, o3 a + S1x1024x128.size a ≤ S8x1024x128.size a} {i1 : ∀ a, o1 a + S1x1x1024.size a ≤ S8x1x1024.size a}
    {i2 : ∀ a, o2 a + S1x128x1024.size a ≤ S8x128x1024.size a} {im : ∀ a, (![0, 0] : Fin 2 → ℕ) a + S1024x1024.size a ≤ S1024x1024.size a}
    {p1 p2 p3 p4 p5 p6 p7 p8 p9 p10 p11 p12 p13} :
    ownInv A c h.val ⊢ WP 𝒱 c (do
      let v148 : Vec F S1x1024x128 .bf16 ← Prog.lift (.load aQ (Rect.unit (s := S8x1024x128) o3 S1x1024x128.size i3).toLoadRect p1)
      let v151 : Vec F S1x1024x128 .bf16 ← Prog.lift (.load aK (Rect.unit (s := S8x1024x128) o3 S1x1024x128.size i3).toLoadRect p2)
      let v154 : Vec F S1x1024x128 .bf16 ← Prog.lift (.load aV (Rect.unit (s := S8x1024x128) o3 S1x1024x128.size i3).toLoadRect p3)
      let v156 : Vec F S1024x1024 .bf16 ← Prog.lift (.load aM (Rect.unit (s := S1024x1024) ![0, 0] S1024x1024.size im).toLoadRect p4)
      let v171 : Vec F S1x1x1024 .f32 ← Prog.lift (.load am (Rect.unit (s := S8x1x1024) o1 S1x1x1024.size i1).toLoadRect p5)
      Prog.lift (.store am (Rect.unit (s := S8x1x1024) o1 S1x1x1024.size i1) (k0_pay60 v148 v151 v156) Finset.univ p6 p7)
      let v175 : Vec F S1x1x1024 .f32 ← Prog.lift (.load al (Rect.unit (s := S8x1x1024) o1 S1x1x1024.size i1).toLoadRect p8)
      Prog.lift (.store al (Rect.unit (s := S8x1x1024) o1 S1x1x1024.size i1) (k0_pay61 v148 v151 v156) Finset.univ p9 p10)
      let v179 : Vec F S1x128x1024 .f32 ← Prog.lift (.load aacc (Rect.unit (s := S8x128x1024) o2 S1x128x1024.size i2).toLoadRect p11)
      Prog.lift (.store aacc (Rect.unit (s := S8x128x1024) o2 S1x128x1024.size i2) (k0_pay62 v148 v151 v154 v156) Finset.univ p12 p13)
      pure ⟨⟩) fun _ : PUnit => ownInv A c (h.val + 1) := by
  subst e3 e1 e2
  unfold ownInv
  iintro ⟨⟨Hq, Hk, Hv, Hm⟩, ⟨%f, %hf, Hf⟩, ⟨%g, %hg, Hg⟩, ⟨%a, %ha, Ha⟩⟩
  iapply (run_seq (load_op c (m := aQ) (S := Finset.univ) (q := shareTok fullShare 8 c) (f := A.q c) (Finset.subset_univ _))) $$ Hq
  iintro %v148 ⟨%e1, Hq⟩
  iapply (run_seq (load_op c (m := aK) (S := Finset.univ) (f := A.k c) (Finset.subset_univ _))) $$ Hk
  iintro %v151 ⟨%e2, Hk⟩
  iapply (run_seq (load_op c (m := aV) (S := Finset.univ) (f := A.v c) (Finset.subset_univ _))) $$ Hv
  iintro %v154 ⟨%e3, Hv⟩
  iapply (run_seq (load_op c (m := aM) (S := Finset.univ) (f := A.msk c) (Finset.subset_univ _))) $$ Hm
  iintro %v156 ⟨%e4, Hm⟩
  iapply (run_seq (load_op c (m := am) (S := Finset.univ) (f := f) (Finset.subset_univ _))) $$ Hf
  iintro %v171 ⟨-, Hf⟩
  iapply (run_seq (store_op c (m := am) (r := Rect.unit (s := S8x1x1024) ![h.val, 0, 0] S1x1x1024.size i1) (S := Finset.univ) (f := f) (Finset.subset_univ _))) $$ Hf
  iintro %_ Hf
  iapply (run_seq (load_op c (m := al) (S := Finset.univ) (f := g) (Finset.subset_univ _))) $$ Hg
  iintro %v175 ⟨-, Hg⟩
  iapply (run_seq (store_op c (m := al) (r := Rect.unit (s := S8x1x1024) ![h.val, 0, 0] S1x1x1024.size i1) (S := Finset.univ) (f := g) (Finset.subset_univ _))) $$ Hg
  iintro %_ Hg
  iapply (run_seq (load_op c (m := aacc) (S := Finset.univ) (f := a) (Finset.subset_univ _))) $$ Ha
  iintro %v179 ⟨-, Ha⟩
  iapply (run_seq (store_op c (m := aacc) (r := Rect.unit (s := S8x128x1024) ![h.val, 0, 0] S1x128x1024.size i2) (S := Finset.univ) (f := a) (Finset.subset_univ _))) $$ Ha
  iintro %_ Ha
  have r1 : v148 = headRow (A.q c) h := e1.trans (read_row cc0_scratch0 (A.q c) h i3)
  have r2 : v151 = headRow (A.k c) h := e2.trans (read_row cc0_scratch0 (A.k c) h i3)
  have r3 : v154 = headRow (A.v c) h := e3.trans (read_row cc0_scratch0 (A.v c) h i3)
  have r4 : v156 = A.msk c := e4.trans (funext fun x => congrArg (A.msk c) (idxM im x))
  iapply run_pure
  isplitl [Hq Hk Hv Hm]
  · isplitl [Hq]; · iexact Hq
    isplitl [Hk]; · iexact Hk
    isplitl [Hv] <;> iassumption
  isplitl [Hf]
  · iexists _
    isplitr
    rotate_left
    · iexact Hf
    ipureintro
    intro i h0
    refine (m_row h f _ i).trans ?_
    split
    · next e =>
      rw [r1, r2, r4]
      unfold dM
      rw [show (i 0 : Fin 8) = h from Fin.ext e]
    · next e => exact hf i (by omega)
  isplitl [Hg]
  · iexists _
    isplitr
    rotate_left
    · iexact Hg
    ipureintro
    intro i h0
    refine (l_row h g _ i).trans ?_
    split
    · next e =>
      rw [r1, r2, r4]
      unfold dL
      rw [show (i 0 : Fin 8) = h from Fin.ext e]
    · next e => exact hg i (by omega)
  · iexists _
    isplitr
    rotate_left
    · iexact Ha
    ipureintro
    intro i h0
    refine (acc_row h a _ i).trans ?_
    split
    · next e =>
      rw [r1, r2, r3, r4]
      unfold dA
      rw [show (i 0 : Fin 8) = h from Fin.ext e]
    · next e => exact ha i (by omega)

/-- The whole loop. -/
theorem own_loop {lb ub st : BitVec 32} (hn : Scf.trips lb ub st = 8) {ok : Scf.OK lb ub st}
    {body : Fin (Scf.trips lb ub st) → Unit → Prog (TpuEff nD τ sig (Elt F) Λ₀ .tc) Unit}
    (hbody : ∀ k : Fin (Scf.trips lb ub st), ownInv A c k.val ⊢ WP 𝒱 c (body k ()) fun _ => ownInv A c (k.val + 1)) :
    iprop(ownQ A c ∗ ptsAny c cc0_scratch5 Finset.univ ∗ ptsAny c cc0_scratch6 Finset.univ ∗ ptsAny c cc0_scratch7 Finset.univ)
      ⊢ WP 𝒱 c (Scf.for lb ub st ok () body) fun _ =>
        iprop(ownQ A c ∗ pts c cc0_scratch5 Finset.univ fullShare (dM A c) ∗ pts c cc0_scratch6 Finset.univ fullShare (dL A c)
          ∗ pts c cc0_scratch7 Finset.univ fullShare (dA A c)) := by
  iintro H
  iapply (Scf.wp_for frame (wpE (defs₀ (F := F)) 𝒱 (c : Thread nD τ) none) Set.univ lb ub st ok () body (fun n _ => ownInv A c n) (fun k acc => hbody k))
  unfold ownInv
  isplitl [H]
  · icases H with ⟨H, ⟨%f, Hf⟩, ⟨%g, Hg⟩, ⟨%a, Ha⟩⟩
    isplitl [H]; · iexact H
    isplitl [Hf]
    · iexists f
      isplitr; · ipureintro; exact fun i h => absurd h (Nat.not_lt_zero _)
      iexact Hf
    isplitl [Hg]
    · iexists g
      isplitr; · ipureintro; exact fun i h => absurd h (Nat.not_lt_zero _)
      iexact Hg
    · iexists a
      isplitr; · ipureintro; exact fun i h => absurd h (Nat.not_lt_zero _)
      iexact Ha
  · iintro %_ ⟨H, ⟨%f, %hf, Hf⟩, ⟨%g, %hg, Hg⟩, ⟨%a, %ha, Ha⟩⟩
    isplitl [H]; · iexact H
    rw [show f = dM A c from funext fun i => hf i (lt_of_lt_of_le (i 0).isLt hn.ge), show g = dL A c from funext fun i => hg i (lt_of_lt_of_le (i 0).isLt hn.ge),
      show a = dA A c from funext fun i => ha i (lt_of_lt_of_le (i 0).isLt hn.ge)]
    isplitl [Hf]; · iexact Hf
    isplitl [Hg] <;> iassumption

end Cert.KernelIdeal.Attn

end
-- ==== Proof.SecondRun.lean ====
/-
  The second part of the body: the devices at distance two to seven answered, and the own keys done.
-/
module

public import proofs.«01_k».proof.Proof.FirstRun
public import proofs.«01_k».proof.Proof.Values

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- The offsets of the loop over the own keys. -/
theorem own_facts : k0_t8_loop.trips = 8 ∧ ∀ k, k0_off116 k = ![k.val, 0, 0] ∧ k0_off117 k = ![k.val, 0, 0] ∧ k0_off118 k = ![k.val, 0, 0] := by
  decide +kernel

/-- What stays beside the peers while the second half runs. -/
abbrev mlRest : sProp 𝕄 :=
  iprop(SL c 7 ∗ qsFree c ∗ KV A c ∗ pts c cc0_stg3_0 Finset.univ fullShare (A.msk c))

/-- The query share of the device itself, lent out of the peers' state. -/
theorem S6_own (k₁ k₂ k₃ k₄ k₅ k₆ : ℕ) :
    S6 A c k₁ k₂ k₃ k₄ k₅ k₆ ⊢ iprop(qTok A c c ∗ (qTok A c c -∗ S6 A c k₁ k₂ k₃ k₄ k₅ k₆)) := by
  have e : ∀ n, PR A c c n = iprop(idleE c c ∗ idleB A c c) := fun n => by
    unfold PR; rw [if_neg (by omega), if_neg (by omega)]
  have h := S6_step A c (k₁ := k₁) (k₂ := k₂) (k₃ := k₃) (k₄ := k₄) (k₅ := k₅) (k₆ := k₆) c (fun _ _ => rfl) rfl rfl
  rw [e] at h
  unfold idleB at h
  iintro H
  ihave ⟨⟨HE, H1, H2, H3, HQ⟩, Hb⟩ := h $$ H
  isplitl [HQ]; · iexact HQ
  iintro HQ
  iapply Hb
  isplitl [HE]; · iexact HE
  isplitl [H1]; · iexact H1
  isplitl [H2]; · iexact H2
  isplitl [H3] <;> iassumption

set_option maxHeartbeats 16000000 in
theorem run16 (v2 : BitVec 32) (v29 : BitVec 1) :
    iprop(Know A κ ∗ StP A c 1 ∗ pts c cc0_stg3_0 Finset.univ fullShare (A.msk c)
        ∗ (ptsAny c cc0_scratch5 Finset.univ ∗ ptsAny c cc0_scratch6 Finset.univ ∗ ptsAny c cc0_scratch7 Finset.univ) ∗ ptsAny c cc0_scratch8 Finset.univ)
      ⊢ WP 𝒱 c (prog16 c v2 v29) fun x => iprop(⌜x = mxA A c 0⌝ ∗ Know A κ ∗ S6 A c 7 7 0 0 0 0 ∗ owe c 0 ∗ cp0 c ∗ mlRest A c
        ∗ pts c cc0_scratch5 Finset.univ fullShare (dM A c) ∗ pts c cc0_scratch6 Finset.univ fullShare (dL A c)
        ∗ pts c cc0_scratch7 Finset.univ fullShare (dA A c) ∗ ptsAny c cc0_scratch8 Finset.univ) := by
  obtain ⟨-, l2⟩ := low_facts c
  obtain ⟨g3, g4, g5, g6, g7⟩ := high_facts c
  obtain ⟨-, p2, p3, p4, p5, p6, p7⟩ := loop_facts
  unfold prog16 k0_part16_skel
  extract_lets
  refine low_site A κ c 1 (by omega) 0 rfl (fun h => (l2.1 h).1) l2.2 ?_ rfl (fun h => (l2.1 h).2.2) ?_
  · intro h t ht
    obtain ⟨-, ⟨e1, e2, e3, e4, e5, e6⟩, -⟩ := l2.1 h
    rw [← ht] at e1 e2 e3 e6
    rw [k0_part2_eq_skeleton]
    unfold k0_part2_skel
    refine low_part A κ c t (by omega) 0 (by show 0 = _; omega) e1 e2 p2.1 (fun k => ?_) e3 e4 e5 rfl (Fin.ext e6) _ (above_low c t _)
    obtain ⟨f1, f2, f3, f4⟩ := p2.2 k
    exact head_trip A c t 0 ⟨k.val, p2.1 ▸ k.isLt⟩ f1 f2 f3 f4
  refine high_site A κ c 2 (by omega) 1 rfl (fun h => (g3.1 h).1) g3.2 ?_ p3.1 ?_ rfl rfl (fun h => (g3.1 h).2.2) ?_
  · intro h t u O ht hu hO
    obtain ⟨-, ⟨e1, e2, e3⟩, -⟩ := g3.1 h
    rw [← ht] at e1 e2
    rw [show c.val + 3 - 2 = u.val by omega] at e3
    rw [k0_part3_eq_skeleton]
    unfold k0_part3_skel
    exact high_part A κ c t u (by omega) (by omega) 1 (by omega) e1 e2 e3 O hO
  · intro h t k
    obtain ⟨f1, f2, f3, f4⟩ := p3.2 k
    exact head_trip A c t 1 ⟨k.val, p3.1 ▸ k.isLt⟩ f1 f2 f3 f4
  refine high_site A κ c 3 (by omega) 0 rfl (fun h => (g4.1 h).1) g4.2 ?_ p4.1 ?_ rfl rfl (fun h => (g4.1 h).2.2) ?_
  · intro h t u O ht hu hO
    obtain ⟨-, ⟨e1, e2, e3⟩, -⟩ := g4.1 h
    rw [← ht] at e1 e2
    rw [show c.val + 4 - 2 = u.val by omega] at e3
    rw [k0_part4_eq_skeleton]
    unfold k0_part4_skel
    exact high_part A κ c t u (by omega) (by omega) 0 (by omega) e1 e2 e3 O hO
  · intro h t k
    obtain ⟨f1, f2, f3, f4⟩ := p4.2 k
    exact head_trip A c t 0 ⟨k.val, p4.1 ▸ k.isLt⟩ f1 f2 f3 f4
  refine high_site A κ c 4 (by omega) 1 rfl (fun h => (g5.1 h).1) g5.2 ?_ p5.1 ?_ rfl rfl (fun h => (g5.1 h).2.2) ?_
  · intro h t u O ht hu hO
    obtain ⟨-, ⟨e1, e2, e3⟩, -⟩ := g5.1 h
    rw [← ht] at e1 e2
    rw [show c.val + 5 - 2 = u.val by omega] at e3
    rw [k0_part5_eq_skeleton]
    unfold k0_part5_skel
    exact high_part A κ c t u (by omega) (by omega) 1 (by omega) e1 e2 e3 O hO
  · intro h t k
    obtain ⟨f1, f2, f3, f4⟩ := p5.2 k
    exact head_trip A c t 1 ⟨k.val, p5.1 ▸ k.isLt⟩ f1 f2 f3 f4
  refine high_site A κ c 5 (by omega) 0 rfl (fun h => (g6.1 h).1) g6.2 ?_ p6.1 ?_ rfl rfl (fun h => (g6.1 h).2.2) ?_
  · intro h t u O ht hu hO
    obtain ⟨-, ⟨e1, e2, e3⟩, -⟩ := g6.1 h
    rw [← ht] at e1 e2
    rw [show c.val + 6 - 2 = u.val by omega] at e3
    rw [k0_part6_eq_skeleton]
    unfold k0_part6_skel
    exact high_part A κ c t u (by omega) (by omega) 0 (by omega) e1 e2 e3 O hO
  · intro h t k
    obtain ⟨f1, f2, f3, f4⟩ := p6.2 k
    exact head_trip A c t 0 ⟨k.val, p6.1 ▸ k.isLt⟩ f1 f2 f3 f4
  refine high_site A κ c 6 (by omega) 1 rfl (fun h => (g7.1 h).1) g7.2 ?_ p7.1 ?_ rfl rfl (fun h => (g7.1 h).2.2) ?_
  · intro h t u O ht hu hO
    obtain ⟨-, ⟨e1, e2, e3⟩, -⟩ := g7.1 h
    rw [← ht] at e1 e2
    rw [show c.val + 7 - 2 = u.val by omega] at e3
    rw [k0_part7_eq_skeleton]
    unfold k0_part7_skel
    exact high_part A κ c t u (by omega) (by omega) 1 (by omega) e1 e2 e3 O hO
  · intro h t k
    obtain ⟨f1, f2, f3, f4⟩ := p7.2 k
    exact head_trip A c t 1 ⟨k.val, p7.1 ▸ k.isLt⟩ f1 f2 f3 f4
  unfold StP
  rw [owP_done]
  iintro ⟨HK, ⟨HS, HO, HSL, Hqs, Hcp, Hk, Hv⟩, Hm, H, Hmx⟩
  ihave ⟨Hq, Hback⟩ := (S6_own A c 7 7 0 0 0 0) $$ HS
  iapply (run_seq (own_loop A c own_facts.1 (fun k => by
    obtain ⟨f1, f2, f3⟩ := own_facts.2 k
    exact own_trip A c ⟨k.val, own_facts.1 ▸ k.isLt⟩ f1 f2 f3))) $$ [Hq Hk Hv Hm H]
  · isplitr [H]
    · isplitl [Hq]; · iexact Hq
      isplitl [Hk]; · iexact Hk
      isplitl [Hv] <;> iassumption
    iexact H
  iintro %_ ⟨⟨Hq, Hk, Hv, Hm⟩, H5, H6, H7⟩
  ihave HS := Hback $$ Hq
  iapply (run_seq m_load) $$ H5
  iintro %v53 ⟨%e53, H5⟩
  icases Hmx with ⟨%f, Hmx⟩
  iapply (run_seq mx_load) $$ Hmx
  iintro %_ ⟨-, Hmx⟩
  iapply run_pure
  isplitr; · ipureintro; rw [e53]; rfl
  isplitl [HK]; · iexact HK
  isplitl [HS]; · iexact HS
  isplitl [HO]; · iexact HO
  isplitl [Hcp]; · iexact Hcp
  isplitl [HSL Hqs Hk Hv Hm]
  · isplitl [HSL]; · iexact HSL
    isplitl [Hqs]; · iexact Hqs
    isplitl [Hk Hv]
    · isplitl [Hk] <;> iassumption
    iexact Hm
  isplitl [H5]; · iexact H5
  isplitl [H6]; · iexact H6
  isplitl [H7]; · iexact H7
  iexists f
  iexact Hmx

end Cert.KernelIdeal.Attn

end
-- ==== Proof.Maxima.lean ====
/-
  Receiving the maxima of the peers: each site waits for a device's maxima and sums and takes the
  maximum over what has come so far.
-/
module

public import proofs.«01_k».proof.Proof.SecondRun

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- A load of plane `p` of what device `t` sent. -/
theorem pm_load (t : Dev nD) (p : Fin 2) {off : Fin 5 → ℕ} (ho : off = ![t.val, p.val, 0, 0, 0])
    {inb : ∀ a, off a + S1x1x8x1x1024.size a ≤ S8x2x8x1x1024.size a} {hl} :
    pts c cc0_scratch4 (pmS t) fullShare (pmAll A c)
      ⊢ WP 𝒱 c (Prog.lift (.load aPM (Rect.unit (s := S8x2x8x1x1024) off S1x1x8x1x1024.size inb).toLoadRect hl)) fun v =>
        iprop(⌜v = pmRow A c t p⌝ ∗ pts c cc0_scratch4 (pmS t) fullShare (pmAll A c)) := by
  subst ho
  have hx : ∀ x : S1x1x8x1x1024.Idx, (Rect.unit (s := S8x2x8x1x1024) ![t.val, p.val, 0, 0, 0] S1x1x8x1x1024.size inb).idx x
      = cs (N := 8) t (cs (N := 2) p (tl (tl x))) := fun x => by
    have h0 : (x 0).val < 1 := (x 0).isLt
    have h1 : (x 1).val < 1 := (x 1).isLt
    funext a
    refine Fin.ext ?_
    match a with
    | ⟨0, _⟩ => show t.val + 1 * (x 0).val = t.val; omega
    | ⟨1, _⟩ => show p.val + 1 * (x 1).val = p.val; omega
    | ⟨2, _⟩ => show 0 + 1 * (x 2).val = (x 2).val; omega
    | ⟨3, _⟩ => show 0 + 1 * (x 3).val = (x 3).val; omega
    | ⟨4, _⟩ => show 0 + 1 * (x 4).val = (x 4).val; omega
  iintro H
  iapply (run_last (load_op c (m := aPM) (S := pmS t) (f := pmAll A c)
    ((View.set_slice aPM.view (Rect.unit (s := S8x2x8x1x1024) ![t.val, p.val, 0, 0, 0] S1x1x8x1x1024.size inb)).ge.trans fun i hi => by
      obtain ⟨x, -, rfl⟩ := Finset.mem_map.mp hi
      refine mem_lead.mpr ?_
      show ((Rect.unit (s := S8x2x8x1x1024) ![t.val, p.val, 0, 0, 0] S1x1x8x1x1024.size inb).idx x 0).val = t.val
      rw [hx]; rfl))) $$ H
  iintro %v ⟨%e, H⟩
  isplitr
  · ipureintro
    exact e.trans (funext fun x => congrArg (pmAll A c) (hx x))
  iexact H

theorem RM_one (t : Dev nD) : RM A c t 1 = iprop(crd c (prN t 1) (Nb 1) ∗ at_ c (prN t 1) 0) := by unfold RM; rw [if_pos (by omega), Nb1]
theorem RM_two (t : Dev nD) : RM A c t 2 = iprop(at_ c (prN t 1) 1 ∗ pts c cc0_scratch4 (pmS t) fullShare (pmAll A c)) := by
  unfold RM; rw [if_neg (by omega)]
theorem prPay1 (t : Dev nD) : prPay A c t 1 ⊢ pts c cc0_scratch4 (pmS t) fullShare (pmAll A c) :=
  BIBase.Entails.of_eq (if_neg (by decide))

/-- The maxima have come from the devices at distance at most `e`. -/
def StM (e : ℕ) : sProp 𝕄 := iprop(S6 A c 7 7 e 0 0 0 ∗ owe c 0 ∗ pts c cc0_scratch8 Finset.univ fullShare (mxA A c e))

theorem ml_site (e : ℕ) (he : e < 7) {p : Prop} [Decidable p] {offS : p → Fin 2 → ℕ} {offd offl : p → Fin 5 → ℕ}
    (hp : p → e + 1 ≤ c.val) (hn : ¬p → c.val < e + 1)
    (hf : ∀ h : p, offS h = ![c.val - (e + 1), 1] ∧ offl h = ![c.val - (e + 1), 0, 0, 0, 0])
    {pay : FVec F S8x1x1024 .f32 → FVec F S1x1x8x1x1024 .bf16 → FVec F S8x1x1024 .f32} (hpay : pay = k0_pay64)
    {iS : ∀ h : p, ∀ a, offS h a + S1x1.size a ≤ S8x2.size a}
    {iod : ∀ h : p, ∀ a, offd h a + S1x2x8x1x1024.size a ≤ S8x2x8x1x1024.size a} {offs ios}
    {iol : ∀ h : p, ∀ a, offl h a + S1x1x8x1x1024.size a ≤ S8x2x8x1x1024.size a}
    {w1 : p → (mbSlot offs ios).view.WordExact} {w2 : ∀ h : p, (pmSlot (offd h) (iod h)).view.WordExact}
    {inb3 : ∀ a, (![0, 0, 0] : Fin 3 → ℕ) a + S8x1x1024.size a ≤ S8x1x1024.size a} {l1 : p → _} {l2 : ∀ h : p, _} {l3 : p → _} {l4 : p → _} {l5 : p → _}
    {α : Type} {k : PUnit → Prog (TpuEff nD τ sig (Elt F) Λ₀ .tc) α} {R : α → sProp 𝕄} {X : sProp 𝕄}
    (hk : iprop(Know A κ ∗ StM A c (e + 1) ∗ X) ⊢ WP 𝒱 c (k ⟨⟩) R) :
    iprop(Know A κ ∗ StM A c e ∗ X) ⊢ WP 𝒱 c
      (if h : p then
          Prog.lift (.waitDma2 (sem2 cc0_scratch12 (offS h) (iS h)) (mbSlot offs ios) (pmSlot (offd h) (iod h)) (w1 h) (w2 h)) >>= fun _ : PUnit =>
          Prog.lift (.load amx (all3 inb3).toLoadRect (l1 h)) >>= fun v156 : Vec F S8x1x1024 .f32 =>
          Prog.lift (.load aPM (Rect.unit (s := S8x2x8x1x1024) (offl h) S1x1x8x1x1024.size (iol h)).toLoadRect (l2 h)) >>= fun v159 : Vec F S1x1x8x1x1024 .bf16 =>
          Prog.lift (.load amx (all3 inb3).toLoadRect (l3 h)) >>= fun _ : Vec F S8x1x1024 .f32 =>
          Prog.lift (.store amx (all3 inb3) (pay v156 v159) Finset.univ (l4 h) (l5 h)) >>= fun _ : PUnit => k ⟨⟩
        else k ⟨⟩) R := by
  have hc := dev_lt c
  subst hpay
  split
  · next h =>
    obtain ⟨e1, e2⟩ := hf h
    have hd := hp h
    have ht : (dv (c.val - (e + 1))).val = c.val - (e + 1) := dv_of (by omega)
    have hm : mxA A c (e + 1) = k0_pay64 (mxA A c e) (pmRow A c (dv (c.val - (e + 1))) 0) := if_pos hd
    unfold StM at hk ⊢
    rw [hm] at hk
    generalize dv (c.val - (e + 1)) = t at ht hk ⊢
    rw [← ht] at e1 e2
    have hS := S6_lt A c (k₁ := 7) (k₂ := 7) (k₃ := e) (k₄ := 0) (k₅ := 0) (k₆ := 0) (l₁ := 7) (l₂ := 7) (l₃ := e + 1) (l₄ := 0) (l₅ := 0) (l₆ := 0) (n := 1) (m := 2) t (by omega)
      (fun j hj => by
        have hj' : j.val ≠ t.val := fun e => hj (Fin.ext e)
        have := dev_lt j
        unfold stg; (repeat' split) <;> omega)
      (by unfold stg; (repeat' split) <;> omega) (by unfold stg; (repeat' split) <;> omega)
    rw [RM_one, RM_two] at hS
    iintro ⟨#HK, ⟨HS, HO, HX8⟩, HX⟩
    ihave ⟨⟨HQ, ⟨Hc, Hat⟩, HA, Hi⟩, Hback⟩ := hS $$ HS
    iapply (run_seq (wait_pr A κ c t (by omega) 1 e1 ((am_pm _ _).trans Nb1.symm))) $$ [Hc Hat HO]
    · isplitr; · iexact HK
      isplitl [Hc]; · iexact Hc
      isplitl [Hat] <;> iassumption
    iintro %_ ⟨HO, Hat, Hpm⟩
    ihave Hpm := (prPay1 A c t) $$ Hpm
    iapply (run_seq mx_load) $$ HX8
    iintro %v156 ⟨%e156, HX8⟩
    iapply (run_seq (pm_load A c t 0 e2)) $$ Hpm
    iintro %v159 ⟨%e159, Hpm⟩
    iapply (run_seq mx_load) $$ HX8
    iintro %_ ⟨-, HX8⟩
    iapply (run_seq mx_store) $$ HX8
    iintro %_ HX8
    subst e156 e159
    iapply hk
    isplitr; · iexact HK
    isplitr [HX]
    rotate_left
    · iexact HX
    isplitr [HO HX8]
    rotate_left
    · isplitl [HO] <;> iassumption
    iapply Hback
    isplitl [HQ]; · iapply (SQ_mid A c t (by omega) (by omega)) $$ HQ
    isplitl [Hat Hpm]
    · isplitl [Hat] <;> iassumption
    isplitl [HA]; · iapply (RA_lo A c t (by omega) (by omega)) $$ HA
    iexact Hi
  · next h =>
    have hd := hn h
    refine Entails.trans (BIBase.Entails.of_eq ?_) hk
    unfold StM
    have es : S6 A c 7 7 e 0 0 0 = S6 A c 7 7 (e + 1) 0 0 0 :=
      S6_congr A c (fun t => by unfold stg; have := dev_lt t; (repeat' split) <;> omega)
    rw [show mxA A c (e + 1) = mxA A c e from if_neg (by omega), es]

end Cert.KernelIdeal.Attn

end
-- ==== Proof.Accs.lean ====
/-
  Receiving the accumulators of the peers: each site waits for a device's accumulator, copies it into
  the staging buffer, and adds it and the device's sums, rescaled, to what has come so far.
-/
module

public import proofs.«01_k».proof.Proof.Maxima

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- The copy of an accumulator under way. -/
def Fa (t : Dev nD) : sProp 𝕄 :=
  Flight EC (c : Thread nD τ) (.dma cpN) () NA iprop(pts c cc0_scratch1 Finset.univ fullShare (accP (A.q c) (A.k t) (A.v t)) ∗ pts c main_v1_2 (paS t) fullShare (paAll A c))

theorem copy_pa (t : Dev nD) {off : Fin 4 → ℕ} (ho : off = ![t.val, 0, 0, 0]) {io} {h1 h2 h3} :
    iprop(pts c main_v1_2 (paS t) fullShare (paAll A c) ∗ ptsAny c cc0_scratch1 Finset.univ ∗ cp0 c)
      ⊢ WP 𝒱 c (Prog.lift (.enqueueDma (paSlot off io) (.here aCS) (.dma cc0_scratch13.sem) h1 h2 h3)) fun _ => Fa A c t := by
  subst ho
  iintro ⟨Hq, ⟨%fd, Hd⟩, Hv⟩
  iapply (run_last (copy_start c (𝒱 := 𝒱) (src := paSlot ![t.val, 0, 0, 0] io) (dst := aCS) (hsrc := h1) (hdst := h2) (sm := .dma cc0_scratch13.sem) (hsem := h3)
    (N := NA) (by unfold NA; rfl) NA_pos (q := fullShare) (fs := paAll A c) (Sd := Finset.univ) (Finset.subset_univ _) (fd := fd))) $$ [Hq Hd Hv]
  · rw [pa_set t, sem_cp]
    isplitl [Hq]; · iexact Hq
    isplitl [Hd] <;> iassumption
  iintro %_ H
  unfold Fa
  rw [sem_cp, pa_set t io, show (aCS.view.write (Elt F) fd ((paSlot ![t.val, 0, 0, 0] io).view.read (Elt F) (paAll A c)) Finset.univ) = accP (A.q c) (A.k t) (A.v t) from
    funext fun i => (View.write_emb_of_mem (v := aCS.view) fd _ (Finset.mem_univ i)).trans (by
      show paAll A c ((paSlot ![t.val, 0, 0, 0] io).view.emb i) = _
      rw [pa_emb t io i]; rfl)]
  iexact H

theorem wait_copy_pa (t : Dev nD) {off : Fin 4 → ℕ} {io} {h1 h2} :
    iprop(Know A κ ∗ Fa A c t ∗ owe c 0)
      ⊢ WP 𝒱 c (Prog.lift (.waitDma2 cc0_scratch13.sem (paSlot off io) aCS h1 h2)) fun _ =>
          iprop(owe c 0 ∗ pts c cc0_scratch1 Finset.univ fullShare (accP (A.q c) (A.k t) (A.v t)) ∗ pts c main_v1_2 (paS t) fullShare (paAll A c) ∗ cp0 c) := by
  iintro ⟨#HK, HF, HO⟩
  unfold Fa
  iapply (run_last (copy_wait A κ c (𝒱 := 𝒱) (srcw := paSlot off io) (dstw := aCS) (hsrc := h1) (hdst := h2) (sem := cc0_scratch13.sem) (N := NA) (by unfold NA; rfl)
    (O := 0) (above_zero _))) $$ [HF HO]
  · isplitr; · iexact HK
    rw [sem_cp]
    isplitl [HF] <;> iassumption
  rw [sem_cp]
  iintro %_ ⟨HO, ⟨Ha, Hb⟩, Hv⟩
  isplitl [HO]; · iexact HO
  isplitl [Ha]; · iexact Ha
  isplitl [Hb] <;> iassumption

theorem RA_two (t : Dev nD) : RA A c t 2 = iprop(crd c (prN t 0) (Nb 0) ∗ at_ c (prN t 0) 0) := by unfold RA; rw [if_pos (by omega), Nb0]
theorem RA_three (t : Dev nD) : RA A c t 3 = iprop(at_ c (prN t 0) 1 ∗ pts c main_v1_2 (paS t) fullShare (paAll A c)) := by
  unfold RA; rw [if_neg (by omega)]
theorem RM_three (t : Dev nD) : RM A c t 3 = iprop(at_ c (prN t 1) 1 ∗ pts c cc0_scratch4 (pmS t) fullShare (pmAll A c)) := by
  unfold RM; rw [if_neg (by omega)]
theorem prPay0 (t : Dev nD) : prPay A c t 0 ⊢ pts c main_v1_2 (paS t) fullShare (paAll A c) :=
  BIBase.Entails.of_eq (if_pos rfl)

/-- What a site's first half holds. -/
abbrev accHold (M : S8x1x1024.Idx → Elt F .f32) (a : S8x128x1024.Idx → Elt F .f32) : sProp 𝕄 :=
  iprop(owe c 0 ∗ cp0 c ∗ ptsAny c cc0_scratch1 Finset.univ ∗ pts c cc0_scratch8 Finset.univ fullShare M ∗ pts c cc0_scratch7 Finset.univ fullShare a)
abbrev Triple : Type := Σ' (v147 : BitVec 32) (v166 : FVec F S8x1x1024 .f32), FVec F S8x128x1024 .f32

theorem acc_part (t : Dev nD) (h : t.val < c.val) (M : S8x1x1024.Idx → Elt F .f32) (a : S8x128x1024.Idx → Elt F .f32)
    {offS : Fin 2 → ℕ} {off : Fin 4 → ℕ} {offl : Fin 5 → ℕ} (hS : offS = ![t.val, 0]) (ho : off = ![t.val, 0, 0, 0]) (hl : offl = ![t.val, 0, 0, 0, 0])
    {iS io} {offs ios} {h1 h2 h3 h4 h5 h6 h7} {il : ∀ a, offl a + S1x1x8x1x1024.size a ≤ S8x2x8x1x1024.size a}
    {inb3 : ∀ a, (![0, 0, 0] : Fin 3 → ℕ) a + S8x1x1024.size a ≤ S8x1x1024.size a}
    {inb4 : ∀ a, (![0, 0, 0] : Fin 3 → ℕ) a + S8x128x1024.size a ≤ S8x128x1024.size a} {g1 g2 g3 g4} {w : BitVec 32}
    {p13 : FVec F S1x1x8x1x1024 .bf16 → FVec F S8x1x1024 .f32 → FVec F S8x1x1024 .f32} (h13 : p13 = k0_pay13)
    {p14 : FVec F S1x1x8x1x1024 .bf16 → FVec F S8x1x1024 .f32 → FVec F S8x128x1024 .f32 → FVec F S8x128x1024 .bf16 → FVec F S8x128x1024 .f32} (h14 : p14 = k0_pay14) :
    iprop(Know A κ ∗ RM A c t 2 ∗ RA A c t 2 ∗ accHold c M a)
      ⊢ WP 𝒱 c (Prog.lift (.waitDma2 (sem2 cc0_scratch12 offS iS) (abSlot offs ios) (paSlot off io) h1 h2) >>= fun _ : PUnit =>
          Prog.lift (.enqueueDma (paSlot off io) (.here aCS) (.dma cc0_scratch13.sem) h3 h4 h5) >>= fun _ : PUnit =>
          Prog.lift (.waitDma2 cc0_scratch13.sem (paSlot off io) aCS h6 h7) >>= fun _ : PUnit =>
          Prog.lift (.load aPM (Rect.unit (s := S8x2x8x1x1024) offl S1x1x8x1x1024.size il).toLoadRect g1) >>= fun v161 : Vec F S1x1x8x1x1024 .bf16 =>
          Prog.lift (.load amx (all3 inb3).toLoadRect g2) >>= fun v164 : Vec F S8x1x1024 .f32 =>
          Prog.lift (.load aacc (all4 inb4).toLoadRect g3) >>= fun v167 : Vec F S8x128x1024 .f32 =>
          Prog.lift (.load aCS (all4 inb4).toLoadRect g4) >>= fun v168 : Vec F S8x128x1024 .bf16 =>
          pure (⟨w, p13 v161 v164, p14 v161 v164 v167 v168⟩ : Triple (F := F)))
        fun x => iprop(⌜x.2.1 = k0_pay13 (pmRow A c t 0) M ∧ x.2.2 = k0_pay14 (pmRow A c t 0) M a (accP (A.q c) (A.k t) (A.v t))⌝
          ∗ RM A c t 3 ∗ RA A c t 3 ∗ accHold c M a) := by
  subst h13 h14
  rw [RM_two, RA_two, RM_three, RA_three]
  iintro ⟨#HK, ⟨Hat1, Hpm⟩, ⟨Hc, Hat⟩, HO, Hcp, Hcs, HX8, HX7⟩
  iapply (run_seq (wait_pr A κ c t h 0 hS ((am_pa _ _).trans Nb0.symm))) $$ [Hc Hat HO]
  · isplitr; · iexact HK
    isplitl [Hc]; · iexact Hc
    isplitl [Hat] <;> iassumption
  iintro %_ ⟨HO, Hat, Hpa⟩
  ihave Hpa := (prPay0 A c t) $$ Hpa
  iapply (run_seq (copy_pa A c t ho)) $$ [Hpa Hcs Hcp]
  · isplitl [Hpa]; · iexact Hpa
    isplitl [Hcs] <;> iassumption
  iintro %_ HF
  iapply (run_seq (wait_copy_pa A κ c t)) $$ [HF HO]
  · isplitr; · iexact HK
    isplitl [HF] <;> iassumption
  iintro %_ ⟨HO, Hcs, Hpa, Hcp⟩
  iapply (run_seq (pm_load A c t 0 hl)) $$ Hpm
  iintro %v161 ⟨%e1, Hpm⟩
  iapply (run_seq mx_load) $$ HX8
  iintro %v164 ⟨%e2, HX8⟩
  iapply (run_seq acc_load) $$ HX7
  iintro %v167 ⟨%e3, HX7⟩
  iapply (run_seq cs_load) $$ Hcs
  iintro %v168 ⟨%e4, Hcs⟩
  iapply run_pure
  isplitr
  · ipureintro
    rw [e1, e2, e3, e4]
    exact ⟨rfl, rfl⟩
  isplitl [Hat1 Hpm]
  · isplitl [Hat1] <;> iassumption
  isplitl [Hat Hpa]
  · isplitl [Hat] <;> iassumption
  isplitl [HO]; · iexact HO
  isplitl [Hcp]; · iexact Hcp
  isplitl [Hcs]; · iexists _; iexact Hcs
  isplitl [HX8] <;> iassumption

/-- The accumulators have come from the devices at distance at most `e`. -/
def StA (e : ℕ) : sProp 𝕄 :=
  iprop(S6 A c 7 7 7 e 0 0 ∗ accHold c (mxA A c 7) (aA A c e) ∗ pts c cc0_scratch6 Finset.univ fullShare (lA A c e))

theorem acc_site (e : ℕ) (he : e < 7) {p : Prop} [Decidable p]
    (hp : p → e + 1 ≤ c.val) (hn : ¬p → c.val < e + 1)
    {part : p → Prog (TpuEff nD τ sig (Elt F) Λ₀ .tc) (Triple (F := F))}
    (hpart : ∀ (h : p) (t : Dev nD), t.val = c.val - (e + 1) →
      iprop(Know A κ ∗ RM A c t 2 ∗ RA A c t 2 ∗ accHold c (mxA A c 7) (aA A c e)) ⊢ WP 𝒱 c (part h)
        fun x => iprop(⌜x.2.1 = k0_pay13 (pmRow A c t 0) (mxA A c 7) ∧ x.2.2 = k0_pay14 (pmRow A c t 0) (mxA A c 7) (aA A c e) (accP (A.q c) (A.k t) (A.v t))⌝
          ∗ RM A c t 3 ∗ RA A c t 3 ∗ accHold c (mxA A c 7) (aA A c e)))
    {offl : p → Fin 5 → ℕ} (hf : ∀ h : p, offl h = ![c.val - (e + 1), 1, 0, 0, 0])
    {p75 : FVec F S8x128x1024 .f32 → FVec F S8x128x1024 .f32} (h75 : p75 = k0_pay75)
    {p76 : FVec F S8x1x1024 .f32 → FVec F S8x1x1024 .f32 → FVec F S1x1x8x1x1024 .bf16 → FVec F S8x1x1024 .f32} (h76 : p76 = k0_pay76)
    {iol : ∀ h : p, ∀ a, offl h a + S1x1x8x1x1024.size a ≤ S8x2x8x1x1024.size a}
    {inb3 : ∀ a, (![0, 0, 0] : Fin 3 → ℕ) a + S8x1x1024.size a ≤ S8x1x1024.size a}
    {inb4 : ∀ a, (![0, 0, 0] : Fin 3 → ℕ) a + S8x128x1024.size a ≤ S8x128x1024.size a}
    {l1 : p → _} {l2 : p → _} {l3 : p → _} {l4 : p → _} {l5 : ∀ h : p, _} {l6 : p → _} {l7 : p → _} {l8 : p → _}
    {α : Type} {k : PUnit → Prog (TpuEff nD τ sig (Elt F) Λ₀ .tc) α} {R : α → sProp 𝕄} {X : sProp 𝕄}
    (hk : iprop(Know A κ ∗ StA A c (e + 1) ∗ X) ⊢ WP 𝒱 c (k ⟨⟩) R) :
    iprop(Know A κ ∗ StA A c e ∗ X) ⊢ WP 𝒱 c
      (if h : p then part h >>= fun x : Triple (F := F) =>
          Prog.lift (.load aacc (all4 inb4).toLoadRect (l1 h)) >>= fun _ : Vec F S8x128x1024 .f32 =>
          Prog.lift (.store aacc (all4 inb4) (p75 x.2.2) Finset.univ (l2 h) (l3 h)) >>= fun _ : PUnit =>
          Prog.lift (.load al (all3 inb3).toLoadRect (l4 h)) >>= fun v176 : Vec F S8x1x1024 .f32 =>
          Prog.lift (.load aPM (Rect.unit (s := S8x2x8x1x1024) (offl h) S1x1x8x1x1024.size (iol h)).toLoadRect (l5 h)) >>= fun v178 : Vec F S1x1x8x1x1024 .bf16 =>
          Prog.lift (.load al (all3 inb3).toLoadRect (l6 h)) >>= fun _ : Vec F S8x1x1024 .f32 =>
          Prog.lift (.store al (all3 inb3) (p76 x.2.1 v176 v178) Finset.univ (l7 h) (l8 h)) >>= fun _ : PUnit => k ⟨⟩
        else k ⟨⟩) R := by
  have hc := dev_lt c
  subst h75 h76
  split
  · next h =>
    have e2 := hf h
    have hd := hp h
    have ht : (dv (c.val - (e + 1))).val = c.val - (e + 1) := dv_of (by omega)
    have hl : lA A c (e + 1) = k0_pay76 (k0_pay13 (pmRow A c (dv (c.val - (e + 1))) 0) (mxA A c 7)) (lA A c e) (pmRow A c (dv (c.val - (e + 1))) 1) := if_pos hd
    have ha : aA A c (e + 1) = k0_pay75 (k0_pay14 (pmRow A c (dv (c.val - (e + 1))) 0) (mxA A c 7) (aA A c e)
        (accP (A.q c) (A.k (dv (c.val - (e + 1)))) (A.v (dv (c.val - (e + 1)))))) := if_pos hd
    unfold StA at hk ⊢
    rw [hl, ha] at hk
    have hpart := hpart h _ ht
    generalize dv (c.val - (e + 1)) = t at ht hk hpart ⊢
    rw [← ht] at e2
    have hS := S6_lt A c (k₁ := 7) (k₂ := 7) (k₃ := 7) (k₄ := e) (k₅ := 0) (k₆ := 0) (l₁ := 7) (l₂ := 7) (l₃ := 7) (l₄ := e + 1) (l₅ := 0) (l₆ := 0) (n := 2) (m := 3) t (by omega)
      (fun j hj => by
        have hj' : j.val ≠ t.val := fun e => hj (Fin.ext e)
        have := dev_lt j
        unfold stg; (repeat' split) <;> omega)
      (by unfold stg; (repeat' split) <;> omega) (by unfold stg; (repeat' split) <;> omega)
    rw [RM_three] at hS hpart
    iintro ⟨#HK, ⟨HS, HH, HX6⟩, HX⟩
    ihave ⟨⟨HQ, HM, HA, Hi⟩, Hback⟩ := hS $$ HS
    iapply (run_seq hpart) $$ [HM HA HH]
    · isplitr; · iexact HK
      isplitl [HM]; · iexact HM
      isplitl [HA] <;> iassumption
    iintro %x ⟨%ex, ⟨Hat, Hpm⟩, HA, HO, Hcp, Hcs, HX8, HX7⟩
    iapply (run_seq acc_load) $$ HX7
    iintro %_ ⟨-, HX7⟩
    iapply (run_seq acc_store) $$ HX7
    iintro %_ HX7
    iapply (run_seq l_load) $$ HX6
    iintro %v176 ⟨%e176, HX6⟩
    iapply (run_seq (pm_load A c t 1 e2)) $$ Hpm
    iintro %v178 ⟨%e178, Hpm⟩
    iapply (run_seq l_load) $$ HX6
    iintro %_ ⟨-, HX6⟩
    iapply (run_seq l_store) $$ HX6
    iintro %_ HX6
    have E1 : k0_pay75 x.2.2 = k0_pay75 (k0_pay14 (pmRow A c t 0) (mxA A c 7) (aA A c e) (accP (A.q c) (A.k t) (A.v t))) := congrArg _ ex.2
    have E2 : k0_pay76 x.2.1 v176 v178 = k0_pay76 (k0_pay13 (pmRow A c t 0) (mxA A c 7)) (lA A c e) (pmRow A c t 1) := by rw [ex.1, e176, e178]
    iapply hk
    isplitr; · iexact HK
    isplitr [HX]
    rotate_left
    · iexact HX
    isplitl [HQ Hat Hpm HA Hi Hback]
    · iapply Hback
      isplitl [HQ]; · iapply (SQ_mid A c t (by omega) (by omega)) $$ HQ
      isplitl [Hat Hpm]
      · isplitl [Hat] <;> iassumption
      isplitl [HA] <;> iassumption
    isplitl [HO Hcp Hcs HX8 HX7]
    · isplitl [HO]; · iexact HO
      isplitl [Hcp]; · iexact Hcp
      isplitl [Hcs]; · iexact Hcs
      isplitl [HX8]; · iexact HX8
      iapply (BIBase.Entails.of_eq (congrArg (fun w => pts c cc0_scratch7 Finset.univ fullShare w) E1)) $$ HX7
    · iapply (BIBase.Entails.of_eq (congrArg (fun w => pts c cc0_scratch6 Finset.univ fullShare w) E2)) $$ HX6
  · next h =>
    have hd := hn h
    refine Entails.trans (BIBase.Entails.of_eq ?_) hk
    unfold StA
    have es : S6 A c 7 7 7 e 0 0 = S6 A c 7 7 7 (e + 1) 0 0 :=
      S6_congr A c (fun t => by unfold stg; have := dev_lt t; (repeat' split) <;> omega)
    rw [show lA A c (e + 1) = lA A c e from if_neg (by omega), show aA A c (e + 1) = aA A c e from if_neg (by omega), es]

end Cert.KernelIdeal.Attn

end
-- ==== Proof.FourthRun.lean ====
/-
  The fourth part of the body: the accumulators received.
-/
module

public import proofs.«01_k».proof.Proof.Accs

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- What a site that receives the accumulator of the device at distance `d` is given. -/
abbrev AccFact (d : ℕ) (cond : BitVec 1) (oS : Fin 2 → ℕ) (o : Fin 4 → ℕ) (ol ol' : Fin 5 → ℕ) : Prop :=
  (cond = 1#1 → d ≤ c.val ∧ oS = ![c.val - d, 0] ∧ o = ![c.val - d, 0, 0, 0] ∧ ol = ![c.val - d, 0, 0, 0, 0] ∧ ol' = ![c.val - d, 1, 0, 0, 0])
    ∧ (¬cond = 1#1 → c.val < d)

theorem acc_facts : AccFact c 1 (k0_cond22 c) (k0_off140 c) (k0_off141 c) (k0_off142 c) (k0_off143 c)
    ∧ AccFact c 2 (k0_cond23 c) (k0_off144 c) (k0_off145 c) (k0_off146 c) (k0_off147 c)
    ∧ AccFact c 3 (k0_cond24 c) (k0_off148 c) (k0_off149 c) (k0_off150 c) (k0_off151 c)
    ∧ AccFact c 4 (k0_cond25 c) (k0_off152 c) (k0_off153 c) (k0_off154 c) (k0_off155 c)
    ∧ AccFact c 5 (k0_cond26 c) (k0_off156 c) (k0_off157 c) (k0_off158 c) (k0_off159 c)
    ∧ AccFact c 6 (k0_cond27 c) (k0_off160 c) (k0_off161 c) (k0_off162 c) (k0_off163 c)
    ∧ AccFact c 7 (k0_cond28 c) (k0_off164 c) (k0_off165 c) (k0_off166 c) (k0_off167 c) := by
  refine ⟨?_, ?_, ?_, ?_, ?_, ?_, ?_⟩ <;> (revert c; decide +kernel)

set_option maxHeartbeats 16000000 in
theorem run18 (v2 : BitVec 32) :
    iprop(Know A κ ∗ StM A c 7 ∗ cp0 c ∗ ptsAny c cc0_scratch1 Finset.univ
        ∗ pts c cc0_scratch6 Finset.univ fullShare (dL A c) ∗ pts c cc0_scratch7 Finset.univ fullShare (dA A c))
      ⊢ WP 𝒱 c (prog18 c v2 (k0_pay71 (dM A c) (mxA A c 7)) (k0_pay72 (dM A c) (mxA A c 7) (dL A c))) fun _ => iprop(Know A κ ∗ StA A c 7) := by
  obtain ⟨f1, f2, f3, f4, f5, f6, f7⟩ := acc_facts c
  unfold prog18 k0_part18_skel
  extract_lets
  unfold StM
  iintro ⟨HK, ⟨HS, HO, HX8⟩, Hcp, Hcs, HX6, HX7⟩
  iapply (run_seq l_load) $$ HX6
  iintro %_ ⟨-, HX6⟩
  iapply (run_seq l_store) $$ HX6
  iintro %_ HX6
  iapply (run_seq acc_load) $$ HX7
  iintro %v87 ⟨%e87, HX7⟩
  iapply (run_seq acc_load) $$ HX7
  iintro %_ ⟨-, HX7⟩
  iapply (run_seq acc_store) $$ HX7
  iintro %_ HX7
  subst e87
  ihave H : iprop(Know A κ ∗ StA A c 0 ∗ emp) $$ [HK HS HO HX8 Hcp Hcs HX6 HX7]
  · isplitl [HK]; · iexact HK
    isplitl
    rotate_left
    · iempintro
    unfold StA
    isplitl [HS]; · iexact HS
    isplitr [HX6]
    rotate_left
    · iexact HX6
    isplitl [HO]; · iexact HO
    isplitl [Hcp]; · iexact Hcp
    isplitl [Hcs]; · iexact Hcs
    isplitl [HX8]; · iexact HX8
    iexact HX7
  istop
  refine acc_site A κ c 0 (by omega) (fun h => (f1.1 h).1) f1.2 (fun h t ht => ?_) (fun h => (f1.1 h).2.2.2.2) rfl rfl ?_
  · obtain ⟨-, e1, e2, e3, -⟩ := f1.1 h
    rw [← ht] at e1 e2 e3
    rw [k0_part8_eq_skeleton]
    exact acc_part A κ c t (by have := (f1.1 h).1; omega) _ _ e1 e2 e3 rfl rfl
  refine acc_site A κ c 1 (by omega) (fun h => (f2.1 h).1) f2.2 (fun h t ht => ?_) (fun h => (f2.1 h).2.2.2.2) rfl rfl ?_
  · obtain ⟨-, e1, e2, e3, -⟩ := f2.1 h
    rw [← ht] at e1 e2 e3
    rw [k0_part9_eq_skeleton]
    exact acc_part A κ c t (by have := (f2.1 h).1; omega) _ _ e1 e2 e3 rfl rfl
  refine acc_site A κ c 2 (by omega) (fun h => (f3.1 h).1) f3.2 (fun h t ht => ?_) (fun h => (f3.1 h).2.2.2.2) rfl rfl ?_
  · obtain ⟨-, e1, e2, e3, -⟩ := f3.1 h
    rw [← ht] at e1 e2 e3
    rw [k0_part10_eq_skeleton]
    exact acc_part A κ c t (by have := (f3.1 h).1; omega) _ _ e1 e2 e3 rfl rfl
  refine acc_site A κ c 3 (by omega) (fun h => (f4.1 h).1) f4.2 (fun h t ht => ?_) (fun h => (f4.1 h).2.2.2.2) rfl rfl ?_
  · obtain ⟨-, e1, e2, e3, -⟩ := f4.1 h
    rw [← ht] at e1 e2 e3
    rw [k0_part11_eq_skeleton]
    exact acc_part A κ c t (by have := (f4.1 h).1; omega) _ _ e1 e2 e3 rfl rfl
  refine acc_site A κ c 4 (by omega) (fun h => (f5.1 h).1) f5.2 (fun h t ht => ?_) (fun h => (f5.1 h).2.2.2.2) rfl rfl ?_
  · obtain ⟨-, e1, e2, e3, -⟩ := f5.1 h
    rw [← ht] at e1 e2 e3
    rw [k0_part12_eq_skeleton]
    exact acc_part A κ c t (by have := (f5.1 h).1; omega) _ _ e1 e2 e3 rfl rfl
  refine acc_site A κ c 5 (by omega) (fun h => (f6.1 h).1) f6.2 (fun h t ht => ?_) (fun h => (f6.1 h).2.2.2.2) rfl rfl ?_
  · obtain ⟨-, e1, e2, e3, -⟩ := f6.1 h
    rw [← ht] at e1 e2 e3
    rw [k0_part13_eq_skeleton]
    exact acc_part A κ c t (by have := (f6.1 h).1; omega) _ _ e1 e2 e3 rfl rfl
  refine acc_site A κ c 6 (by omega) (fun h => (f7.1 h).1) f7.2 (fun h t ht => ?_) (fun h => (f7.1 h).2.2.2.2) rfl rfl ?_
  · obtain ⟨-, e1, e2, e3, -⟩ := f7.1 h
    rw [← ht] at e1 e2 e3
    rw [k0_part14_eq_skeleton]
    exact acc_part A κ c t (by have := (f7.1 h).1; omega) _ _ e1 e2 e3 rfl rfl
  iintro ⟨HK, HS, -⟩
  iapply run_pure
  isplitl [HK]; · iexact HK
  iexact HS

end Cert.KernelIdeal.Attn

end
-- ==== Proof.ThirdRun.lean ====
/-
  The third part of the body: the maxima received.
-/
module

public import proofs.«01_k».proof.Proof.Maxima

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- What a site that receives maxima from the device at distance `d` is given. -/
abbrev MlFact (d : ℕ) (cond : BitVec 1) (oS : Fin 2 → ℕ) (ol : Fin 5 → ℕ) : Prop :=
  (cond = 1#1 → d ≤ c.val ∧ oS = ![c.val - d, 1] ∧ ol = ![c.val - d, 0, 0, 0, 0]) ∧ (¬cond = 1#1 → c.val < d)

theorem ml_facts : MlFact c 1 (k0_cond15 c) (k0_off119 c) (k0_off121 c)
    ∧ MlFact c 2 (k0_cond16 c) (k0_off122 c) (k0_off124 c)
    ∧ MlFact c 3 (k0_cond17 c) (k0_off125 c) (k0_off127 c)
    ∧ MlFact c 4 (k0_cond18 c) (k0_off128 c) (k0_off130 c)
    ∧ MlFact c 5 (k0_cond19 c) (k0_off131 c) (k0_off133 c)
    ∧ MlFact c 6 (k0_cond20 c) (k0_off134 c) (k0_off136 c)
    ∧ MlFact c 7 (k0_cond21 c) (k0_off137 c) (k0_off139 c) := by
  refine ⟨?_, ?_, ?_, ?_, ?_, ?_, ?_⟩ <;> (revert c; decide +kernel)

set_option maxHeartbeats 16000000 in
theorem run17 (v2 : BitVec 32) :
    iprop(Know A κ ∗ (S6 A c 7 7 0 0 0 0 ∗ owe c 0 ∗ ptsAny c cc0_scratch8 Finset.univ)
        ∗ (pts c cc0_scratch5 Finset.univ fullShare (dM A c) ∗ pts c cc0_scratch6 Finset.univ fullShare (dL A c)))
      ⊢ WP 𝒱 c (prog17 c v2 (mxA A c 0)) fun x => iprop(⌜x.1 = k0_pay71 (dM A c) (mxA A c 7) ∧ x.2 = k0_pay72 (dM A c) (mxA A c 7) (dL A c)⌝ ∗ Know A κ
        ∗ StM A c 7 ∗ pts c cc0_scratch5 Finset.univ fullShare (dM A c) ∗ pts c cc0_scratch6 Finset.univ fullShare (dL A c)) := by
  obtain ⟨f1, f2, f3, f4, f5, f6, f7⟩ := ml_facts c
  unfold prog17 k0_part17_skel
  extract_lets
  iintro ⟨HK, ⟨HS, HO, ⟨%f, HX8⟩⟩, HX⟩
  iapply (run_seq mx_store) $$ HX8
  iintro %_ HX8
  ihave H : iprop(Know A κ ∗ StM A c 0 ∗ (pts c cc0_scratch5 Finset.univ fullShare (dM A c) ∗ pts c cc0_scratch6 Finset.univ fullShare (dL A c))) $$ [HK HS HO HX8 HX]
  · isplitl [HK]; · iexact HK
    isplitr [HX]
    rotate_left
    · iexact HX
    unfold StM
    isplitl [HS]; · iexact HS
    isplitl [HO] <;> iassumption
  istop
  refine (show _ ⊢ _ from ?_)
  refine ml_site A κ c 0 (by omega) (fun h => (f1.1 h).1) f1.2 (fun h => (f1.1 h).2) rfl ?_
  refine ml_site A κ c 1 (by omega) (fun h => (f2.1 h).1) f2.2 (fun h => (f2.1 h).2) rfl ?_
  refine ml_site A κ c 2 (by omega) (fun h => (f3.1 h).1) f3.2 (fun h => (f3.1 h).2) rfl ?_
  refine ml_site A κ c 3 (by omega) (fun h => (f4.1 h).1) f4.2 (fun h => (f4.1 h).2) rfl ?_
  refine ml_site A κ c 4 (by omega) (fun h => (f5.1 h).1) f5.2 (fun h => (f5.1 h).2) rfl ?_
  refine ml_site A κ c 5 (by omega) (fun h => (f6.1 h).1) f6.2 (fun h => (f6.1 h).2) rfl ?_
  refine ml_site A κ c 6 (by omega) (fun h => (f7.1 h).1) f7.2 (fun h => (f7.1 h).2) rfl ?_
  unfold StM
  iintro ⟨HK, ⟨HS, HO, HX8⟩, HX5, HX6⟩
  iapply (run_seq m_load) $$ HX5
  iintro %v78 ⟨%e1, HX5⟩
  iapply (run_seq mx_load) $$ HX8
  iintro %v79 ⟨%e2, HX8⟩
  iapply (run_seq l_load) $$ HX6
  iintro %v82 ⟨%e3, HX6⟩
  iapply run_pure
  isplitr
  · ipureintro
    rw [e1, e2, e3]
    exact ⟨rfl, rfl⟩
  isplitl [HK]; · iexact HK
  isplitl [HS HO HX8]
  · isplitl [HS]; · iexact HS
    isplitl [HO] <;> iassumption
  isplitl [HX5] <;> iassumption

end Cert.KernelIdeal.Attn

end
-- ==== Proof.Ends.lean ====
/-
  The end of the body: the result stored, and the transfers that are still under way waited for.
-/
module

public import proofs.«01_k».proof.Proof.FourthRun
public import proofs.«01_k».proof.Proof.ThirdRun

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- The queries are read out towards the devices at distance at most `e`. -/
def StW (e : ℕ) : sProp 𝕄 := iprop(S6 A c 7 7 7 7 e 0 ∗ owe c 0)

theorem qs_site (e : ℕ) (he : e < 7) {p : Prop} [Decidable p] {offS : p → Fin 1 → ℕ} {off : p → Fin 4 → ℕ}
    (hp : p → e + 1 ≤ c.val) (hn : ¬p → c.val < e + 1) (hf : ∀ h : p, offS h = ![c.val - (e + 1)])
    {iS : ∀ h : p, ∀ a, offS h a + S1.size a ≤ S8.size a} {io : ∀ h : p, ∀ a, off h a + S1x8x1024x128.size a ≤ S8x8x1024x128.size a}
    {w1 : ∀ h : p, (qbSlot (off h) (io h)).view.WordExact} {w2 : p → (aQ).view.WordExact}
    {α : Type} {k : PUnit → Prog (TpuEff nD τ sig (Elt F) Λ₀ .tc) α} {R : α → sProp 𝕄} {X : sProp 𝕄}
    (hk : iprop(Know A κ ∗ StW A c (e + 1) ∗ X) ⊢ WP 𝒱 c (k ⟨⟩) R) :
    iprop(Know A κ ∗ StW A c e ∗ X) ⊢ WP 𝒱 c
      (if h : p then Prog.lift (.waitDma2 (sem1 cc0_scratch9 (offS h) (iS h)) (qbSlot (off h) (io h)) aQ (w1 h) (w2 h)) >>= fun _ : PUnit => k ⟨⟩
        else k ⟨⟩) R := by
  have hc := dev_lt c
  split
  · next h =>
    have e1 := hf h
    have hd := hp h
    obtain ⟨t, ht⟩ : ∃ t : Dev nD, t.val = c.val - (e + 1) := ⟨dv (c.val - (e + 1)), dv_of (by omega)⟩
    rw [← ht] at e1
    unfold StW at hk ⊢
    have hS := S6_lt A c (k₁ := 7) (k₂ := 7) (k₃ := 7) (k₄ := 7) (k₅ := e) (k₆ := 0) (l₁ := 7) (l₂ := 7) (l₃ := 7) (l₄ := 7) (l₅ := e + 1) (l₆ := 0) (n := 3) (m := 4) t (by omega)
      (fun j hj => by
        have hj' : j.val ≠ t.val := fun e => hj (Fin.ext e)
        have := dev_lt j
        unfold stg; (repeat' split) <;> omega)
      (by unfold stg; (repeat' split) <;> omega) (by unfold stg; (repeat' split) <;> omega)
    iintro ⟨#HK, ⟨HS, HO⟩, HX⟩
    ihave ⟨⟨HQ, HM, HA, Hi⟩, Hback⟩ := hS $$ HS
    iapply (run_seq (wait_qs A κ c t (by omega) e1 am_aQ)) $$ [HQ HO]
    · isplitr; · iexact HK
      isplitl [HQ] <;> iassumption
    iintro %_ ⟨HO, HQ⟩
    iapply hk
    isplitr; · iexact HK
    isplitr [HX]
    rotate_left
    · iexact HX
    isplitr [HO]
    rotate_left
    · iexact HO
    iapply Hback
    isplitl [HQ]; · iexact HQ
    isplitl [HM]; · iapply (RM_hi A c t (by omega) (by omega)) $$ HM
    isplitl [HA]; · iapply (RA_hi A c t (by omega) (by omega)) $$ HA
    iexact Hi
  · next h =>
    have hd := hn h
    refine Entails.trans (BIBase.Entails.of_eq ?_) hk
    unfold StW
    rw [show S6 A c 7 7 7 7 e 0 = S6 A c 7 7 7 7 (e + 1) 0 from S6_congr A c (fun t => by unfold stg; have := dev_lt t; (repeat' split) <;> omega)]

/-- What a site that waits for the queries' transfer to the device at distance `d` is given. -/
abbrev QsFact (d : ℕ) (cond : BitVec 1) (oS : Fin 1 → ℕ) : Prop := (cond = 1#1 → d ≤ c.val ∧ oS = ![c.val - d]) ∧ (¬cond = 1#1 → c.val < d)

theorem qs_facts : QsFact c 1 (k0_cond29 c) (k0_off168 c) ∧ QsFact c 2 (k0_cond30 c) (k0_off170 c) ∧ QsFact c 3 (k0_cond31 c) (k0_off172 c)
    ∧ QsFact c 4 (k0_cond32 c) (k0_off174 c) ∧ QsFact c 5 (k0_cond33 c) (k0_off176 c) ∧ QsFact c 6 (k0_cond34 c) (k0_off178 c) ∧ QsFact c 7 (k0_cond35 c) (k0_off180 c) := by
  refine ⟨?_, ?_, ?_, ?_, ?_, ?_, ?_⟩ <;> (revert c; decide +kernel)

set_option maxHeartbeats 16000000 in
theorem run19 (v2 : BitVec 32) :
    iprop(Know A κ ∗ StA A c 7 ∗ ptsAny c cc0_stg4_0 Finset.univ)
      ⊢ WP 𝒱 c (prog19 c v2) fun _ => iprop(Know A κ ∗ StW A c 7 ∗ cp0 c ∗ ptsAny c cc0_scratch1 Finset.univ ∗ ptsAny c cc0_scratch8 Finset.univ
        ∗ ptsAny c cc0_scratch7 Finset.univ ∗ ptsAny c cc0_scratch6 Finset.univ ∗ pts c cc0_stg4_0 Finset.univ fullShare (outA A c)) := by
  obtain ⟨f1, f2, f3, f4, f5, f6, f7⟩ := qs_facts c
  unfold prog19 k0_part19_skel
  extract_lets
  unfold StA
  iintro ⟨HK, ⟨HS, ⟨HO, HR⟩, HX6⟩, ⟨%f, Hout⟩⟩
  icases HR with ⟨Hcp, Hcs, HX8, HX7⟩
  iapply (run_seq acc_load) $$ HX7
  iintro %v114 ⟨%e1, HX7⟩
  iapply (run_seq l_load) $$ HX6
  iintro %v115 ⟨%e2, HX6⟩
  iapply (run_seq (load_op c (m := aO) (S := Finset.univ) (f := f) (Finset.subset_univ _))) $$ Hout
  iintro %_ ⟨-, Hout⟩
  iapply (run_seq o_store) $$ Hout
  iintro %_ Hout
  subst e1 e2
  ihave H : iprop(Know A κ ∗ StW A c 0 ∗ (cp0 c ∗ ptsAny c cc0_scratch1 Finset.univ ∗ pts c cc0_scratch8 Finset.univ fullShare (mxA A c 7)
        ∗ pts c cc0_scratch7 Finset.univ fullShare (aA A c 7) ∗ pts c cc0_scratch6 Finset.univ fullShare (lA A c 7) ∗ pts c cc0_stg4_0 Finset.univ fullShare (outA A c)))
      $$ [HK HS HO HX8 Hcp Hcs HX6 HX7 Hout]
  · isplitl [HK]; · iexact HK
    isplitl [HS HO]
    · unfold StW
      isplitl [HS] <;> iassumption
    isplitl [Hcp]; · iexact Hcp
    isplitl [Hcs]; · iexact Hcs
    isplitl [HX8]; · iexact HX8
    isplitl [HX7]; · iexact HX7
    isplitl [HX6]; · iexact HX6
    iexact Hout
  istop
  refine qs_site A κ c 0 (by omega) (fun h => (f1.1 h).1) f1.2 (fun h => (f1.1 h).2) ?_
  refine qs_site A κ c 1 (by omega) (fun h => (f2.1 h).1) f2.2 (fun h => (f2.1 h).2) ?_
  refine qs_site A κ c 2 (by omega) (fun h => (f3.1 h).1) f3.2 (fun h => (f3.1 h).2) ?_
  refine qs_site A κ c 3 (by omega) (fun h => (f4.1 h).1) f4.2 (fun h => (f4.1 h).2) ?_
  refine qs_site A κ c 4 (by omega) (fun h => (f5.1 h).1) f5.2 (fun h => (f5.1 h).2) ?_
  refine qs_site A κ c 5 (by omega) (fun h => (f6.1 h).1) f6.2 (fun h => (f6.1 h).2) ?_
  refine qs_site A κ c 6 (by omega) (fun h => (f7.1 h).1) f7.2 (fun h => (f7.1 h).2) ?_
  iintro ⟨HK, HS, Hcp, Hcs, HX8, HX7, HX6, Hout⟩
  iapply run_pure
  isplitl [HK]; · iexact HK
  isplitl [HS]; · iexact HS
  isplitl [Hcp]; · iexact Hcp
  isplitl [Hcs]; · iexact Hcs
  isplitl [HX8]; · iexists _; iexact HX8
  isplitl [HX7]; · iexists _; iexact HX7
  isplitl [HX6]; · iexists _; iexact HX6
  iexact Hout

/-! ## The last two transfers -/

/-- The slots that the waits for the last `j` devices have given back. -/
def Given : ℕ → sProp 𝕄
  | 0 => iprop(emp)
  | j + 1 => iprop((if c.val + (j + 1) ≤ 7 then slots c ((7 - j - c.val) % 2) else emp) ∗ Given j)
def StD (j : ℕ) : sProp 𝕄 := iprop(S6 A c 7 7 7 7 7 j ∗ owe c 0 ∗ Given c j)

theorem drain_site (j : ℕ) (hj : j < 2) {p : Prop} [Decidable p] {offS offT : Fin 2 → ℕ}
    (hp : p → c.val + (j + 1) ≤ 7) (hn : ¬p → 7 < c.val + (j + 1)) (hS : offS = ![7 - j, 0]) (hT : offT = ![7 - j, 1])
    {iS : ∀ a, offS a + S1x1.size a ≤ S8x2.size a} {iT : ∀ a, offT a + S1x1.size a ≤ S8x2.size a}
    {oa ob : p → Fin 4 → ℕ} {om on : p → Fin 5 → ℕ}
    {ia : ∀ h : p, ∀ a, oa h a + S1x8x128x1024.size a ≤ S8x8x128x1024.size a} {ib : ∀ h : p, ∀ a, ob h a + S1x8x128x1024.size a ≤ S2x8x128x1024.size a}
    {im : ∀ h : p, ∀ a, om h a + S1x2x8x1x1024.size a ≤ S8x2x8x1x1024.size a} {in' : ∀ h : p, ∀ a, on h a + S1x2x8x1x1024.size a ≤ S2x2x8x1x1024.size a}
    {w1 : ∀ h : p, (paSlot (oa h) (ia h)).view.WordExact} {w2 : ∀ h : p, (abSlot (ob h) (ib h)).view.WordExact}
    {w3 : ∀ h : p, (pmSlot (om h) (im h)).view.WordExact} {w4 : ∀ h : p, (mbSlot (on h) (in' h)).view.WordExact}
    {α : Type} {k : PUnit → Prog (TpuEff nD τ sig (Elt F) Λ₀ .tc) α} {R : α → sProp 𝕄} {X : sProp 𝕄}
    (hk : iprop(Know A κ ∗ StD A c (j + 1) ∗ X) ⊢ WP 𝒱 c (k ⟨⟩) R) :
    iprop(Know A κ ∗ StD A c j ∗ X) ⊢ WP 𝒱 c
      (if h : p then Prog.lift (.waitDma2 (sem2 cc0_scratch11 offS iS) (paSlot (oa h) (ia h)) (abSlot (ob h) (ib h)) (w1 h) (w2 h)) >>= fun _ : PUnit =>
          Prog.lift (.waitDma2 (sem2 cc0_scratch11 offT iT) (pmSlot (om h) (im h)) (mbSlot (on h) (in' h)) (w3 h) (w4 h)) >>= fun _ : PUnit => k ⟨⟩
        else k ⟨⟩) R := by
  have hc := dev_lt c
  have hG : Given (F := F) c (j + 1) = iprop((if c.val + (j + 1) ≤ 7 then slots c ((7 - j - c.val) % 2) else emp) ∗ Given c j) := rfl
  unfold StD at hk ⊢
  rw [hG] at hk
  split
  · next h =>
    have hd := hp h
    rw [if_pos hd] at hk
    obtain ⟨t, ht⟩ : ∃ t : Dev nD, t.val = 7 - j := ⟨dv (7 - j), dv_of (by omega)⟩
    rw [← ht] at hS hT hk
    have hS6 := S6_gt A c (k₁ := 7) (k₂ := 7) (k₃ := 7) (k₄ := 7) (k₅ := 7) (k₆ := j) (l₁ := 7) (l₂ := 7) (l₃ := 7) (l₄ := 7) (l₅ := 7) (l₆ := j + 1) (n := 1) (m := 2) t (by omega)
      (fun i hi => by
        have hj' : i.val ≠ t.val := fun e => hi (Fin.ext e)
        have := dev_lt i
        unfold stg; split <;> (repeat' split) <;> omega)
      (by unfold stg; (repeat' split) <;> omega) (by unfold stg; (repeat' split) <;> omega)
    iintro ⟨#HK, ⟨HS, HO, HG⟩, HX⟩
    ihave ⟨⟨HQ, H0, H1, Hi⟩, Hback⟩ := hS6 $$ HS
    iapply (run_seq (wait_ps A κ c t (by omega) 0 hS ((am_ab _ _).trans Nb0.symm) (above_zero _))) $$ [H0 HO]
    · isplitr; · iexact HK
      isplitl [H0] <;> iassumption
    iintro %_ ⟨HO, H0, Hp0⟩
    iapply (run_seq (wait_ps A κ c t (by omega) 1 hT ((am_mb _ _).trans Nb1.symm) (above_zero _))) $$ [H1 HO]
    · isplitr; · iexact HK
      isplitl [H1] <;> iassumption
    iintro %_ ⟨HO, H1, Hp1⟩
    ihave Hs := (psPay_slots A c t ((t.val - c.val) % 2) rfl) $$ [Hp0 Hp1]
    · isplitl [Hp0] <;> iassumption
    iapply hk
    isplitr; · iexact HK
    isplitr [HX]
    rotate_left
    · iexact HX
    isplitl [HQ H0 H1 Hi Hback]
    · iapply Hback
      isplitl [HQ]; · iapply (RQ_hi c t (by omega) (by omega)) $$ HQ
      isplitl [H0]; · iexact H0
      isplitl [H1] <;> iassumption
    isplitl [HO]; · iexact HO
    isplitl [Hs] <;> iassumption
  · next h =>
    have hd := hn h
    rw [if_neg (by omega)] at hk
    have es : S6 A c 7 7 7 7 7 j = S6 A c 7 7 7 7 7 (j + 1) :=
      S6_congr A c (fun t => by unfold stg; have := dev_lt t; split <;> (repeat' split) <;> omega)
    refine BIBase.Entails.trans ?_ hk
    iintro ⟨HK, ⟨HS, HO, HG⟩, HX⟩
    isplitl [HK]; · iexact HK
    isplitr [HX]
    rotate_left
    · iexact HX
    isplitl [HS]; · iapply (BIBase.Entails.of_eq es) $$ HS
    isplitl [HO]; · iexact HO
    isplitr; · iempintro
    iexact HG

/-- All slots are back. -/
theorem slots_back : iprop(SL c 7 ∗ Given c 2) ⊢ (iprop(slots c 0 ∗ slots c 1) : sProp 𝕄) := by
  have hc := dev_lt c
  have hG : Given (F := F) c 2 = iprop((if c.val + 2 ≤ 7 then slots c ((7 - 1 - c.val) % 2) else emp)
    ∗ (if c.val + 1 ≤ 7 then slots c ((7 - 0 - c.val) % 2) else emp) ∗ emp) := rfl
  rw [hG]
  unfold SL
  by_cases h2 : c.val + 2 ≤ 7
  · rw [if_pos (by omega), if_pos (by omega), if_pos (by omega), if_pos (by omega)]
    rcases (by omega : c.val % 2 = 0 ∨ c.val % 2 = 1) with h | h
    · rw [show (7 - 1 - c.val) % 2 = 0 by omega, show (7 - 0 - c.val) % 2 = 1 by omega]
      iintro ⟨-, H0, H1, -⟩
      isplitl [H0] <;> iassumption
    · rw [show (7 - 1 - c.val) % 2 = 1 by omega, show (7 - 0 - c.val) % 2 = 0 by omega]
      iintro ⟨-, H1, H0, -⟩
      isplitl [H0] <;> iassumption
  by_cases h1 : c.val + 1 ≤ 7
  · rw [if_pos (by omega), if_neg (by omega), if_neg (by omega), if_pos (by omega), show (7 - 0 - c.val) % 2 = 1 by omega]
    iintro ⟨⟨-, H0⟩, -, H1, -⟩
    isplitl [H0] <;> iassumption
  · rw [if_neg (by omega), if_neg (by omega), if_neg (by omega), if_neg (by omega)]
    iintro ⟨⟨H1, H0⟩, -⟩
    isplitl [H0] <;> iassumption

end Cert.KernelIdeal.Attn

end
-- ==== Proof.Body.lean ====
/-
  The whole body, run once at a device `c`.
-/
module

public import proofs.«01_k».proof.Proof.Ends

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (A : Ins F) (κ : GSem nD τ sig → ℕ) {𝒱 : Variants} (c : Dev nD)

/-- The two waits at the end. -/
theorem drain_facts : ((k0_cond36 c = 1#1 → c.val + 1 ≤ 7) ∧ (¬k0_cond36 c = 1#1 → 7 < c.val + 1))
    ∧ ((k0_cond37 c = 1#1 → c.val + 2 ≤ 7) ∧ (¬k0_cond37 c = 1#1 → 7 < c.val + 2)) := by
  refine ⟨?_, ?_⟩ <;> (revert c; decide +kernel)

/-- The kernel's own buffers at contents not named: those that the body works in. -/
abbrev work : sProp 𝕄 :=
  iprop(ptsAny c cc0_scratch0 Finset.univ ∗ ptsAny c cc0_scratch1 Finset.univ ∗ slots c 0 ∗ slots c 1
    ∗ ptsAny c cc0_scratch5 Finset.univ ∗ ptsAny c cc0_scratch6 Finset.univ ∗ ptsAny c cc0_scratch7 Finset.univ ∗ ptsAny c cc0_scratch8 Finset.univ)
/-- The windows that are read besides the queries. -/
abbrev inKVM : sProp 𝕄 := iprop(KV A c ∗ pts c cc0_stg3_0 Finset.univ fullShare (A.msk c))

set_option maxHeartbeats 16000000 in
theorem run_body :
    iprop(Know A κ ∗ S6 A c 0 0 0 0 0 0 ∗ owe c (O₀ c) ∗ cp0 c ∗ work c ∗ inKVM A c ∗ ptsAny c cc0_stg4_0 Finset.univ)
      ⊢ WP 𝒱 c progAll fun _ => iprop(S6 A c 7 7 7 7 7 2 ∗ owe c 0 ∗ cp0 c ∗ work c ∗ inKVM A c ∗ pts c cc0_stg4_0 Finset.univ fullShare (outA A c)) := by
  obtain ⟨⟨f1, f2⟩, g1, g2⟩ := drain_facts c
  unfold progAll cc0__attn_body_skel
  rw [k0_part15_eq_skeleton, k0_part16_eq_skeleton, k0_part17_eq_skeleton, k0_part18_eq_skeleton, k0_part19_eq_skeleton]
  extract_lets
  iintro ⟨#HK, HS, HO, Hcp, ⟨H0, H1, Hs0, Hs1, H5, H6, H7, H8⟩, ⟨HKV, Hm⟩, Hout⟩
  iapply (run_seq (run15 A κ c)) $$ [HS HO Hcp Hs0 Hs1 H0 HKV]
  · isplitr; · iexact HK
    isplitl [HS HO]
    · unfold StQ
      isplitl [HS]; · iexact HS
      iexact HO
    isplitl [Hs0 Hs1]
    · unfold SL
      rw [if_neg (by omega), if_neg (by omega)]
      isplitl [Hs1] <;> iassumption
    isplitl [H0]; · iexact H0
    isplitl [Hcp] <;> iassumption
  iintro %x ⟨%ex, -, HP⟩
  obtain ⟨d0, v2, v29⟩ := x
  obtain rfl : d0 = c := ex
  iapply (run_seq (run16 A κ d0 v2 v29)) $$ [HP Hm H5 H6 H7 H8]
  · isplitr; · iexact HK
    isplitl [HP]; · iexact HP
    isplitl [Hm]; · iexact Hm
    isplitr [H8]
    · isplitl [H5]; · iexact H5
      isplitl [H6] <;> iassumption
    · iexact H8
  iintro %v56 ⟨%e56, -, HS, HO, Hcp, ⟨HSL, Hqs, HKV, Hm⟩, H5, H6, H7, H8⟩
  subst e56
  iapply (run_seq (run17 A κ d0 v2)) $$ [HS HO H8 H5 H6]
  · isplitr; · iexact HK
    isplitl [HS HO H8]
    · isplitl [HS]; · iexact HS
      isplitl [HO] <;> iassumption
    isplitl [H5] <;> iassumption
  iintro %y ⟨%ey, -, HM, H5, H6⟩
  obtain ⟨v81, v83⟩ := y
  obtain ⟨rfl, rfl⟩ : v81 = k0_pay71 (dM A d0) (mxA A d0 7) ∧ v83 = k0_pay72 (dM A d0) (mxA A d0 7) (dL A d0) := ey
  iapply (run_seq (run18 A κ d0 v2)) $$ [HM Hcp H1 H6 H7]
  · isplitr; · iexact HK
    isplitl [HM]; · iexact HM
    isplitl [Hcp]; · iexact Hcp
    isplitl [H1]; · iexact H1
    isplitl [H6] <;> iassumption
  iintro %_ ⟨-, HA⟩
  iapply (run_seq (run19 A κ d0 v2)) $$ [HA Hout]
  · isplitr; · iexact HK
    isplitl [HA] <;> iassumption
  iintro %_ ⟨-, HW, Hcp, H1, H8, H7, H6, Hout⟩
  unfold StW
  icases HW with ⟨HS, HO⟩
  ihave H : iprop(Know A κ ∗ StD A d0 0 ∗ (SL d0 7 ∗ qsFree d0 ∗ KV A d0 ∗ pts d0 cc0_stg3_0 Finset.univ fullShare (A.msk d0) ∗ pts d0 cc0_scratch5 Finset.univ fullShare (dM A d0)
      ∗ cp0 d0 ∗ ptsAny d0 cc0_scratch1 Finset.univ ∗ ptsAny d0 cc0_scratch8 Finset.univ
        ∗ ptsAny d0 cc0_scratch7 Finset.univ ∗ ptsAny d0 cc0_scratch6 Finset.univ ∗ pts d0 cc0_stg4_0 Finset.univ fullShare (outA A d0)))
    $$ [HS HO HSL Hqs HKV Hm H5 Hcp H1 H8 H7 H6 Hout]
  · isplitr; · iexact HK
    isplitl [HS HO]
    · unfold StD
      isplitl [HS]; · iexact HS
      isplitl [HO]; · iexact HO
      iempintro
    isplitl [HSL]; · iexact HSL
    isplitl [Hqs]; · iexact Hqs
    isplitl [HKV]; · iexact HKV
    isplitl [Hm]; · iexact Hm
    isplitl [H5]; · iexact H5
    isplitl [Hcp]; · iexact Hcp
    isplitl [H1]; · iexact H1
    isplitl [H8]; · iexact H8
    isplitl [H7]; · iexact H7
    isplitl [H6] <;> iassumption
  iclear HK
  istop
  beta_reduce
  extract_lets
  refine drain_site A κ d0 0 (by omega) (p := k0_cond36 d0 = 1#1) (offS := ![7, 0]) (offT := ![7, 1]) f1 f2 rfl rfl ?_
  beta_reduce
  refine drain_site A κ d0 1 (by omega) (p := k0_cond37 d0 = 1#1) (offS := ![6, 0]) (offT := ![6, 1]) g1 g2 rfl rfl ?_
  unfold StD
  iintro ⟨-, ⟨HS, HO, HG⟩, HSL, Hqs, HKV, Hm, H5, Hcp, H1, H8, H7, H6, Hout⟩
  ihave ⟨Hs0, Hs1⟩ := (slots_back d0) $$ [HSL HG]
  · isplitl [HSL] <;> iassumption
  iapply run_pure
  isplitl [HS]; · iexact HS
  isplitl [HO]; · iexact HO
  isplitl [Hcp]; · iexact Hcp
  isplitl [Hqs H1 Hs0 Hs1 H5 H6 H7 H8]
  · isplitl [Hqs]; · iexact Hqs
    isplitl [H1]; · iexact H1
    isplitl [Hs0]; · iexact Hs0
    isplitl [Hs1]; · iexact Hs1
    isplitl [H5]; · iexists _; iexact H5
    isplitl [H6]; · iexact H6
    isplitl [H7] <;> iassumption
  isplitl [HKV Hm]
  · isplitl [HKV] <;> iassumption
  iexact Hout

end Cert.KernelIdeal.Attn

end
-- ==== Proof.Start.lean ====
/-
  The data of the pipeline around the call, and its body's obligation.

  The pipeline copies each argument whole into a staging buffer, runs the body once, and copies the
  result out.
-/
module

public import proofs.«01_k».proof.Proof.Deal
public import proofs.«01_k».proof.Proof.Body
public import proofs.«01_k».proof.Proof.Gen.KernelIdeal.Frame
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds Idealize.ShloMosaic.RefSig Idealize.ShloMosaic.Transfers

variable {F : FTy → Type} [FloatOps F]

local notation "𝕄" => MT nD τ sig Unit (Elt F) ℕ UU ℕ

/-! ## The arguments and the windows -/

variable (m : (ℓ : Loc nD τ sig) → Buf (Elt F) ℓ)

/-- Every device's blocks of the arguments, as the run finds them. -/
def insOf : Ins F where
  q c := m ((c : Thread nD τ).loc main_arg0)
  k c := m ((c : Thread nD τ).loc main_arg1)
  v c := m ((c : Thread nD τ).loc main_arg2)
  msk c := m ((c : Thread nD τ).loc main_arg3)

abbrev adm : (p : Fin 1) → (pcfgs (F := F) p).Adm := fun p => (cfgs p).toPCfg_adm

/-- The semaphores that the kernel scopes for itself: its local copy's and the 48 towards the peers. -/
def osem : Option (Dev nD × Fin 6) → SemLoc sig
  | none => .dma cpN
  | some x => .dma (cN x.1 x.2)
theorem ownFacts : Pipeline.OwnSemFacts spec0 osem := by decide +kernel

/-! ## The proof data -/

variable {𝒱 : Variants} (A : Ins F) (c : Dev nD)

/-- What a device holds of the protocol when its call begins. -/
def Xin : sProp 𝕄 := iprop((∃ κ, Know A κ) ∗ (bigSep Finset.univ fun t : Dev nD => START c t) ∗ cp0 c)

def afterAt : (w : Fin cfg0.W) → (cfg0.win w).block.Idx → Elt F (cfg0.win w).elt
  | 0 => A.q c | 1 => A.k c | 2 => A.v c | 3 => A.msk c | 4 => outA A c
  | ⟨_ + 5, h⟩ => absurd h (Nat.not_lt.2 (Nat.le_add_left _ _))

def dat : Dat τ (Elt F) Unit ℕ UU ℕ cfg0 c where
  A w := m ((c : Thread nD τ).loc (Pipeline.arrRef spec0 w))
  after w _ := afterAt (insOf m) c w
  Φ t := if t.val = 0 then iprop(Xin (insOf m) c ∗ Pipeline.scopedRest spec0 c)
    else iprop(Pipeline.ownSems0 osem c ∗ Pipeline.scopedRest spec0 c)
  q _ := fullShare
  owed t := if t.val = 0 then O₀ c else 0

abbrev dats : (p : Fin 1) → (c : Dev nD) → Dat τ (Elt F) Unit ℕ UU ℕ (cfgs p) c := fun _ c => dat m c

/-- The one block of a window is the whole array: an input's staging buffer holds the argument, -/
theorem before_0 (t : Fin cfg0.N) (d) : (dat m c).before 0 t d = (insOf m).q c :=
  ((dat m c).before_fetched 0 t (fetch0_0 t) d).trans (funext fun x => congrArg (m ((c : Thread nD τ).loc main_arg0))
    (funext fun a => Fin.ext (Pipeline.Window.rect_emb_val_of_index_zero win0_0 t a rfl x)))
theorem before_1 (t : Fin cfg0.N) (d) : (dat m c).before 1 t d = (insOf m).k c :=
  ((dat m c).before_fetched 1 t (fetch0_1 t) d).trans (funext fun x => congrArg (m ((c : Thread nD τ).loc main_arg1))
    (funext fun a => Fin.ext (Pipeline.Window.rect_emb_val_of_index_zero win0_1 t a rfl x)))
theorem before_2 (t : Fin cfg0.N) (d) : (dat m c).before 2 t d = (insOf m).v c :=
  ((dat m c).before_fetched 2 t (fetch0_2 t) d).trans (funext fun x => congrArg (m ((c : Thread nD τ).loc main_arg2))
    (funext fun a => Fin.ext (Pipeline.Window.rect_emb_val_of_index_zero win0_2 t a rfl x)))
theorem before_3 (t : Fin cfg0.N) (d) : (dat m c).before 3 t d = (insOf m).msk c :=
  ((dat m c).before_fetched 3 t (fetch0_3 t) d).trans (funext fun x => congrArg (m ((c : Thread nD τ).loc main_arg3))
    (funext fun a => Fin.ext (Pipeline.Window.rect_emb_val_of_index_zero win0_3 t a rfl x)))
/-- and the result's array ends at what the body left. -/
theorem arrAt_4 : (dat m c).arrAt 4 cfg0.N = outA (insOf m) c := by
  funext x
  have h := Dat.arrAt_emb_eq_flushed (dat := dat m c) 4 (fun t t' _ _ h => absurd ((fin_N0 t).trans (fin_N0 t').symm) h) t0_0 (flush0_4 t0_0) x
  have e : (((cfg0.win 4).blk t0_0).view.emb x : S8x128x1024.Idx) = x :=
    funext fun a => Fin.ext (Pipeline.Window.rect_emb_val_of_index_zero win0_4 t0_0 a rfl x)
  exact (congrArg ((dat m c).arrAt 4 cfg0.N) e.symm).trans h

/-! ## The body -/

/-- The staging buffers as the body finds them, -/
def stIn : sProp 𝕄 := iprop(pts c cc0_stg0_0 Finset.univ fullShare (A.q c) ∗ inKVM A c ∗ ptsAny c cc0_stg4_0 Finset.univ)
/-- and as it leaves them. -/
def stOut : sProp 𝕄 := iprop(pts c cc0_stg0_0 Finset.univ fullShare (A.q c) ∗ inKVM A c ∗ pts c cc0_stg4_0 Finset.univ fullShare (outA A c))

theorem two (Φ : Fin 2 → sProp 𝕄) : bigSep Finset.univ Φ = iprop(Φ 0 ∗ Φ 1) :=
  bigSep_univ_eq_bigSepL [(0 : Fin 2), 1] (by decide) (by decide) Φ

theorem scoped_in :
    (Pipeline.scopedRest spec0 c : sProp 𝕄) ⊢ iprop(work c ∗ bigSep Finset.univ fun t : Dev nD => ptsAny c cc0_scratch4 (pmS t)) := by
  rw [scopedRest0_eq]
  unfold work slots
  iintro ⟨H0, H1, H2, H3, H4, H5, H6, H7, H8⟩
  have h2 := slots_split c cc0_scratch2 (fun k : Fin 2 => abS k.val) (fun k k' h => lead_disj (fun e => h (Fin.ext e))) lead_cover (F := F)
  have h3 := slots_split c cc0_scratch3 (fun k : Fin 2 => mbS k.val) (fun k k' h => lead_disj (fun e => h (Fin.ext e))) lead_cover (F := F)
  have h4 := slots_split c cc0_scratch4 (fun k : Fin 8 => (lead k.val : Finset S8x2x8x1x1024.Idx)) (fun k k' h => lead_disj (fun e => h (Fin.ext e))) lead_cover (F := F)
  have e2 := two (fun k : Fin 2 => (ptsAny c cc0_scratch2 (abS k.val) : sProp 𝕄))
  have e3 := two (fun k : Fin 2 => (ptsAny c cc0_scratch3 (mbS k.val) : sProp 𝕄))
  ihave G2 := (h2.trans (BIBase.Entails.of_eq e2)) $$ H2
  ihave G3 := (h3.trans (BIBase.Entails.of_eq e3)) $$ H3
  ihave G4 := h4 $$ H4
  icases G2 with ⟨G20, G21⟩
  icases G3 with ⟨G30, G31⟩
  isplitr [G4]
  · isplitl [H0]; · iexact H0
    isplitl [H1]; · iexact H1
    isplitl [G20 G30]
    · isplitl [G20]; · iexact G20
      iexact G30
    isplitl [G21 G31]
    · isplitl [G21]; · iexact G21
      iexact G31
    isplitl [H5]; · iexact H5
    isplitl [H6]; · iexact H6
    isplitl [H7]; · iexact H7
    iexact H8
  · iexact G4

theorem scoped_out :
    iprop(work c ∗ bigSep Finset.univ fun t : Dev nD => ptsAny c cc0_scratch4 (pmS t)) ⊢ (Pipeline.scopedRest spec0 c : sProp 𝕄) := by
  rw [scopedRest0_eq]
  unfold work slots
  have h2 := slots_join c cc0_scratch2 (fun k : Fin 2 => abS k.val) (fun k k' h => lead_disj (fun e => h (Fin.ext e))) lead_cover (F := F)
  have h3 := slots_join c cc0_scratch3 (fun k : Fin 2 => mbS k.val) (fun k k' h => lead_disj (fun e => h (Fin.ext e))) lead_cover (F := F)
  have h4 := slots_join c cc0_scratch4 (fun k : Fin 8 => (lead k.val : Finset S8x2x8x1x1024.Idx)) (fun k k' h => lead_disj (fun e => h (Fin.ext e))) lead_cover (F := F)
  have e2 := two (fun k : Fin 2 => (ptsAny c cc0_scratch2 (abS k.val) : sProp 𝕄))
  have e3 := two (fun k : Fin 2 => (ptsAny c cc0_scratch3 (mbS k.val) : sProp 𝕄))
  iintro ⟨⟨H0, H1, ⟨G20, G30⟩, ⟨G21, G31⟩, H5, H6, H7, H8⟩, G4⟩
  ihave H2 := ((BIBase.Entails.of_eq e2.symm).trans h2) $$ [G20 G21]
  · isplitl [G20]; · iexact G20
    iexact G21
  ihave H3 := ((BIBase.Entails.of_eq e3.symm).trans h3) $$ [G30 G31]
  · isplitl [G30]; · iexact G30
    iexact G31
  ihave H4 := h4 $$ G4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The kernel's own semaphores at zero: the local copy's, and six towards each peer. -/
theorem own_eq : (Pipeline.ownSems0 osem c : sProp 𝕄)
    = iprop(cp0 c ∗ bigSep Finset.univ fun t : Dev nD => bigSep Finset.univ fun k : Fin 6 => semVal (cl c (cN t k)) 0) := by
  unfold Pipeline.ownSems0
  rw [← BI.bigSep_univ_prod fun x : Dev nD × Fin 6 => (semVal (cl c (cN x.1 x.2)) 0 : sProp 𝕄)]
  have h : (Finset.univ : Finset (Option (Dev nD × Fin 6))).erase none = Finset.univ.map Function.Embedding.some := by
    ext x; cases x <;> simp
  rw [bigSep_univ_at _ none, h, BI.bigSep_map]
  rfl

set_option maxHeartbeats 4000000 in
/-- The body, from what a device is dealt to the semaphores back at zero. -/
theorem run_call :
    iprop(Xin A c ∗ Pipeline.scopedRest spec0 c ∗ owe c (O₀ c) ∗ stIn A c)
      ⊢ WP 𝒱 c progAll fun _ => iprop((Pipeline.ownSems0 osem c ∗ Pipeline.scopedRest spec0 c) ∗ owe c 0 ∗ stOut A c) := by
  have hs := scoped_in c (F := F)
  have hq := pointsTo_toks_split (ℓ := (c : Thread nD τ).loc cc0_stg0_0) (S := Finset.univ) (f := A.q c) fullShare 8 (Ix := Unit) (Val := Elt F) (Name := ℕ) (U := UU) (Lvl := ℕ)
  have hj := pointsTo_toks_join (ℓ := (c : Thread nD τ).loc cc0_stg0_0) (S := Finset.univ) (f := A.q c) fullShare 8 (Ix := Unit) (Val := Elt F) (Name := ℕ) (U := UU) (Lvl := ℕ)
  unfold Xin stIn stOut
  rw [own_eq]
  iintro ⟨⟨⟨%κ, #HK⟩, HS, Hcp⟩, HR, HO, HQ, HKV, Hst⟩
  ihave HR := hs $$ HR
  icases HR with ⟨Hw, Hm⟩
  ihave HQ := hq $$ HQ
  icases HQ with ⟨Hd, HT⟩
  ihave H := (peers_start A c) $$ [HS HT Hm]
  · isplitl [HS]; · iexact HS
    isplitl [HT]; · iexact HT
    iexact Hm
  icases H with ⟨H6, HP⟩
  iapply (wp_fupd frame (wpE (defs₀ (F := F)) 𝒱 (c : Thread nD τ) none) Set.univ _ _)
  iapply (wp_wand_r frame (wpE (defs₀ (F := F)) 𝒱 (c : Thread nD τ) none) Set.univ)
  isplitl [H6 HO Hcp Hw HKV Hst]
  · iapply (run_body A κ c)
    isplitr; · iexact HK
    isplitl [H6]; · iexact H6
    isplitl [HO]; · iexact HO
    isplitl [Hcp]; · iexact Hcp
    isplitl [Hw]; · iexact Hw
    isplitl [HKV]; · iexact HKV
    iexact Hst
  iintro %_ ⟨H6, HO, Hcp, Hw, HKV, Hst⟩
  imod (peers_end A κ c) $$ [H6 HP] with ⟨Hz, HT, Hm⟩
  · isplitr; · iexact HK
    isplitl [H6]; · iexact H6
    iexact HP
  imodintro
  isplitl [Hz Hcp Hw Hm]
  · isplitl [Hz Hcp]
    · isplitl [Hcp]; · iexact Hcp
      iexact Hz
    iapply (scoped_out c (F := F))
    isplitl [Hw]; · iexact Hw
    iexact Hm
  isplitl [HO]; · iexact HO
  isplitl [Hd HT]
  · iapply hj
    isplitl [Hd]; · iexact Hd
    iexact HT
  isplitl [HKV]; · iexact HKV
  iexact Hst

theorem Φ_first : (dat m c).Φ t0_0.castSucc = iprop(Xin (insOf m) c ∗ Pipeline.scopedRest spec0 c) := by
  dsimp only [dat]; exact if_pos rfl
theorem Φ_last : (dat m c).Φ t0_0.succ = iprop(Pipeline.ownSems0 osem c ∗ Pipeline.scopedRest spec0 c) := by
  dsimp only [dat]; exact if_neg (Nat.succ_ne_zero _)
theorem owed_first : (dat m c).owed t0_0.castSucc = O₀ c := by
  dsimp only [dat]; exact if_pos rfl
theorem owed_last : (dat m c).owed t0_0.succ = 0 := by
  dsimp only [dat]; exact if_neg (Nat.succ_ne_zero _)

set_option maxHeartbeats 4000000 in
theorem body_obligation : BodyObligation (dat m c) defs₀ 𝒱 () Set.univ := by
  intro t
  obtain rfl := fin_N0 t
  rw [Φ_first, Φ_last]
  unfold Dat.owesAt Pipeline.owesWithin
  rw [owed_first, owed_last]
  rw [show (Finset.univ : Finset (Fin cfg0.W)) = (Finset.univ : Finset (Fin 5)) from rfl, bigSep_W0, bigSep_W0]
  have hrun := run_call (𝒱 := 𝒱) (insOf m) c
  unfold stIn stOut at hrun
  iintro ⟨⟨HX, HR⟩, ⟨%W, -, HO⟩, ⟨%d0, H0⟩, ⟨%d1, H1⟩, ⟨%d2, H2⟩, ⟨%d3, H3⟩, ⟨%d4, H4⟩⟩
  iapply (show WP 𝒱 c progAll _ ⊢ _ from BIBase.Entails.rfl)
  iapply (wp_wand_r frame (wpE (defs₀ (F := F)) 𝒱 (c : Thread nD τ) none) Set.univ)
  isplitl
  · iapply hrun
    isplitl [HX]; · iexact HX
    isplitl [HR]; · iexact HR
    isplitl [HO]; · iexists W; iexact HO
    isplitl [H0]
    · rw [before_0]; iapply (BIBase.Entails.of_eq (owns_whole (c : Thread nD τ) cc0_stg0_0 fullShare _)); iexact H0
    isplitl [H1 H2 H3]
    · isplitl [H1 H2]
      · isplitl [H1]
        · rw [before_1]; iapply (BIBase.Entails.of_eq (owns_whole (c : Thread nD τ) cc0_stg1_0 fullShare _)); iexact H1
        · rw [before_2]; iapply (BIBase.Entails.of_eq (owns_whole (c : Thread nD τ) cc0_stg2_0 fullShare _)); iexact H2
      · rw [before_3]; iapply (BIBase.Entails.of_eq (owns_whole (c : Thread nD τ) cc0_stg3_0 fullShare _)); iexact H3
    iexists _
    iapply (BIBase.Entails.of_eq (owns_whole (c : Thread nD τ) cc0_stg4_0 fullShare _)); iexact H4
  · iintro %_ ⟨HΦ, ⟨%W', HO⟩, H0, ⟨⟨H1, H2⟩, H3⟩, H4⟩
    isplitl [HΦ]; · iexact HΦ
    isplitl [HO]
    · iexists W'
      isplitr
      · ipureintro; exact fun x _ => Or.inl (Set.mem_univ x)
      iexact HO
    isplitl [H0]
    · iapply (BIBase.Entails.of_eq (owns_whole (c : Thread nD τ) cc0_stg0_0 fullShare _).symm); iexact H0
    isplitl [H1]
    · iapply (BIBase.Entails.of_eq (owns_whole (c : Thread nD τ) cc0_stg1_0 fullShare _).symm); iexact H1
    isplitl [H2]
    · iapply (BIBase.Entails.of_eq (owns_whole (c : Thread nD τ) cc0_stg2_0 fullShare _).symm); iexact H2
    isplitl [H3]
    · iapply (BIBase.Entails.of_eq (owns_whole (c : Thread nD τ) cc0_stg3_0 fullShare _).symm); iexact H3
    · iapply (BIBase.Entails.of_eq (owns_whole (c : Thread nD τ) cc0_stg4_0 fullShare _).symm); iexact H4

end Cert.KernelIdeal.Attn

end
-- ==== Proof.Core.lean ====
/-
  One device's run of the whole program: the call, then the operations after it.
-/
module

public import proofs.«01_k».proof.Proof.Start
public import Idealize.ShloMosaic.Lib.Pipeline.Launch
public import Idealize.ShloMosaic.Lib.Pipeline.Regions

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds Idealize.ShloMosaic.RefSig Idealize.ShloMosaic.Transfers

variable {F : FTy → Type} [FloatOps F]

local notation "𝕄" => MT nD τ sig Unit (Elt F) ℕ UU ℕ

variable (m : (ℓ : Loc nD τ sig) → Buf (Elt F) ℓ)

abbrev PIN (F : FTy → Type) [FloatOps F] := Pipeline.pin (pcfgs (F := F)) adm

/-! ## The operations after the call -/

/-- The buffers that they touch: the call's result, the output projection, and their own results. -/
def tailRef : Fin 8 → Ref sig .tc :=
  ![main_v1_0, main_arg4, main_v2, main_v3, main_v4, main_v5, main_v6, main_v7]
theorem tailRef_inj : Function.Injective tailRef := by decide
def tailS : Finset (DevRef τ sig) :=
  Finset.univ.map ⟨fun i => Proc.devRef .tc (tailRef i), (Proc.devRef_injective _).comp tailRef_inj⟩
theorem mem_tail (i : Fin 8) : (Proc.devRef .tc (tailRef i) : DevRef τ sig) ∈ tailS :=
  Finset.mem_map.mpr ⟨i, Finset.mem_univ _, rfl⟩

theorem mem_two {a b : DevRef τ sig} {S : Finset (DevRef τ sig)} (ha : a ∈ S) (hb : b ∈ S) : ({a, b} : Finset (DevRef τ sig)) ⊆ S :=
  Finset.insert_subset ha (Finset.singleton_subset_iff.mpr hb)
theorem tail_sub : ∀ op ∈ (hostOps1 : List (HloOp τ sig (Elt F))), op.bufs ⊆ tailS :=
  List.forall_iff_forall_mem.mp
    ⟨mem_two (mem_tail 0) (mem_tail 2), mem_two (mem_tail 2) (mem_tail 3),
      Finset.insert_subset (mem_tail 3) (mem_two (mem_tail 1) (mem_tail 4)),
      mem_two (mem_tail 4) (mem_tail 5), mem_two (mem_tail 5) (mem_tail 6), mem_two (mem_tail 6) (mem_tail 7)⟩
theorem tail_fresh : ∀ op ∈ (hostOps1 : List (HloOp τ sig (Elt F))), op.fresh = ∅ :=
  List.forall_iff_forall_mem.mp ⟨rfl, rfl, rfl, rfl, rfl, rfl⟩

/-- A device's buffers when the call has returned, -/
def V1 (c : Dev nD) : Valuation τ sig (Elt F) :=
  Function.update (fun b => m (c, b)) (Proc.devRef .tc main_v1_0) (outA (insOf m) c)
/-- and at the end. -/
def VN (c : Dev nD) : Valuation τ sig (Elt F) := StableHlo.after hostOps1 (V1 m c)

theorem V1_out (c : Dev nD) : V1 m c (Proc.devRef .tc main_v1_0) = outA (insOf m) c := Function.update_self ..
theorem V1_ne (c : Dev nD) {r : Ref sig .tc} (h : r ≠ main_v1_0) : V1 m c (Proc.devRef .tc r) = m ((c : Thread nD τ).loc r) :=
  Function.update_of_ne (StableHlo.devRef_ne_of_ne h) ..

/-- A buffer of device `c` whole at its contents under `V`. -/
abbrev pw (c : Dev nD) (V : Valuation τ sig (Elt F)) (r : Ref sig .tc) : sProp 𝕄 :=
  ((c : Thread nD τ).loc r) ↦{fullShare} V (Proc.devRef .tc r)

theorem held_tail (c : Dev nD) (V : Valuation τ sig (Elt F)) :
    (StableHlo.held (c : Thread nD τ) tailS V : sProp 𝕄)
      = iprop(pw c V main_v1_0 ∗ pw c V main_arg4 ∗ pw c V main_v2 ∗ pw c V main_v3 ∗ pw c V main_v4 ∗ pw c V main_v5
          ∗ pw c V main_v6 ∗ pw c V main_v7) := by
  have h := bigSep_univ_eq_bigSepL [(0 : Fin 8), 1, 2, 3, 4, 5, 6, 7] (by decide) (by decide) fun i : Fin 8 => pw c V (tailRef i)
  exact (BI.bigSep_map _).trans h

/-! ## What a device starts and ends with -/

/-- A buffer whole as the program finds it. -/
abbrev p0 (c : Dev nD) (r : Ref sig .tc) : sProp 𝕄 := ((c : Thread nD τ).loc r) ↦{fullShare} m ((c : Thread nD τ).loc r)

/-- The arrays of the call's windows and the buffers of the operations after it. -/
def bufs0 (c : Dev nD) : sProp 𝕄 :=
  iprop((p0 m c main_arg0 ∗ p0 m c main_arg1 ∗ p0 m c main_arg2 ∗ p0 m c main_arg3 ∗ p0 m c main_v1_0)
    ∗ p0 m c main_arg4 ∗ p0 m c main_v2 ∗ p0 m c main_v3 ∗ p0 m c main_v4 ∗ p0 m c main_v5 ∗ p0 m c main_v6 ∗ p0 m c main_v7)

def pre (c : Dev nD) : sProp 𝕄 :=
  iprop((scopedBufs (c : Thread nD τ) ∗ Pipeline.cellsSems0 (PIN F) 0 c ∗ Pipeline.idleSems0 (PIN F) cellOf_inj 0 ownFacts c
      ∗ opIdle (c : Thread nD τ))
    ∗ bufs0 m c ∗ owes (c : Thread nD τ) (O₀ c) ∅ ∗ levAts L lv
    ∗ Pipeline.cellsGhost (PIN F) EP 0 c ∗ Pipeline.toksInit (PIN F) EP 0 c ∗ Xin (insOf m) c)

def fin (c : Dev nD) : sProp 𝕄 :=
  iprop(((p0 m c main_arg0 ∗ p0 m c main_arg1 ∗ p0 m c main_arg2 ∗ p0 m c main_arg3) ∗ StableHlo.held (c : Thread nD τ) tailS (VN m c))
    ∗ boundary (c : Thread nD τ))

/-! ## The call -/

variable (c : Dev nD)

theorem above_O₀ : Above 0 (O₀ c) := by
  unfold O₀; exact above_add (above_owQ c 0) (above_mono (by decide) (above_owP c 0))

theorem stage_lv : ∀ (w : Fin 5) (s : Fin (spec0 w).nbuf), lvN ((spec0 w).sem s).val = 0 := by decide

theorem waits : (levAts L lv : sProp 𝕄) ⊢ Pipeline.cellsWaits (PIN F) (dats m) () 0 c :=
  Pipeline.cellsWaits_intro (PIN F) (dats m) () 0 c fun w s t => by
    refine mayWait_of c _ ?_
    rw [show lvN (((PIN F 0).win w).sem s).val = 0 from stage_lv w s]
    by_cases h : t.val = 0
    · rw [show (dats m 0 c).owed t = O₀ c from if_pos h]; exact above_O₀ c
    · rw [show (dats m 0 c).owed t = 0 from if_neg h]; exact above_zero _

theorem hin : iprop(Xin (insOf m) c ∗ Pipeline.prefHeld (pcfgs (F := F) 0).pre c (fun _ => fullShare) (adm (F := F) 0).1 ∗ Pipeline.scopedRest spec0 c)
    ⊢ (dats m 0 c).Φ 0 := by
  rw [show (dats m 0 c).Φ 0 = iprop(Xin (insOf m) c ∗ Pipeline.scopedRest spec0 c) from Φ_first m c]
  iintro ⟨HX, -, HR⟩
  isplitl [HX]; · iexact HX
  iexact HR

theorem hout :
    iprop((dats m 0 c).Φ (Fin.last (PIN F 0).N) ∗ Pipeline.cellsSems0 (PIN F) 0 c ∗ Dat.staging (PIN F 0) c
        ∗ Pipeline.idleSems0 (PIN F) cellOf_inj 0 ownFacts c)
      ⊢ (iprop(emp ∗ scopedSems0 (c : Thread nD τ) ∗ scopedBufs (c : Thread nD τ)) : sProp 𝕄) := by
  rw [show (dats m 0 c).Φ (Fin.last (PIN F 0).N) = iprop(Pipeline.ownSems0 osem c ∗ Pipeline.scopedRest spec0 c) from Φ_last m c]
  rw [Pipeline.scopedSems0_split (PIN F) cellOf_inj 0 winFacts0.to₀ ownFacts c,
    Pipeline.scopedBufs_split (PIN F) 0 winFacts0.stage_scoped winFacts0.stage_inj stage_whole0 c]
  iintro ⟨⟨Hos, Hr⟩, Hcells, Hst, Hidle⟩
  isplitr; · iempintro
  isplitl [Hcells Hos Hidle]
  · isplitl [Hcells Hos]
    · isplitl [Hcells]; · iexact Hcells
      iexact Hos
    iexact Hidle
  isplitl [Hst]; · iexact Hst
  iexact Hr

/-! ## The run -/

theorem arrays_at (n : ℕ) : (dats m 0 c).arrays (fun w => (dats m 0 c).arrAt w n)
    = iprop(((c : Thread nD τ).loc main_arg0 ↦{fullShare} (dat m c).arrAt 0 n) ∗ ((c : Thread nD τ).loc main_arg1 ↦{fullShare} (dat m c).arrAt 1 n)
      ∗ ((c : Thread nD τ).loc main_arg2 ↦{fullShare} (dat m c).arrAt 2 n) ∗ ((c : Thread nD τ).loc main_arg3 ↦{fullShare} (dat m c).arrAt 3 n)
      ∗ ((c : Thread nD τ).loc main_v1_0 ↦{fullShare} (dat m c).arrAt 4 n)) :=
  (Pipeline.arrays_eq (PIN F) (dats m) 0 c arr_whole0 (fun w => ite_self _) _).trans (bigSep_W0 _)

set_option maxHeartbeats 1000000 in
/-- The call: the arguments stay, the result's array gets what the body leaves, and every semaphore is back at zero. -/
theorem call_run {𝒱₀ : Variants} {k : PUnit → Prog (TpuEff nD τ sig (Elt F) (Pipeline.Sig Λ₀ (Fin 1) fun p => (pcfgs (F := F) p).Adm) .tc) PUnit}
    {Q : PUnit → sProp 𝕄} :
    iprop((((p0 m c main_arg0 ∗ p0 m c main_arg1 ∗ p0 m c main_arg2 ∗ p0 m c main_arg3 ∗ pw c (V1 m c) main_v1_0)
          ∗ (∃ W, owes (c : Thread nD τ) 0 W) ∗ boundary (c : Thread nD τ))
        -∗ wp frame (wpE (defs (F := F)) (Variants.lift 𝒱₀) (c : Thread nD τ) none) Set.univ (k ⟨⟩) Q)
      ∗ (scopedBufs (c : Thread nD τ) ∗ Pipeline.cellsSems0 (PIN F) 0 c ∗ Pipeline.idleSems0 (PIN F) cellOf_inj 0 ownFacts c
          ∗ opIdle (c : Thread nD τ))
      ∗ (p0 m c main_arg0 ∗ p0 m c main_arg1 ∗ p0 m c main_arg2 ∗ p0 m c main_arg3 ∗ p0 m c main_v1_0)
      ∗ owes (c : Thread nD τ) (O₀ c) ∅ ∗ levAts L lv
      ∗ Pipeline.cellsGhost (PIN F) EP 0 c ∗ Pipeline.toksInit (PIN F) EP 0 c ∗ Xin (insOf m) c)
    ⊢ wp frame (wpE (defs (F := F)) (Variants.lift 𝒱₀) (c : Thread nD τ) none) Set.univ (.op (.customCall (Pipeline.entry 0) ()) k) Q := by
  have hsb := Pipeline.scopedBufs_split (PIN F) 0 winFacts0.stage_scoped winFacts0.stage_inj stage_whole0 c (nD := nD) (τ := τ) (Ix := Unit) (Val := Elt F) (Name := ℕ) (U := UU) (Lvl := ℕ)
  iintro ⟨Hk, ⟨Hsc, Hcells, Hidle, Hop⟩, Harr, HO, #Hla, Hg, Ht, HX⟩
  ihave Hw := (waits m c) $$ Hla
  iapply (fupd_wp frame (wpE (defs (F := F)) (Variants.lift 𝒱₀) (c : Thread nD τ) none) Set.univ _ _)
  imod (Pipeline.cellsInit_alloc (PIN F) (dats m) EP cellOf_inj 0 c) $$ [Hcells Hg] with ⟨%κ, -, Hinit⟩
  · isplitl [Hcells] <;> iassumption
  imodintro
  iapply (Pipeline.wp_customCall_entry_frame (pcfgs (F := F)) adm (dats m) () EP κ cellOf_inj 0 defs₀ 𝒱₀ (fun _ => fullShare) c Set.univ
      (fun _ _ => Set.mem_univ _) (body_obligation m c).loose block_pos0 none (fun u h => nomatch h) (X := Xin (insOf m) c) (Y := iprop(emp))
      (R := Pipeline.scopedRest spec0 c) (I := Pipeline.idleSems0 (PIN F) cellOf_inj 0 ownFacts c) (Entails.of_eq hsb) (hin m c) (hout m c)
      (k := k) (Q := Q)) $$ [Harr HO Hw Hinit Ht HX Hidle Hsc]
  · isplitl [Harr HO Hw Hinit Ht]
    · unfold Pipeline.EntryPre Pipeline.PerCore.EntryPre
      isplitl [Harr]
      · iapply (Entails.of_eq (arrays_at m c 0).symm); iexact Harr
      isplitl [HO]
      · unfold Dat.owesAt Pipeline.owesWithin
        rw [show (dats m 0 c).owed 0 = O₀ c from owed_first m c]
        iexists ∅; isplitr; · ipureintro; rw [Finset.coe_empty]; exact Set.empty_subset _
        iexact HO
      isplitl [Hw]; · iexact Hw
      isplitl [Hinit]; · iexact Hinit
      iexact Ht
    isplitr; · unfold Pipeline.prefHeld; iempintro
    isplitl [HX]; · iexact HX
    isplitl [Hidle]; · iexact Hidle
    iexact Hsc
  iintro ⟨Hpost, -, Hss, Hsc⟩
  unfold Pipeline.EntryPost Pipeline.PerCore.EntryPost
  icases Hpost with ⟨Ha, HO⟩
  iapply Hk
  isplitl [Ha]
  · ihave Ha := (Entails.of_eq (arrays_at m c cfg0.N)) $$ Ha
    rw [arrAt_4, (dat m c).arrAt_in 0 rfl, (dat m c).arrAt_in 1 rfl, (dat m c).arrAt_in 2 rfl, (dat m c).arrAt_in 3 rfl]
    rw [show pw c (V1 m c) main_v1_0 = ((c : Thread nD τ).loc main_v1_0 ↦{fullShare} outA (insOf m) c : sProp 𝕄) from by
      unfold pw; rw [V1_out]]
    iexact Ha
  isplitl [HO]
  · unfold Dat.owesAt Pipeline.owesWithin
    rw [show (dats m 0 c).owed (Fin.last _) = 0 from owed_last m c]
    icases HO with ⟨%W, -, HW⟩
    iexists W; iexact HW
  unfold boundary
  isplitl [Hsc]; · iexact Hsc
  isplitl [Hss]; · iexact Hss
  iexact Hop

set_option maxHeartbeats 1000000 in
/-- One device's run of the program. -/
theorem core_run {𝒱₀ : Variants} :
    pre m c ⊢ wp frame (wpE (defs (F := F)) (Variants.lift 𝒱₀) (c : Thread nD τ) none) Set.univ (main (F := F) c)
      fun _ => iprop(fin m c ∗ ∃ W, owes (c : Thread nD τ) 0 W) := by
  rw [main_chain]
  rw [show (Pipeline.chain [Prog.lift (.customCall (Pipeline.entry 0) ()), StableHlo.seq hostOps1]
      : Prog (TpuEff nD τ sig (Elt F) (Pipeline.Sig Λ₀ (Fin 1) fun p => (pcfgs (F := F) p).Adm) .tc) PUnit)
    = .op (.customCall (Pipeline.entry 0) ()) fun _ => StableHlo.seq hostOps1 >>= fun _ => .ret ⟨⟩ from rfl]
  unfold pre bufs0
  iintro ⟨Hsc, ⟨Harr, H4, H2, H3, H5, H6, H7, H8⟩, HO, #Hla, Hg, Ht, HX⟩
  iapply (call_run m c)
  isplitr [Hsc Harr HO Hg Ht HX]
  · iintro ⟨⟨Ha0, Ha1, Ha2, Ha3, Hv⟩, HO, Hb⟩
    ihave Hheld := (Entails.of_eq (held_tail c (V1 m c)).symm) $$ [Hv H4 H2 H3 H5 H6 H7 H8]
    · unfold pw
      rw [V1_ne m c (r := main_arg4) (by decide), V1_ne m c (r := main_v2) (by decide), V1_ne m c (r := main_v3) (by decide),
        V1_ne m c (r := main_v4) (by decide), V1_ne m c (r := main_v5) (by decide), V1_ne m c (r := main_v6) (by decide),
        V1_ne m c (r := main_v7) (by decide)]
      isplitl [Hv]; · iexact Hv
      isplitl [H4]; · iexact H4
      isplitl [H2]; · iexact H2
      isplitl [H3]; · iexact H3
      isplitl [H5]; · iexact H5
      isplitl [H6]; · iexact H6
      isplitl [H7]; · iexact H7
      iexact H8
    iapply (StableHlo.wp_seq (Variants.lift 𝒱₀) none Set.univ c tailS (fun _ => .ret ⟨⟩) hostOps1 tail_sub tail_fresh (V1 m c)) $$ [Hb Hheld]
    · isplitl [Hb]; · iexact Hb
      iexact Hheld
    iintro ⟨Hb, Hheld⟩
    rw [wp_ret]; imodintro
    unfold fin
    isplitr [HO]
    · isplitr [Hb]
      · isplitr [Hheld]
        · isplitl [Ha0]; · iexact Ha0
          isplitl [Ha1]; · iexact Ha1
          isplitl [Ha2]; · iexact Ha2
          iexact Ha3
        · iexact Hheld
      · iexact Hb
    · iexact HO
  isplitl [Hsc]; · iexact Hsc
  isplitl [Harr]; · iexact Harr
  isplitl [HO]; · iexact HO
  isplitr; · iexact Hla
  isplitl [Hg]; · iexact Hg
  isplitl [Ht]; · iexact Ht
  iexact HX

end Cert.KernelIdeal.Attn

end
-- ==== Proof.Launch.lean ====
/-
  The whole machine's run.

  What the launch holds is dealt to the devices: each its own buffers, and towards each peer the cells, the rights
  to the transfers, the credits and the slots. Every device then runs, and the buffers and semaphores are read off
  the final state.
-/
module

public import proofs.«01_k».proof.Proof.Core
public import Idealize.ShloMosaic.Lib.Quiescent

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds Idealize.ShloMosaic.RefSig Idealize.ShloMosaic.Transfers

variable {F : FTy → Type} [FloatOps F]

local notation "𝕄" => MT nD τ sig Unit (Elt F) ℕ UU ℕ

variable (m : (ℓ : Loc nD τ sig) → Buf (Elt F) ℓ) (g : Dev nD → PrngReg)

/-! ## Dealing -/

/-- One device's buffers: those of its own run, and the two that the peers write. -/
theorem bufs_split (c : Dev nD) :
    (unscopedBufs c (fun b => m ((c : Thread nD τ).loc b)) : sProp 𝕄)
      ⊢ iprop(bufs0 m c ∗ (bigSep Finset.univ fun s : Dev nD => ptsAny c main_v1_1 (qbS s))
        ∗ bigSep Finset.univ fun s : Dev nD => ptsAny c main_v1_2 (paS s)) := by
  have h1 := slots_split c main_v1_1 (fun k : Fin 8 => (lead k.val : Finset S8x8x1024x128.Idx)) (fun k k' h => lead_disj (fun e => h (Fin.ext e))) lead_cover (F := F)
  have h2 := slots_split c main_v1_2 (fun k : Fin 8 => (lead k.val : Finset S8x8x128x1024.Idx)) (fun k k' h => lead_disj (fun e => h (Fin.ext e))) lead_cover (F := F)
  have hs := (Pipeline.unscopedBufs_split (PIN F) 0 winFacts0.arr_unscoped winFacts0.arr_inj c (fun b => m ((c : Thread nD τ).loc b))
    (Ix := Unit) (Name := ℕ) (U := UU) (Lvl := ℕ))
  have hw := bigSep_W0 (fun w : Fin 5 => (((c : Thread nD τ).loc (Pipeline.arrRef spec0 w)) ↦{fullShare} m ((c : Thread nD τ).loc (Pipeline.arrRef spec0 w)) : sProp 𝕄))
  have hr := unscopedRest0_eq (Ix := Unit) (Val := Elt F) (Name := ℕ) (U := UU) (Lvl := ℕ) c (fun b => m ((c : Thread nD τ).loc b))
  unfold bufs0
  iintro H
  ihave H := (Entails.of_eq hs) $$ H
  icases H with ⟨HA, HR⟩
  ihave HA := (Entails.of_eq hw) $$ HA
  ihave HR := (Entails.of_eq hr) $$ HR
  icases HR with ⟨H4, Hq, Hp, H2, H3, H5, H6, H7, H8⟩
  isplitl [HA H4 H2 H3 H5 H6 H7 H8]
  · isplitl [HA]; · iexact HA
    isplitl [H4]; · iexact H4
    isplitl [H2]; · iexact H2
    isplitl [H3]; · iexact H3
    isplitl [H5]; · iexact H5
    isplitl [H6]; · iexact H6
    isplitl [H7]; · iexact H7
    iexact H8
  isplitl [Hq]
  · iapply h1; iexists _; iexact Hq
  · iapply h2; iexists _; iexact Hp

/-- What a device keeps of its own to begin with. -/
def own0 (c : Dev nD) : sProp 𝕄 :=
  iprop(scopedBufs (c : Thread nD τ) ∗ Pipeline.cellsSems0 (PIN F) 0 c ∗ Pipeline.idleSems0 (PIN F) cellOf_inj 0 ownFacts c
      ∗ opIdle (c : Thread nD τ))
/-- The six cells towards each peer. -/
def sems (c : Dev nD) : sProp 𝕄 := bigSep Finset.univ fun t : Dev nD => bigSep Finset.univ fun k : Fin 6 => semVal (cl c (cN t k)) 0

theorem core_deal (c : Dev nD) :
    coreInit (Ix := Unit) (Name := ℕ) (U := UU) (Lvl := ℕ) (Pipeline.owing O₀) 0 (⟨m, fun _ => 0, g⟩ : MemSt nD τ sig (Elt F)) (c : Thread nD τ)
      ⊢ iprop(own0 c ∗ cp0 c ∗ sems c ∗ bufs0 m c ∗ (bigSep Finset.univ fun s : Dev nD => ptsAny c main_v1_1 (qbS s))
        ∗ (bigSep Finset.univ fun s : Dev nD => ptsAny c main_v1_2 (paS s)) ∗ owes (c : Thread nD τ) (O₀ c) ∅
        ∗ levels0 c ∗ (bigSep Finset.univ fun t : Dev nD => CR c t)) := by
  have hss := Pipeline.scopedSems0_split (PIN F) cellOf_inj 0 winFacts0.to₀ ownFacts c (Ix := Unit) (Val := Elt F) (Name := ℕ) (U := UU) (Lvl := ℕ)
  have hb : (boundary (c : Thread nD τ) : sProp 𝕄) ⊢ iprop(own0 c ∗ cp0 c ∗ sems c) := by
    unfold boundary own0 sems
    rw [hss, own_eq]
    iintro ⟨Hsc, ⟨⟨Hcells, Hcp, Hos⟩, Hidle⟩, Hop⟩
    isplitr [Hcp Hos]
    · isplitl [Hsc]; · iexact Hsc
      isplitl [Hcells]; · iexact Hcells
      isplitl [Hidle]; · iexact Hidle
      iexact Hop
    isplitl [Hcp]; · iexact Hcp
    iexact Hos
  refine (Pipeline.coreInit_boundary_owing O₀ m g c).trans ?_
  iintro ⟨Hb, Hub, -, HO, Hlv, -, Hcr⟩
  ihave H := hb $$ Hb
  icases H with ⟨H1, H2, H3⟩
  ihave H := (bufs_split m c) $$ Hub
  icases H with ⟨H4, H5, H6⟩
  ihave Hcr := (launch_credit c) $$ Hcr
  isplitl [H1]; · iexact H1
  isplitl [H2]; · iexact H2
  isplitl [H3]; · iexact H3
  isplitl [H4]; · iexact H4
  isplitl [H5]; · iexact H5
  isplitl [H6]; · iexact H6
  isplitl [HO]; · iexact HO
  isplitl [Hlv]; · iexact Hlv
  iexact Hcr

/-- Every cell gets its level. -/
theorem levels_deal :
    (bigSep Finset.univ fun c : Dev nD => levels0 (Ix := Unit) (Val := Elt F) (Name := ℕ) (U := UU) (Lvl := ℕ) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hsc : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [L_of_ne (((d, p) : Thread nD τ), sm) (Finset.ne_of_mem_erase hp), BI.bigSep_empty], BI.bigSep_emp_const]).trans
      (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  have hinner : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun p => (coreLevAts ((d, p) : Thread nD τ) L lv : sProp 𝕄)) := by
    rw [hsc, bigSep_sep']
    iintro ⟨-, H⟩
    isplitl [H]; · iexact H
    iempintro
  exact hinner

/-- The launch's ghost element. -/
def u₀ : UU := (initOf (Pipeline.cells (PIN F) cellOf_inj) (Pipeline.launchToks (PIN F) cellOf_inj), (launchOf allCells ∅ allToks, 1))

theorem ghost_split : (ownU (u₀ (F := F)) : sProp 𝕄)
    ⊢ iprop(BI.own (EP (initOf (Pipeline.cells (PIN F) cellOf_inj) (Pipeline.launchToks (PIN F) cellOf_inj))) ∗ BI.own (ER (launchOf allCells ∅ allToks))) := by
  unfold u₀
  iintro H
  ihave H := (ownU_pair _ _) $$ H
  icases H with ⟨H1, H2⟩
  ihave H2 := (own_pair_emb _ _ _) $$ H2
  icases H2 with ⟨H2, -⟩
  isplitl [H1]; · iexact H1
  iexact H2

theorem pick (Φ : Fin 1 → Dev nD → sProp 𝕄) :
    (bigSep Finset.univ fun c : Dev nD => bigSep Finset.univ fun p' => Φ p' c) ⊢ bigSep Finset.univ fun c : Dev nD => Φ 0 c :=
  bigSep_mono fun c _ => BI.bigSep_elim (Finset.mem_univ 0)

/-- What every device is dealt towards every peer. -/
theorem starts_deal :
    iprop((bigSep Finset.univ fun c : Dev nD => bigSep Finset.univ fun t : Dev nD => AT c t)
      ∗ (bigSep Finset.univ fun c : Dev nD => bigSep Finset.univ fun t : Dev nD => TK c t)
      ∗ (bigSep Finset.univ fun c : Dev nD => bigSep Finset.univ fun t : Dev nD => CR c t)
      ∗ (bigSep Finset.univ fun c : Dev nD => bigSep Finset.univ fun s : Dev nD => ptsAny c main_v1_1 (qbS s))
      ∗ (bigSep Finset.univ fun c : Dev nD => bigSep Finset.univ fun s : Dev nD => ptsAny c main_v1_2 (paS s)))
    ⊢ (bigSep Finset.univ fun c : Dev nD => bigSep Finset.univ fun t : Dev nD => START c t : sProp 𝕄) := by
  rw [bigSep_swap (fun c s => ptsAny c main_v1_1 (qbS s))]
  unfold START SLt
  simp only [bigSep_sep']
  exact BIBase.Entails.rfl

set_option maxHeartbeats 1000000 in
theorem deal :
    iprop((bigSep Finset.univ fun d : Dev nD =>
        coreInit (Ix := Unit) (Name := ℕ) (U := UU) (Lvl := ℕ) (Pipeline.owing O₀) 0 (⟨m, fun _ => 0, g⟩ : MemSt nD τ sig (Elt F)) (d : Thread nD τ)) ∗ ownU (u₀ (F := F)))
      ⊢ |={Set.univ}=> (bigSep Finset.univ (pre m) : sProp 𝕄) := by
  have hc : (bigSep Finset.univ fun d : Dev nD =>
        coreInit (Ix := Unit) (Name := ℕ) (U := UU) (Lvl := ℕ) (Pipeline.owing O₀) 0 (⟨m, fun _ => 0, g⟩ : MemSt nD τ sig (Elt F)) (d : Thread nD τ))
      ⊢ (iprop((bigSep Finset.univ fun c => own0 c) ∗ (bigSep Finset.univ fun c => cp0 c) ∗ (bigSep Finset.univ fun c => sems c)
        ∗ (bigSep Finset.univ fun c => bufs0 m c)
        ∗ (bigSep Finset.univ fun c : Dev nD => bigSep Finset.univ fun s : Dev nD => ptsAny c main_v1_1 (qbS s))
        ∗ (bigSep Finset.univ fun c : Dev nD => bigSep Finset.univ fun s : Dev nD => ptsAny c main_v1_2 (paS s))
        ∗ (bigSep Finset.univ fun c : Dev nD => owes (c : Thread nD τ) (O₀ c) ∅) ∗ (bigSep Finset.univ fun c : Dev nD => levels0 c)
        ∗ (bigSep Finset.univ fun c : Dev nD => bigSep Finset.univ fun t : Dev nD => CR c t)) : sProp 𝕄) := by
    simp only [← bigSep_sep']
    exact bigSep_mono fun c _ => core_deal m g c
  iintro ⟨Hcores, Hu⟩
  ihave Hc := hc $$ Hcores
  icases Hc with ⟨Hown, Hcp, Hsems, Hbufs, Hq, Hp, HO, Hlv, Hcr⟩
  imod levels_deal $$ Hlv with #Hla
  ihave Hu := ghost_split $$ Hu
  icases Hu with ⟨HP, HR⟩
  imod (Pipeline.fund_ghost (PIN F) EP cellOf_inj) $$ HP with ⟨Hg, Ht⟩
  imod (fund_cells (insOf m)) $$ [Hsems HR] with ⟨⟨%κ, #HK⟩, Hat, Htk⟩
  · isplitl [Hsems]; · unfold sems; iexact Hsems
    isplitl [HR]; · iexact HR
    iexact Hla
  imodintro
  ihave HS := starts_deal $$ [Hat Htk Hcr Hq Hp]
  · isplitl [Hat]; · iexact Hat
    isplitl [Htk]; · iexact Htk
    isplitl [Hcr]; · iexact Hcr
    isplitl [Hq]; · iexact Hq
    iexact Hp
  have e : (fun c => pre m c) = fun c : Dev nD => iprop(own0 c ∗ bufs0 m c ∗ owes (c : Thread nD τ) (O₀ c) ∅ ∗ levAts L lv
    ∗ Pipeline.cellsGhost (PIN F) EP 0 c ∗ Pipeline.toksInit (PIN F) EP 0 c ∗ (∃ κ, Know (insOf m) κ)
      ∗ (bigSep Finset.univ fun t : Dev nD => START c t) ∗ cp0 c) := rfl
  rw [show (pre m : Dev nD → sProp 𝕄) = _ from e]
  simp only [bigSep_sep']
  isplitl [Hown]; · iexact Hown
  isplitl [Hbufs]; · iexact Hbufs
  isplitl [HO]; · iexact HO
  isplitr; · iapply (BI.bigSep_intro_persistent (S := Finset.univ) fun (c : Dev nD) _ => (BI.Entails.refl (levAts L lv : sProp 𝕄))); iexact Hla
  isplitl [Hg]; · iapply (pick fun p' c => Pipeline.cellsGhost (PIN F) EP p' c); iexact Hg
  isplitl [Ht]; · iapply (pick fun p' c => Pipeline.toksInit (PIN F) EP p' c); iexact Ht
  isplitr
  · iapply (BI.bigSep_intro_persistent (S := Finset.univ) fun (c : Dev nD) _ =>
      (BIClass.exists_intro (Φ := fun κ => Know (insOf m) κ) κ : (Know (insOf m) κ : sProp 𝕄) ⊢ iprop(∃ κ, Know (insOf m) κ))); iexact HK
  isplitl [HS]; · iexact HS
  iexact Hcp

end Cert.KernelIdeal.Attn

end
-- ==== Proof.Run.lean ====
/-
  The run of the whole program, and what its memory then holds.
-/
module

public import proofs.«01_k».proof.Proof.Launch

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.RefSig Idealize.ShloMosaic.Transfers

variable {F : FTy → Type} [FloatOps F]

local notation "𝕄" => MT nD τ sig Unit (Elt F) ℕ UU ℕ

variable (m : (ℓ : Loc nD τ sig) → Buf (Elt F) ℓ) (g : Dev nD → PrngReg)

/-! ## The operations after the call -/

/-- The call's result with the heads' columns side by side, projected. -/
def tailVal (o : FVec F S8x128x1024 .bf16) (w : FVec F S1024x1024 .bf16) : FVec F S1x1024x1024 .f32 :=
  broadcastInDim S1x1024x1024 ![1, 2] bcast_S1024x1024_S1x1024x1024_1_2
    (extf .f32 (truncf .bf16 (Host.dotGeneral dot_S1024x1024_S1024x1024_S1024x1024_1_0_0_1_n_n none
      (shapeCast S1024x1024 (transpose S1024x8x128 [2, 0, 1] o transposes_S8x128x1024_S1024x8x128_2_0_1) shapeCasts_S1024x8x128_S1024x1024)
      w) bitsLt_bf16_f32) bitsLt_bf16_f32)

theorem VN_arg4 (c : Dev nD) : VN m c (Proc.devRef .tc main_arg4) = m ((c : Thread nD τ).loc main_arg4) := by
  unfold VN
  simp only [hostOps1, StableHlo.after_cons, StableHlo.after_nil]
  rw [StableHlo.unary_result_ne (h := by decide), StableHlo.unary_result_ne (h := by decide), StableHlo.unary_result_ne (h := by decide),
    StableHlo.binary_result_ne (h := by decide), StableHlo.reshape_result_ne (h := by decide), StableHlo.unary_result_ne (h := by decide)]
  exact V1_ne m c (by decide)

theorem VN_out (c : Dev nD) : VN m c (Proc.devRef .tc main_v7) = tailVal (outA (insOf m) c) (m ((c : Thread nD τ).loc main_arg4)) := by
  unfold VN
  simp only [hostOps1, StableHlo.after_cons, StableHlo.after_nil]
  rw [StableHlo.unary_result, StableHlo.unary_result, StableHlo.unary_result, StableHlo.binary_result, StableHlo.reshape_result,
    StableHlo.unary_result, V1_out, StableHlo.reshape_result_ne (h := by decide), StableHlo.unary_result_ne (h := by decide),
    V1_ne m c (by decide)]
  rfl

/-! ## The final memory -/

/-- The arguments stay, the result is the projected one. -/
def Good (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v7) = tailVal (outA (insOf m) c) (m ((c.tc : Thread nD τ).loc main_arg4))

def argRef : Fin 4 → Ref sig .tc := ![main_arg0, main_arg1, main_arg2, main_arg3]

theorem args_read (c : Dev nD) (s' : Phys nD τ sig (Elt F)) :
    iprop(((p0 m c main_arg0 ∗ p0 m c main_arg1 ∗ p0 m c main_arg2 ∗ p0 m c main_arg3) ∗ StableHlo.held (c : Thread nD τ) tailS (VN m c)) ∗ SI s')
      ⊢ |={Set.univ}=> (iprop(⌜Good m c s'.mem⌝ ∗ SI s') : sProp 𝕄) := by
  have h4 := bigSep_univ_eq_bigSepL [(0 : Fin 4), 1, 2, 3] (by decide) (by decide) fun i : Fin 4 => p0 m c (argRef i)
  have h4' : iprop(p0 m c main_arg0 ∗ p0 m c main_arg1 ∗ p0 m c main_arg2 ∗ p0 m c main_arg3)
    ⊢ (bigSep Finset.univ fun i : Fin 4 => p0 m c (argRef i) : sProp 𝕄) := BIBase.Entails.of_eq h4.symm
  iintro ⟨⟨HA, HT⟩, HSI⟩
  ihave HA := h4' $$ HA
  ihave H := (pointsTo_read_all Finset.univ (fun i : Fin 4 => (c : Thread nD τ).loc (argRef i)) (fun i => m ((c : Thread nD τ).loc (argRef i))) s') $$ [HA HSI]
  · isplitl [HA]; · iexact HA
    iexact HSI
  icases H with ⟨%ha, HSI⟩
  ihave H := (pointsTo_read_all tailS (fun b => ((c : Dev nD), b)) (VN m c) s') $$ [HT HSI]
  · isplitl [HT]; · unfold StableHlo.held; iexact HT
    iexact HSI
  icases H with ⟨%ht, HSI⟩
  imodintro
  isplitr
  · ipureintro
    exact ⟨ha 0 (Finset.mem_univ _), ha 1 (Finset.mem_univ _), ha 2 (Finset.mem_univ _), ha 3 (Finset.mem_univ _),
      (ht _ (mem_tail 1)).trans (VN_arg4 m c), (ht _ (mem_tail 7)).trans (VN_out m c)⟩
  · iexact HSI

theorem all_scoped : ∀ sm : SemLoc sig, sm.isScoped .tc = true := by decide +kernel

set_option maxHeartbeats 1000000 in
/-- Every run ends, every device's memory as it should be, and every semaphore at zero. -/
theorem run_main :
    θ_run (defs (F := F)) (onTc (τ := τ) (main (F := F))) ⟨m, fun _ => 0, g⟩ fun r => (∀ c, Good m c r.2) ∧ r.2.sem = fun _ => 0 := by
  refine (θ_run (defs (F := F)) _ _).mono (Q := fun r => (∀ c : Dev nD, Good m c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, funext fun x => sems_of_reads (fun c => (hr.1 c).2) hr.2 x (.inr (all_scoped x.2))⟩)
    (adequate_tpu (defs (F := F)) _ _ _
    (reflect_intro_fupd_tc_sems (Ix := Unit) (Name := ℕ) (U := UU) (Lvl := ℕ) (X := Unit) (Variants.lift .none) (Pipeline.owing O₀) 0 (noBookings fun _ => le_rfl) (Pipeline.owing_of_ne O₀) (u₀ (F := F)) (fun _ => pre m) (fun _ => fin m)
      (fun _ => iprop(emp)) Set.univ ?_ (fun _ c => ?_) fun _ => ?_))
  · iintro H
    imod (deal m g) $$ H with H
    imodintro
    iexists ()
    isplitl [H]; · iexact H
    iempintro
  · have h := core_run m c (𝒱₀ := .none)
    unfold post; simp only [liftTc_tc]
    exact h
  · iintro ⟨H, -, Hsc⟩ %s' HSI
    ihave %hsc := (scSems_read_zero m g s') $$ [Hsc HSI]
    · isplitl [Hsc] <;> iassumption
    imod (posts_fupd Finset.univ (fun c s' => Pipeline.boundary_read c s' (args_read m c s')) s') $$ [H HSI] with %h
    · isplitl [H]; · unfold fin; iexact H
      iexact HSI
    imodintro
    ipureintro
    exact ⟨fun c => h c (Finset.mem_univ c), hsc⟩

end Cert.KernelIdeal.Attn

end
-- ==== Proof.Frames.lean ====
/-
  The frames: every run of either program ends with its arguments unchanged and every semaphore at zero.

  The kernel as written and the kernel over the extended reals are one text, so the run is read at each.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.ShloMosaic.TcCoe Idealize.SL.Sem Cert Cert.KernelIdeal.Attn

/-- The frame of the common text, over any floats. -/
theorem frame_any {F : FTy → Type} [FloatOps F] (m : (ℓ : Loc KernelIdeal.nD KernelIdeal.τ KernelIdeal.sig) → Buf (Elt F) ℓ)
    (g : Dev KernelIdeal.nD → PrngReg) :
    θ_run (KernelIdeal.defs (F := F)) (onTc (τ := KernelIdeal.τ) (KernelIdeal.main (F := F))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4))
      ∧ r.2.sem = fun _ => 0) :=
  (θ_run (KernelIdeal.defs (F := F)) _ _).mono
    (fun _ h => ⟨fun c => let g := h.1 c; ⟨g.1, g.2.1, g.2.2.1, g.2.2.2.1, g.2.2.2.2.1⟩, h.2⟩) (run_main m g)

/-- The frame over the extended reals. -/
theorem frame_ideal : Cert.quiescent_KernelIdeal := fun m g _ => frame_any (F := Ideal) m g

/-- The kernel's body table is that of its ideal form, whose text is the same. -/
theorem bodies_eq : Kernel.defs₀ (F := Bits) = KernelIdeal.defs₀ (F := Bits) := by
  unfold Kernel.defs₀ KernelIdeal.defs₀
  refine congrArg Defs.onTc ?_
  funext l a
  match l, a with
  | 0, (t, s) => rfl

/-- So is the table with the call's pipeline added. -/
theorem defs_eq : Kernel.defs (F := Bits) = KernelIdeal.defs (F := Bits) :=
  congrArg (Pipeline.defs KernelIdeal.pcfgs) bodies_eq

/-- The frame of the kernel over bits. -/
theorem frame_kernel : Cert.quiescent_Kernel := fun m g _ => by
  rw [defs_eq]
  exact frame_any (F := Bits) m g

/-- The reference has no semaphores. -/
theorem no_sem : ∀ sm : SemLoc Cert.ReferenceIdeal.sig, False := by decide

/-- The frame of the reference. -/
theorem frame_reference : Cert.quiescent_ReferenceIdeal := fun m g _ =>
  (θ_run (Cert.ReferenceIdeal.defs (F := Ideal)) _ _).mono
    (fun _ h => ⟨fun c => (h c).2, funext fun x => (no_sem x.2).elim⟩) (Cert.ReferenceIdeal.Value.run m g)

end Cert.Proof

end
-- ==== Proof.KernelScores.lean ====
/-
  What one block of the kernel computes over the extended reals: scores, their maxima, exponentials and sums, read at an index.
-/
module

public import proofs.«01_k».proof.Proof.Run
public import Idealize.ShloMosaic.Lib.ValueLayout
public import Idealize.ShloMosaic.Lib.MatmulPlain
public import Idealize.ShloMosaic.Lib.IdealHost

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open scoped BigOperators

/-! ## The operations -/

theorem word_bot : Ideal.ofBits .f32 0xFF800000#32 = ⊥ := by
  simp [Ideal.ofBits, Ideal.ieee]

theorem fold_bot {ι : Type} [Fintype ι] (f : ι → EReal) : Finset.univ.fold max ⊥ f = Finset.univ.sup f := rfl

/-- A product of keys and queries: one entry for each key and query. -/
theorem keys_by_queries (K Q : FVec Ideal S1024x128 .bf16) (j r : Fin 1024) :
    matmul dot_S1024x128_S1024x128_S1024x1024_1_1_0_0_n_n none K Q (constant S1024x1024 .f32 0x00000000#32) (ix2 j r)
      = ∑ d : Fin 128, K (ix2 j d) * Q (ix2 r d) := by
  have h := Ideal.matmul_transposedRhs_apply none K Q (constant S1024x1024 .f32 0x00000000#32) j r
  refine Eq.trans h ?_
  rw [show (constant S1024x1024 .f32 0x00000000#32 : FVec Ideal S1024x1024 .f32) (ix2 j r) = 0 from Ideal.ofBits_zero_f32]
  exact zero_add _

/-- Values weighted and summed over the keys. -/
theorem values_by_weights (V : FVec Ideal S1024x128 .bf16) (P : FVec Ideal S1024x1024 .bf16) (d : Fin 128) (r : Fin 1024) :
    matmul dot_S1024x128_S1024x1024_S128x1024_0_0_1_1_n_n none V P (constant S128x1024 .f32 0x00000000#32) (ix2 d r)
      = ∑ j : Fin 1024, V (ix2 j d) * P (ix2 j r) := by
  simp only [matmul]
  rw [Ideal.matmul_constant_zero_apply,
    ← Equiv.sum_comp (contrEquiv1 dot_S1024x128_S1024x1024_S128x1024_0_0_1_1_n_n 1024 rfl rfl).symm]
  refine Finset.sum_congr rfl fun k _ => ?_
  have hk := contrEquiv1_symm_val dot_S1024x128_S1024x1024_S128x1024_0_0_1_1_n_n 1024 rfl rfl k
  congr 1
  · refine congrArg V ?_
    funext a; apply Fin.ext
    match a with
    | ⟨0, _⟩ => exact hk
    | ⟨1, _⟩ => rfl
  · refine congrArg P ?_
    funext a; apply Fin.ext
    match a with
    | ⟨0, _⟩ => exact hk
    | ⟨1, _⟩ => rfl

/-- The maximum over the keys. -/
theorem max_over_keys (x : FVec Ideal S1024x1024 .f32) (hk) (he) (r : Fin 1024) :
    multiReduction .maximumf [0] S1024 x 0xFF800000#32 reduces_S1024x1024_S1024 hk he (ix1 r)
      = Finset.univ.sup fun j : Fin 1024 => x (ix2 j r) := by
  refine (Ideal.multiReduction_maximumf_single x _ reduces_S1024x1024_S1024 hk he (ix1 r)).trans ?_
  rw [Ideal.ofBits_def, word_bot]
  refine (fold_bot _).trans (congrArg Finset.univ.sup ?_)
  funext j
  refine congrArg x ?_
  funext a; apply Fin.ext
  match a with
  | ⟨0, _⟩ => rfl
  | ⟨1, _⟩ => rfl

/-- The sum over the keys. -/
theorem sum_over_keys (x : FVec Ideal S1024x1024 .f32) (hk) (he) (r : Fin 1024) :
    multiReduction .add [0] S1024 x 0x00000000#32 reduces_S1024x1024_S1024 hk he (ix1 r)
      = ∑ j : Fin 1024, x (ix2 j r) := by
  refine (Ideal.multiReduction_add_single x _ reduces_S1024x1024_S1024 hk he (ix1 r)).trans ?_
  refine Finset.sum_congr rfl fun j _ => congrArg x ?_
  funext a; apply Fin.ext
  match a with
  | ⟨0, _⟩ => rfl
  | ⟨1, _⟩ => rfl

/-! ## A block of another device's keys -/

variable (Q K V : Vec Ideal S1x1024x128 .bf16) (M : Vec Ideal S1024x1024 .bf16)

theorem scores_apply (j r : Fin 1024) :
    k0_pay1 Q K (ix2 j r) = ∑ d : Fin 128, K (ix3 0 j d) * Q (ix3 0 r d) := by
  refine (keys_by_queries _ _ j r).trans (Finset.sum_congr rfl fun d _ => ?_)
  rw [shapeCast_1ab_ab_apply, shapeCast_1ab_ab_apply]

theorem max_apply (u : Fin 1) (r : Fin 1024) :
    k0_pay2 Q K (ix2 u r) = Finset.univ.sup fun j : Fin 1024 => k0_pay1 Q K (ix2 j r) := by
  unfold k0_pay2
  rw [shapeCast_a_1a_apply]
  exact max_over_keys _ _ _ r

theorem exp_apply (j r : Fin 1024) :
    k0_pay3 Q K (ix2 j r) = Ideal.exp (k0_pay1 Q K (ix2 j r) - k0_pay2 Q K (ix2 0 r)) := by
  have h := broadcastTo_1b_ab_apply (k0_pay2 Q K) broadcasts_S1x1024_S1024x1024 j r
  show Ideal.exp (k0_pay1 Q K (ix2 j r) - broadcastTo S1024x1024 (k0_pay2 Q K) broadcasts_S1x1024_S1024x1024 (ix2 j r)) = _
  rw [h]

theorem weighted_apply (u w : Fin 1) (d : Fin 128) (r : Fin 1024) :
    k0_pay4 Q K V (ix4 u w d r) = ∑ j : Fin 1024, V (ix3 0 j d) * k0_pay3 Q K (ix2 j r) := by
  have hu : u.val = 0 := by omega
  have hw : w.val = 0 := by omega
  unfold k0_pay4
  refine (shapeCast_apply _ shapeCasts_S128x1024_S1x1x128x1024 (ix4 u w d r) (ix2 d r) ?_).trans ?_
  · rw [Shape.rowMajor_val_two, Shape.rowMajor_val_four]
    show d.val * 1024 + r.val = ((u.val * 1 + w.val) * 128 + d.val) * 1024 + r.val
    omega
  · refine (values_by_weights _ _ d r).trans (Finset.sum_congr rfl fun j _ => ?_)
    rw [shapeCast_1ab_ab_apply]
    rfl

theorem five (y : S1x1024.Idx → EReal) (u w z t : Fin 1) (r : Fin 1024) :
    shapeCast S1x1x1x1x1024 y shapeCasts_S1x1024_S1x1x1x1x1024 (ix5 u w z t r) = y (ix2 0 r) := by
  have hu : u.val = 0 := by omega
  have hw : w.val = 0 := by omega
  have hz : z.val = 0 := by omega
  have ht : t.val = 0 := by omega
  refine shapeCast_apply _ shapeCasts_S1x1024_S1x1x1x1x1024 (ix5 u w z t r) (ix2 0 r) ?_
  rw [Shape.rowMajor_val_two, Shape.rowMajor_val_five]
  show 0 * 1024 + r.val = (((u.val * 1 + w.val) * 1 + z.val) * 1 + t.val) * 1024 + r.val
  omega

theorem sent_max_apply (u w z t : Fin 1) (r : Fin 1024) :
    k0_pay5 Q K (ix5 u w z t r) = k0_pay2 Q K (ix2 0 r) := by
  unfold k0_pay5
  refine (five (truncf .bf16 (k0_pay2 Q K) bitsLt_bf16_f32) u w z t r).trans ?_
  rw [ValueIdx.truncf_apply]

theorem sent_sum_apply (u w z t : Fin 1) (r : Fin 1024) :
    k0_pay6 Q K (ix5 u w z t r) = ∑ j : Fin 1024, k0_pay3 Q K (ix2 j r) := by
  unfold k0_pay6
  refine (five _ u w z t r).trans ?_
  rw [ValueIdx.truncf_apply, shapeCast_a_1a_apply]
  exact sum_over_keys _ _ _ r

/-! ## The device's own block, with the mask -/

theorem own_scores_apply (j r : Fin 1024) :
    k0_pay57 Q K M (ix2 j r) = (∑ d : Fin 128, K (ix3 0 j d) * Q (ix3 0 r d)) + M (ix2 j r) := by
  have h := scores_apply Q K j r
  show (k0_pay1 Q K (ix2 j r) : EReal) + shapeCast S1024x1024 M shapeCasts_S1024x1024_S1024x1024 (ix2 j r) = _
  rw [h, shapeCast_self]

theorem own_max_apply (u : Fin 1) (r : Fin 1024) :
    k0_pay58 Q K M (ix2 u r) = Finset.univ.sup fun j : Fin 1024 => k0_pay57 Q K M (ix2 j r) := by
  unfold k0_pay58
  rw [shapeCast_a_1a_apply]
  exact max_over_keys _ _ _ r

theorem own_exp_apply (j r : Fin 1024) :
    k0_pay59 Q K M (ix2 j r) = Ideal.exp (k0_pay57 Q K M (ix2 j r) - k0_pay58 Q K M (ix2 0 r)) := by
  have h := broadcastTo_1b_ab_apply (k0_pay58 Q K M) broadcasts_S1x1024_S1024x1024 j r
  show Ideal.exp (k0_pay57 Q K M (ix2 j r)
    - broadcastTo S1024x1024 (k0_pay58 Q K M) broadcasts_S1x1024_S1024x1024 (ix2 j r)) = _
  rw [h]

end Cert.KernelIdeal.Attn

end
-- ==== Proof.Softmax.lean ====
/-
  A softmax over eight blocks of keys, over the extended reals: put together from each block's maximum, sum and weighted sum.
-/
module

public import Idealize.ShloMosaic.PureOps.Ideal.Laws

@[expose] public section

noncomputable section

namespace Cert.Softmax

open Idealize.ShloMosaic
open scoped BigOperators

/-! ## Sums and exponentials -/

/-- A finite nonnegative factor goes into a sum, whatever its terms. -/
theorem coe_mul_sum {ι : Type} (t : ℝ) (ht : 0 ≤ t) (s : Finset ι) (f : ι → EReal) :
    (t : EReal) * ∑ i ∈ s, f i = ∑ i ∈ s, (t : EReal) * f i := by
  classical
  induction s using Finset.induction with
  | empty => simp
  | insert a s ha ih =>
    rw [Finset.sum_insert ha, Finset.sum_insert ha,
      EReal.left_distrib_of_nonneg_of_ne_top (by exact_mod_cast ht) (EReal.coe_ne_top _), ih]

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- The exponential of a score below a finite maximum is a nonnegative number. -/
theorem exp_real {x : EReal} (hx : x ≠ ⊤) (m : ℝ) : ∃ p : ℝ, 0 ≤ p ∧ Ideal.exp (x - m) = p := by
  induction x with
  | bot => exact ⟨0, le_rfl, by rw [EReal.bot_sub]; rfl⟩
  | coe x => exact ⟨Real.exp (x - m), (Real.exp_pos _).le, by rw [← EReal.coe_sub]; rfl⟩
  | top => exact absurd rfl hx

/-- A change of the maximum that is taken off. -/
theorem exp_step {x : EReal} (hx : x ≠ ⊤) (m M : ℝ) :
    Ideal.exp ((m : EReal) - M) * Ideal.exp (x - m) = Ideal.exp (x - M) := by
  induction x with
  | bot => rw [EReal.bot_sub, EReal.bot_sub, Ideal.exp_bot, mul_zero]
  | coe x =>
    rw [← EReal.coe_sub, ← EReal.coe_sub, ← EReal.coe_sub, Ideal.exp_coe, Ideal.exp_coe, Ideal.exp_coe, ← EReal.coe_mul, ← Real.exp_add]
    congr 2; ring
  | top => exact absurd rfl hx

/-! ## Folds over the blocks, the own one first and then downwards -/

section Fold
variable (c : Fin 8)

/-- The blocks from `c - e` to `c`. -/
def near (e : ℕ) : Finset (Fin 8) := Finset.univ.filter fun s => c.val ≤ s.val + e ∧ s.val ≤ c.val

theorem near_zero : near c 0 = {c} := by
  ext s; simp only [near, Finset.mem_filter, Finset.mem_univ, true_and, Finset.mem_singleton, Fin.ext_iff]; omega
theorem near_succ {e : ℕ} (h : e + 1 ≤ c.val) (s : Fin 8) (hs : s.val = c.val - (e + 1)) : near c (e + 1) = insert s (near c e) := by
  ext t; simp only [near, Finset.mem_filter, Finset.mem_univ, true_and, Finset.mem_insert, Fin.ext_iff]; omega
theorem near_stay {e : ℕ} (h : ¬ e + 1 ≤ c.val) : near c (e + 1) = near c e := by
  ext t; simp only [near, Finset.mem_filter, Finset.mem_univ, true_and]; omega
theorem not_near {e : ℕ} (s : Fin 8) (hs : s.val = c.val - (e + 1)) (h : e + 1 ≤ c.val) : s ∉ near c e := by
  simp only [near, Finset.mem_filter, Finset.mem_univ, true_and]; omega
theorem not_near_seven {s : Fin 8} (h : s ∉ near c 7) : c < s := by
  simp only [near, Finset.mem_filter, Finset.mem_univ, true_and] at h
  exact Fin.lt_def.mpr (by omega)

variable (d : ℕ → Fin 8) (hd : ∀ n, n < 8 → (d n).val = n)
include hd

theorem fold_sum (X : Fin 8 → EReal) (f : ℕ → EReal) (h0 : f 0 = X c)
    (hs : ∀ e, f (e + 1) = if e + 1 ≤ c.val then f e + X (d (c.val - (e + 1))) else f e) (hz : ∀ s, c < s → X s = 0) :
    f 7 = ∑ s, X s := by
  have inv : ∀ e, f e = ∑ s ∈ near c e, X s := fun e => by
    induction e with
    | zero => rw [near_zero, Finset.sum_singleton, h0]
    | succ e ih =>
      rw [hs]
      split
      · next h =>
        have hv := hd (c.val - (e + 1)) (by omega)
        rw [near_succ c h _ hv, Finset.sum_insert (not_near c _ hv h), ih, add_comm]
      · next h => rw [near_stay c h, ih]
  rw [inv]
  exact Finset.sum_subset (Finset.subset_univ _) fun s _ h => hz s (not_near_seven c h)

theorem fold_max (X : Fin 8 → EReal) (f : ℕ → EReal) (h0 : f 0 = X c)
    (hs : ∀ e, f (e + 1) = if e + 1 ≤ c.val then max (f e) (X (d (c.val - (e + 1)))) else f e) (hz : ∀ s, c < s → X s = ⊥) :
    f 7 = Finset.univ.sup X := by
  have inv : ∀ e, f e = (near c e).sup X := fun e => by
    induction e with
    | zero => rw [near_zero, Finset.sup_singleton, h0]
    | succ e ih =>
      rw [hs]
      split
      · next h =>
        have hv := hd (c.val - (e + 1)) (by omega)
        rw [near_succ c h _ hv, Finset.sup_insert, ih, max_comm]
      · next h => rw [near_stay c h, ih]
  rw [inv]
  refine le_antisymm (Finset.sup_mono (Finset.subset_univ _)) (Finset.sup_le fun s _ => ?_)
  by_cases h : s ∈ near c 7
  · exact Finset.le_sup h
  · rw [hz s (not_near_seven c h)]; exact bot_le

end Fold

/-! ## The blocks -/

/-- The scores: no block up to `c` is empty, and those after it are. -/
structure Scores (c : Fin 8) (x : Fin 8 → Fin 1024 → EReal) : Prop where
  ne_top : ∀ s j, x s j ≠ ⊤
  some : ∀ s, s ≤ c → ∃ j, x s j ≠ ⊥
  none : ∀ s, c < s → ∀ j, x s j = ⊥

variable {c : Fin 8} {x : Fin 8 → Fin 1024 → EReal} (v : Fin 8 → Fin 1024 → EReal)

/-- A block's maximum, and that over all. -/
def top (x : Fin 8 → Fin 1024 → EReal) (s : Fin 8) : EReal := Finset.univ.sup (x s)
def all (x : Fin 8 → Fin 1024 → EReal) : EReal := Finset.univ.sup (top x)

theorem Scores.top_real (h : Scores c x) {s : Fin 8} (hs : s ≤ c) : ∃ m : ℝ, top x s = m := by
  obtain ⟨i, -, hi⟩ := Finset.exists_mem_eq_sup Finset.univ Finset.univ_nonempty (x s)
  obtain ⟨j, hj⟩ := h.some s hs
  have hb : top x s ≠ ⊥ := fun e => hj (le_bot_iff.mp (e ▸ Finset.le_sup (f := x s) (Finset.mem_univ j)))
  have ht : top x s ≠ ⊤ := fun e => h.ne_top s i (hi ▸ e)
  exact ⟨(top x s).toReal, (EReal.coe_toReal ht hb).symm⟩
theorem Scores.top_bot (h : Scores c x) {s : Fin 8} (hs : c < s) : top x s = ⊥ :=
  le_bot_iff.mp (Finset.sup_le fun j _ => (h.none s hs j).le)
theorem Scores.all_real (h : Scores c x) : ∃ M : ℝ, all x = M := by
  obtain ⟨s, -, hs⟩ := Finset.exists_mem_eq_sup Finset.univ Finset.univ_nonempty (top x)
  obtain ⟨m, hm⟩ := h.top_real (le_refl c)
  have hle : (m : EReal) ≤ all x := hm ▸ Finset.le_sup (f := top x) (Finset.mem_univ c)
  rcases le_or_gt s c with hc | hc
  · obtain ⟨M, hM⟩ := h.top_real hc
    exact ⟨M, hs.trans hM⟩
  · have hb : all x = ⊥ := hs.trans (h.top_bot hc)
    exact absurd (le_bot_iff.mp (hb ▸ hle)) (EReal.coe_ne_bot m)

/-- A block's sum of exponentials against its own maximum, moved to the maximum over all. -/
theorem Scores.sum_block (h : Scores c x) {s : Fin 8} (hs : s ≤ c) :
    Ideal.exp (top x s - all x) * ∑ j, Ideal.exp (x s j - top x s) = ∑ j, Ideal.exp (x s j - all x) := by
  obtain ⟨m, hm⟩ := h.top_real hs
  obtain ⟨M, hM⟩ := h.all_real
  obtain ⟨p, hp, he⟩ := exp_real (EReal.coe_ne_top m) M
  rw [hm, hM, he, coe_mul_sum p hp, ← he]
  exact Finset.sum_congr rfl fun j _ => exp_step (h.ne_top s j) m M
theorem Scores.dot_block (h : Scores c x) {s : Fin 8} (hs : s ≤ c) :
    Ideal.exp (top x s - all x) * ∑ j, v s j * Ideal.exp (x s j - top x s) = ∑ j, v s j * Ideal.exp (x s j - all x) := by
  obtain ⟨m, hm⟩ := h.top_real hs
  obtain ⟨M, hM⟩ := h.all_real
  obtain ⟨p, hp, he⟩ := exp_real (EReal.coe_ne_top m) M
  rw [hm, hM, he, coe_mul_sum p hp, ← he]
  exact Finset.sum_congr rfl fun j _ => by rw [mul_left_comm, exp_step (h.ne_top s j) m M]

/-- The blocks after `c` add nothing. -/
theorem Scores.sum_none (h : Scores c x) {s : Fin 8} (hs : c < s) : ∑ j, Ideal.exp (x s j - all x) = 0 :=
  Finset.sum_eq_zero fun j _ => by rw [h.none s hs j, EReal.bot_sub]; rfl
theorem Scores.dot_none (h : Scores c x) {s : Fin 8} (hs : c < s) : ∑ j, v s j * Ideal.exp (x s j - all x) = 0 :=
  Finset.sum_eq_zero fun j _ => by rw [h.none s hs j, EReal.bot_sub, Ideal.exp_bot, mul_zero]

/-- The sum of all the exponentials is a positive number. -/
theorem Scores.total (h : Scores c x) : ∃ L : ℝ, 0 < L ∧ ∑ s, ∑ j, Ideal.exp (x s j - all x) = (L : EReal) := by
  obtain ⟨M, hM⟩ := h.all_real
  choose p hp he using fun s j => exp_real (h.ne_top s j) M
  refine ⟨∑ s, ∑ j, p s j, ?_, ?_⟩
  · obtain ⟨j, hj⟩ := h.some c le_rfl
    refine lt_of_lt_of_le ?_ (Finset.single_le_sum (f := fun s => ∑ j, p s j) (fun s _ => Finset.sum_nonneg fun j _ => hp s j) (Finset.mem_univ c))
    refine lt_of_lt_of_le ?_ (Finset.single_le_sum (f := fun j => p c j) (fun j _ => hp c j) (Finset.mem_univ j))
    have e := he c j
    lift x c j to ℝ using ⟨h.ne_top c j, hj⟩ with y
    rw [← EReal.coe_sub, Ideal.exp_coe, EReal.coe_eq_coe_iff] at e
    exact e ▸ Real.exp_pos _
  · rw [hM, coe_sum]
    refine Finset.sum_congr rfl fun s _ => ?_
    rw [coe_sum]
    exact Finset.sum_congr rfl fun j _ => he s j

/-- The weighted sum divided by the sum is the sum weighted by the quotients. -/
theorem Scores.div_total (h : Scores c x) :
    Ideal.div (∑ s, ∑ j, v s j * Ideal.exp (x s j - all x)) (∑ s, ∑ j, Ideal.exp (x s j - all x))
      = ∑ s, ∑ j, v s j * Ideal.div (Ideal.exp (x s j - all x)) (∑ s, ∑ j, Ideal.exp (x s j - all x)) := by
  obtain ⟨L, hL, e⟩ := h.total
  rw [e, Ideal.div_coe hL.ne', mul_comm, coe_mul_sum _ (by positivity)]
  refine Finset.sum_congr rfl fun s _ => ?_
  rw [coe_mul_sum _ (by positivity)]
  refine Finset.sum_congr rfl fun j _ => ?_
  rw [Ideal.div_coe hL.ne', mul_left_comm, mul_comm ((1 / L : ℝ) : EReal)]

end Cert.Softmax

end
-- ==== Proof.KernelValue.lean ====
/-
  The value the kernel leaves, over the extended reals: the softmax over all the keys the query may see, weighting the values.
-/
module

public import proofs.«01_k».proof.Proof.KernelScores
public import proofs.«01_k».proof.Proof.Softmax

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open scoped BigOperators

/-! ## The scores of one query -/

/-- The product of a query and a key of one head. -/
def dot (K Q : S8x1024x128.Idx → EReal) (h : Fin 8) (j r : Fin 1024) : EReal :=
  ∑ d : Fin 128, K (ix3 h j d) * Q (ix3 h r d)

variable (A : Ins Ideal) (c : Dev nD) (h : Fin 8) (r : Fin 1024)

/-- The scores of query `r` of device `c` against the keys of each device: those after it score minus infinity. -/
def sc (s : Fin 8) (j : Fin 1024) : EReal :=
  if s < c then dot (A.k s) (A.q c) h j r
  else if s = c then dot (A.k c) (A.q c) h j r + A.msk c (ix2 j r)
  else ⊥

theorem sc_before {s : Fin 8} (hs : s < c) (j : Fin 1024) : sc A c h r s j = dot (A.k s) (A.q c) h j r := if_pos hs
theorem sc_own (j : Fin 1024) : sc A c h r c j = dot (A.k c) (A.q c) h j r + A.msk c (ix2 j r) := by
  unfold sc; rw [if_neg (lt_irrefl c), if_pos rfl]
theorem sc_after {s : Fin 8} (hs : c < s) (j : Fin 1024) : sc A c h r s j = ⊥ := by
  unfold sc; rw [if_neg hs.asymm, if_neg hs.ne']

/-! ## Each block's part -/

theorem headRow_apply (X : S8x1024x128.Idx → Elt Ideal .bf16) (u : Fin 1) (j : Fin 1024) (d : Fin 128) :
    headRow X h (ix3 u j d) = X (ix3 h j d) := by
  refine congrArg X ?_
  funext a
  match a with
  | ⟨0, _⟩ => rfl
  | ⟨1, _⟩ => rfl
  | ⟨2, _⟩ => rfl

theorem block_scores (X Y : S8x1024x128.Idx → Elt Ideal .bf16) (j : Fin 1024) :
    k0_pay1 (headRow X h) (headRow Y h) (ix2 j r) = dot Y X h j r := by
  rw [scores_apply]
  exact Finset.sum_congr rfl fun d _ => by rw [headRow_apply, headRow_apply]

theorem block_max (s : Fin 8) (hs : s < c) (u : Fin 1) :
    k0_pay2 (headRow (A.q c) h) (headRow (A.k s) h) (ix2 u r) = Softmax.top (sc A c h r) s := by
  rw [max_apply]
  refine congrArg Finset.univ.sup ?_
  funext j
  rw [block_scores, sc_before A c h r hs]

theorem block_exp (s : Fin 8) (hs : s < c) (j : Fin 1024) :
    k0_pay3 (headRow (A.q c) h) (headRow (A.k s) h) (ix2 j r)
      = Ideal.exp (sc A c h r s j - Softmax.top (sc A c h r) s) := by
  rw [exp_apply, block_max A c h r s hs, block_scores, sc_before A c h r hs]

theorem own_scores (j : Fin 1024) :
    k0_pay57 (headRow (A.q c) h) (headRow (A.k c) h) (A.msk c) (ix2 j r) = sc A c h r c j := by
  rw [own_scores_apply, sc_own]
  refine congrArg (· + _) ?_
  exact Finset.sum_congr rfl fun d _ => by rw [headRow_apply, headRow_apply]

theorem own_max (u : Fin 1) :
    k0_pay58 (headRow (A.q c) h) (headRow (A.k c) h) (A.msk c) (ix2 u r) = Softmax.top (sc A c h r) c := by
  rw [own_max_apply]
  refine congrArg Finset.univ.sup ?_
  funext j
  rw [own_scores]

theorem own_exp (j : Fin 1024) :
    k0_pay59 (headRow (A.q c) h) (headRow (A.k c) h) (A.msk c) (ix2 j r)
      = Ideal.exp (sc A c h r c j - Softmax.top (sc A c h r) c) := by
  rw [own_exp_apply, own_max, own_scores]

/-! ## The device's own block -/

theorem three (y : S1x1024.Idx → EReal) (u w : Fin 1) :
    shapeCast S1x1x1024 y shapeCasts_S1x1024_S1x1x1024 (ix3 u w r) = y (ix2 0 r) := by
  have hu : u.val = 0 := by omega
  have hw : w.val = 0 := by omega
  refine shapeCast_apply _ shapeCasts_S1x1024_S1x1x1024 (ix3 u w r) (ix2 0 r) ?_
  rw [Shape.rowMajor_val_two, Shape.rowMajor_val_three]
  show 0 * 1024 + r.val = (u.val * 1 + w.val) * 1024 + r.val
  omega

theorem cs_ix3 {n0 n1 n2 N : ℕ} (k : Fin N) (a : Fin n0) (b : Fin n1) (d : Fin n2) :
    cs k (tl (ix3 a b d)) = ix3 k b d := by
  funext a
  match a with
  | ⟨0, _⟩ => rfl
  | ⟨1, _⟩ => rfl
  | ⟨2, _⟩ => rfl

theorem dM_apply (u : Fin 1) : dM A c (ix3 h u r) = Softmax.top (sc A c h r) c := by
  show k0_pay60 (headRow (A.q c) h) (headRow (A.k c) h) (A.msk c) (cs (N := 1) 0 (tl (ix3 h u r))) = _
  rw [cs_ix3]
  unfold k0_pay60
  rw [three, own_max]

theorem dL_apply (u : Fin 1) :
    dL A c (ix3 h u r) = ∑ j, Ideal.exp (sc A c h r c j - Softmax.top (sc A c h r) c) := by
  show k0_pay61 (headRow (A.q c) h) (headRow (A.k c) h) (A.msk c) (cs (N := 1) 0 (tl (ix3 h u r))) = _
  rw [cs_ix3]
  unfold k0_pay61
  rw [three, shapeCast_a_1a_apply]
  refine (sum_over_keys _ _ _ r).trans (Finset.sum_congr rfl fun j _ => ?_)
  rw [own_exp]

theorem dA_apply (d : Fin 128) :
    dA A c (ix3 h d r) = ∑ j, A.v c (ix3 h j d) * Ideal.exp (sc A c h r c j - Softmax.top (sc A c h r) c) := by
  show k0_pay62 (headRow (A.q c) h) (headRow (A.k c) h) (headRow (A.v c) h) (A.msk c) (cs (N := 1) 0 (tl (ix3 h d r))) = _
  rw [cs_ix3]
  unfold k0_pay62
  rw [shapeCast_ab_1ab_apply]
  refine (values_by_weights _ _ d r).trans (Finset.sum_congr rfl fun j _ => ?_)
  rw [shapeCast_1ab_ab_apply, headRow_apply, ValueIdx.truncf_apply, own_exp]

/-! ## The other devices' blocks -/

/-- A row of received maxima or sums, a head at a time. -/
theorem row_apply (y : Vec Ideal S1x1x8x1x1024 .bf16) (u : Fin 1) :
    shapeCast S8x1x1024 y shapeCasts_S1x1x8x1x1024_S8x1x1024 (ix3 h u r) = y (ix5 0 0 h 0 r) := by
  have hu : u.val = 0 := by omega
  refine shapeCast_apply _ shapeCasts_S1x1x8x1x1024_S8x1x1024 (ix3 h u r) (ix5 0 0 h 0 r) ?_
  rw [Shape.rowMajor_val_three, Shape.rowMajor_val_five]
  show (((0 * 1 + 0) * 8 + h.val) * 1 + 0) * 1024 + r.val = (h.val * 1 + u.val) * 1024 + r.val
  omega

theorem five_ix : cs (N := 1) 0 (cs (N := 1) 0 (cs (N := 1) 0 (tl (tl (ix4 (0 : Fin 2) h (0 : Fin 1) r))))) = ix5 0 0 0 0 r := by
  funext a
  match a with
  | ⟨0, _⟩ => rfl
  | ⟨1, _⟩ => rfl
  | ⟨2, _⟩ => rfl
  | ⟨3, _⟩ => rfl
  | ⟨4, _⟩ => rfl

theorem pmRow_max (s : Fin 8) (hs : s < c) :
    pmRow A c s 0 (ix5 0 0 h 0 r) = Softmax.top (sc A c h r) s := by
  have e : pmRow A c s 0 (ix5 0 0 h 0 r) = k0_pay5 (headRow (A.q c) h) (headRow (A.k s) h) (ix5 0 0 0 0 r) := by
    rw [← five_ix h r]; rfl
  rw [e, sent_max_apply, block_max A c h r s hs]

theorem pmRow_sum (s : Fin 8) (hs : s < c) :
    pmRow A c s 1 (ix5 0 0 h 0 r) = ∑ j, Ideal.exp (sc A c h r s j - Softmax.top (sc A c h r) s) := by
  have e : pmRow A c s 1 (ix5 0 0 h 0 r) = k0_pay6 (headRow (A.q c) h) (headRow (A.k s) h) (ix5 0 0 0 0 r) := by
    rw [← five_ix h r]; rfl
  rw [e, sent_sum_apply]
  exact Finset.sum_congr rfl fun j _ => block_exp A c h r s hs j

theorem accP_apply (s : Fin 8) (hs : s < c) (d : Fin 128) :
    accP (A.q c) (A.k s) (A.v s) (ix3 h d r)
      = ∑ j, A.v s (ix3 h j d) * Ideal.exp (sc A c h r s j - Softmax.top (sc A c h r) s) := by
  have e : accP (A.q c) (A.k s) (A.v s) (ix3 h d r)
      = k0_pay4 (headRow (A.q c) h) (headRow (A.k s) h) (headRow (A.v s) h) (ix4 0 0 d r) := by
    unfold accP
    refine congrArg _ ?_
    funext a
    match a with
    | ⟨0, _⟩ => rfl
    | ⟨1, _⟩ => rfl
    | ⟨2, _⟩ => rfl
    | ⟨3, _⟩ => rfl
  rw [e, weighted_apply]
  exact Finset.sum_congr rfl fun j _ => by rw [headRow_apply, block_exp A c h r s hs j]

/-! ## All blocks together -/

theorem dv_lt {e : ℕ} (he : e + 1 ≤ c.val) : dv (c.val - (e + 1)) < c := by
  have hc : c.val < 8 := c.isLt
  have hm : (c.val - (e + 1)) % 8 = c.val - (e + 1) := Nat.mod_eq_of_lt (by omega)
  refine Fin.lt_def.mpr ?_
  show (c.val - (e + 1)) % 8 < c.val
  omega

theorem dv_small (n : ℕ) (hn : n < 8) : (dv n).val = n := Nat.mod_eq_of_lt hn

variable (H : Softmax.Scores c (sc A c h r))
include H

theorem mx_apply : mxA A c 7 (ix3 h 0 r) = Softmax.all (sc A c h r) := by
  refine Softmax.fold_max c dv dv_small (Softmax.top (sc A c h r)) (fun e => mxA A c e (ix3 h 0 r)) ?_ (fun e => ?_)
    fun s hs => H.top_bot hs
  · show k0_pay63 (dM A c) (ix3 h 0 r) = _
    unfold k0_pay63
    rw [shapeCast_self, dM_apply]
  · by_cases he : e + 1 ≤ c.val
    · rw [if_pos he, ← pmRow_max A c h r _ (dv_lt c he), ← row_apply h r (pmRow A c (dv (c.val - (e + 1))) 0) 0]
      show (if e + 1 ≤ c.val then k0_pay64 (mxA A c e) (pmRow A c (dv (c.val - (e + 1))) 0) else mxA A c e) (ix3 h 0 r) = _
      rw [if_pos he]
      unfold k0_pay64
      rw [shapeCast_self]
      rfl
    · rw [if_neg he]
      show (if e + 1 ≤ c.val then k0_pay64 (mxA A c e) (pmRow A c (dv (c.val - (e + 1))) 0) else mxA A c e) (ix3 h 0 r) = _
      rw [if_neg he]

/-- The factor that moves a block to the maximum over all. -/
theorem factor (s : Fin 8) (hs : s < c) :
    k0_pay13 (pmRow A c s 0) (mxA A c 7) (ix3 h 0 r) = Ideal.exp (Softmax.top (sc A c h r) s - Softmax.all (sc A c h r)) := by
  rw [← mx_apply A c h r H, ← pmRow_max A c h r s hs, ← row_apply h r (pmRow A c s 0) 0]
  generalize pmRow A c s 0 = p
  generalize mxA A c 7 = m
  rfl

theorem own_factor :
    k0_pay71 (dM A c) (mxA A c 7) (ix3 h 0 r) = Ideal.exp (Softmax.top (sc A c h r) c - Softmax.all (sc A c h r)) := by
  rw [← mx_apply A c h r H, ← dM_apply A c h r 0]
  generalize dM A c = p
  generalize mxA A c 7 = m
  rfl

theorem l_apply : lA A c 7 (ix3 h 0 r) = ∑ s, ∑ j, Ideal.exp (sc A c h r s j - Softmax.all (sc A c h r)) := by
  refine Softmax.fold_sum c dv dv_small (fun s => ∑ j, Ideal.exp (sc A c h r s j - Softmax.all (sc A c h r)))
    (fun e => lA A c e (ix3 h 0 r)) ?_ (fun e => ?_) fun s hs => H.sum_none hs
  · show k0_pay73 (k0_pay72 (dM A c) (mxA A c 7) (dL A c)) (ix3 h 0 r) = _
    unfold k0_pay73
    rw [shapeCast_self]
    unfold k0_pay72
    rw [ValueIdx.mulf_apply, own_factor A c h r H, dL_apply, mul_comm]
    exact H.sum_block le_rfl
  · by_cases he : e + 1 ≤ c.val
    · show (if e + 1 ≤ c.val then
        k0_pay76 (k0_pay13 (pmRow A c (dv (c.val - (e + 1))) 0) (mxA A c 7)) (lA A c e) (pmRow A c (dv (c.val - (e + 1))) 1)
        else lA A c e) (ix3 h 0 r) = _
      rw [if_pos he, if_pos he]
      have hs := dv_lt c he
      generalize dv (c.val - (e + 1)) = s at hs ⊢
      unfold k0_pay76
      rw [shapeCast_self, ValueIdx.addf_apply, ValueIdx.mulf_apply, factor A c h r H s hs, ValueIdx.extf_apply, row_apply,
        pmRow_sum A c h r s hs, H.sum_block hs.le]
    · show (if e + 1 ≤ c.val then
        k0_pay76 (k0_pay13 (pmRow A c (dv (c.val - (e + 1))) 0) (mxA A c 7)) (lA A c e) (pmRow A c (dv (c.val - (e + 1))) 1)
        else lA A c e) (ix3 h 0 r) = _
      rw [if_neg he, if_neg he]

omit H in
/-- A row of factors, read in each column of the values. -/
theorem spread (y : FVec Ideal S8x1x1024 .f32) (d : Fin 128) :
    broadcastTo S8x128x1024 y broadcasts_S8x1x1024_S8x128x1024 (ix3 h d r) = y (ix3 h 0 r) := by
  refine broadcastTo_apply y _ (ix3 h d r) (ix3 h 0 r) fun a => ?_
  match a with
  | ⟨0, _⟩ => rfl
  | ⟨1, _⟩ => rfl
  | ⟨2, _⟩ => rfl

theorem a_apply (d : Fin 128) : aA A c 7 (ix3 h d r)
    = ∑ s, ∑ j, A.v s (ix3 h j d) * Ideal.exp (sc A c h r s j - Softmax.all (sc A c h r)) := by
  refine Softmax.fold_sum c dv dv_small (fun s => ∑ j, A.v s (ix3 h j d) * Ideal.exp (sc A c h r s j - Softmax.all (sc A c h r)))
    (fun e => aA A c e (ix3 h d r)) ?_ (fun e => ?_) fun s hs => H.dot_none (fun s j => A.v s (ix3 h j d)) hs
  · show k0_pay74 (k0_pay71 (dM A c) (mxA A c 7)) (dA A c) (ix3 h d r) = _
    unfold k0_pay74
    rw [shapeCast_self, ValueIdx.mulf_apply, spread, own_factor A c h r H, dA_apply, mul_comm]
    exact H.dot_block (fun s j => A.v s (ix3 h j d)) le_rfl
  · by_cases he : e + 1 ≤ c.val
    · show (if e + 1 ≤ c.val then
        k0_pay75 (k0_pay14 (pmRow A c (dv (c.val - (e + 1))) 0) (mxA A c 7) (aA A c e)
          (accP (A.q c) (A.k (dv (c.val - (e + 1)))) (A.v (dv (c.val - (e + 1)))))) else aA A c e) (ix3 h d r) = _
      rw [if_pos he, if_pos he]
      have hs := dv_lt c he
      generalize dv (c.val - (e + 1)) = s at hs ⊢
      unfold k0_pay75
      rw [shapeCast_self]
      unfold k0_pay14
      rw [ValueIdx.addf_apply, ValueIdx.mulf_apply, spread, factor A c h r H s hs, ValueIdx.extf_apply,
        accP_apply A c h r s hs, H.dot_block (fun s j => A.v s (ix3 h j d)) hs.le]
    · show (if e + 1 ≤ c.val then
        k0_pay75 (k0_pay14 (pmRow A c (dv (c.val - (e + 1))) 0) (mxA A c 7) (aA A c e)
          (accP (A.q c) (A.k (dv (c.val - (e + 1)))) (A.v (dv (c.val - (e + 1)))))) else aA A c e) (ix3 h d r) = _
      rw [if_neg he, if_neg he]

/-- The kernel's attention: the values weighted by the softmax of the scores. -/
theorem out_apply (d : Fin 128) : outA A c (ix3 h d r)
    = ∑ s, ∑ j, A.v s (ix3 h j d) * Ideal.div (Ideal.exp (sc A c h r s j - Softmax.all (sc A c h r)))
        (∑ s, ∑ j, Ideal.exp (sc A c h r s j - Softmax.all (sc A c h r))) := by
  unfold outA k0_pay89
  rw [ValueIdx.truncf_apply, ValueIdx.divf_apply, spread, a_apply A c h r H, l_apply A c h r H]
  exact H.div_total (fun s j => A.v s (ix3 h j d))

end Cert.KernelIdeal.Attn

end
-- ==== Proof.RefValue.lean ====
/-
  The value the reference computes, over the extended reals, read at an index.
-/
module

public import proofs.«01_k».proof.Proof.Gen.ReferenceIdeal.Run
public import Idealize.ShloMosaic.PureOps.Ideal.Laws
public import Idealize.ShloMosaic.Lib.ValueLayout
public import Idealize.ShloMosaic.Lib.MatmulPlain
public import Idealize.ShloMosaic.Lib.IdealHost

@[expose] public section

set_option maxRecDepth 16384

noncomputable section

namespace Cert.ReferenceIdeal.Attn

open Cert.ReferenceIdeal Cert.ReferenceIdeal.Gen
open Idealize.ShloMosaic Idealize.ShloMosaic.TcCoe Idealize.ShloMosaic.ValueIdx
open scoped BigOperators

/-! ## The steps of the reference -/

/-- The block each position is in. -/
def blk : IVec S8192 32 := Host.divsi (iotaInDim S8192 32 0) (broadcastInDim S8192 ![] bcast_S_S8192 (constantI S_ 32 64#32))

/-- Whether the key (the second coordinate) is in no later block than the query (the first). -/
def seen : IVec S8192x8192 1 :=
  cmpi .sle (broadcastInDim S8192x8192 ![0, 1] bcast_S1x8192_S8192x8192_0_1 (broadcastInDim S1x8192 ![1] bcast_S8192_S1x8192_1 blk))
    (broadcastInDim S8192x8192 ![0, 1] bcast_S8192x1_S8192x8192_0_1 (broadcastInDim S8192x1 ![0] bcast_S8192_S8192x1_0 blk))

variable (q k v : FVec Ideal S8x8192x128 .bf16) (w : FVec Ideal S1024x1024 .bf16)

def scores : FVec Ideal S8x8192x8192 .f32 :=
  select (broadcastInDim S8x8192x8192 ![0, 1, 2] bcast_S1x8192x8192_S8x8192x8192_0_1_2
      (broadcastInDim S1x8192x8192 ![1, 2] bcast_S8192x8192_S1x8192x8192_1_2 seen))
    (Host.dotGeneral dot_S8x8192x128_S8x8192x128_S8x8192x8192_2_2_1_1_0_0 none q k)
    (broadcastInDim S8x8192x8192 ![] bcast_S_S8x8192x8192 (id (constant S_ .f32 0xFF800000#32)))

/-- A value for each head and query, read for each key. -/
def along (y : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 y)

def maxima (x : FVec Ideal S8x8192x8192 .f32) : FVec Ideal S8x8192 .f32 :=
  Host.reduce FloatOps.maximumf x (constant S_ .f32 0xFF800000#32) reducesTo_S8x8192x8192_S8x8192_d2 h_S_

def exps (x : FVec Ideal S8x8192x8192 .f32) : FVec Ideal S8x8192x8192 .f32 := Host.exp (subf x (along (maxima x)))

def sums (e : FVec Ideal S8x8192x8192 .f32) : FVec Ideal S8x8192 .f32 :=
  Host.reduceAdd e (constant S_ .f32 0x00000000#32) reducesTo_S8x8192x8192_S8x8192_d2 h_S_

def probs (e : FVec Ideal S8x8192x8192 .f32) : FVec Ideal S8x8192x8192 .f32 := Host.divf e (along (sums e))

def ctx (p : FVec Ideal S8x8192x8192 .f32) : FVec Ideal S8x128x8192 .f32 :=
  Host.dotGeneral dot_S8x8192x128_S8x8192x8192_S8x128x8192_1_2_2_1_0_0 none (extf .f32 v bitsLt_bf16_f32) p

def project (x : FVec Ideal S8x128x8192 .f32) : FVec Ideal S1x8192x1024 .f32 :=
  Host.dotGeneral dot_S1x8192x1024_S1024x1024_S1x8192x1024_2_0_01_1_n_n none
    (shapeCast _ (transpose S8192x8x128 [2, 0, 1] x transposes_S8x128x8192_S8192x8x128_2_0_1) shapeCasts_S8192x8x128_S1x8192x1024)
    (extf .f32 w bitsLt_bf16_f32)

/-- The reference's value is those steps. -/
theorem value_eq (m : (ℓ : Loc nD τ sig) → Buf (Elt Ideal) ℓ) (c : Dev nD) :
    Value.res_main_v25 m c = project (m ((c.tc : Thread nD τ).loc main_arg4))
      (ctx (m ((c.tc : Thread nD τ).loc main_arg2))
        (probs (exps (scores (m ((c.tc : Thread nD τ).loc main_arg0)) (m ((c.tc : Thread nD τ).loc main_arg1)))))) := rfl

/-! ## The mask -/

theorem div_word : ∀ n : Fin 8192, IntOp.divsi .host (BitVec.ofNat 32 n.val) 64#32 = BitVec.ofNat 32 (n.val / 64) := by
  decide +kernel

theorem le_word : ∀ a b : Fin 128,
    IntOp.cmpi .sle (BitVec.ofNat 32 a.val) (BitVec.ofNat 32 b.val) = if a ≤ b then 1#1 else 0#1 := by
  decide +kernel

theorem blk_apply (i : Fin 8192) : blk (ix1 i) = BitVec.ofNat 32 (i.val / 64) := div_word i

theorem seen_apply (i j : Fin 8192) : seen (ix2 i j) = if j.val / 64 ≤ i.val / 64 then 1#1 else 0#1 := by
  have ek : broadcastInDim S8192x8192 ![0, 1] bcast_S1x8192_S8192x8192_0_1
      (broadcastInDim S1x8192 ![1] bcast_S8192_S1x8192_1 blk) (ix2 i j) = BitVec.ofNat 32 (j.val / 64) := by
    rw [broadcastInDim_apply _ _ _ (ix2 i j) (ix2 (0 : Fin 1) j) (fun a => by
        match a with
        | ⟨0, _⟩ => rfl
        | ⟨1, _⟩ => rfl),
      broadcastInDim_apply _ _ _ (ix2 (0 : Fin 1) j) (ix1 j) (fun a => by
        match a with
        | ⟨0, _⟩ => rfl), blk_apply]
  have eq : broadcastInDim S8192x8192 ![0, 1] bcast_S8192x1_S8192x8192_0_1
      (broadcastInDim S8192x1 ![0] bcast_S8192_S8192x1_0 blk) (ix2 i j) = BitVec.ofNat 32 (i.val / 64) := by
    rw [broadcastInDim_apply _ _ _ (ix2 i j) (ix2 i (0 : Fin 1)) (fun a => by
        match a with
        | ⟨0, _⟩ => rfl
        | ⟨1, _⟩ => rfl),
      broadcastInDim_apply _ _ _ (ix2 i (0 : Fin 1)) (ix1 i) (fun a => by
        match a with
        | ⟨0, _⟩ => rfl), blk_apply]
  have h := le_word ⟨j.val / 64, by omega⟩ ⟨i.val / 64, by omega⟩
  unfold seen
  show IntOp.cmpi .sle _ _ = _
  rw [ek, eq]
  exact h

/-! ## The other steps at an index -/

theorem word_bot : Ideal.ofBits .f32 0xFF800000#32 = ⊥ := by
  simp [Ideal.ofBits, Ideal.ieee]

/-- The product of a query and a key. -/
def dot (h : Fin 8) (i j : Fin 8192) : EReal := ∑ d : Fin 128, q (ix3 h i d) * k (ix3 h j d)

theorem dot_apply (h : Fin 8) (i j : Fin 8192) :
    Host.dotGeneral dot_S8x8192x128_S8x8192x128_S8x8192x8192_2_2_1_1_0_0 none q k (ix3 h i j) = dot q k h i j := by
  simp only [Host.dotGeneral]
  rw [Ideal.dotGeneral_apply,
    ← Equiv.sum_comp (contrEquiv1 dot_S8x8192x128_S8x8192x128_S8x8192x8192_2_2_1_1_0_0 128 rfl rfl).symm]
  refine Finset.sum_congr rfl fun d _ => ?_
  have hd := contrEquiv1_symm_val dot_S8x8192x128_S8x8192x128_S8x8192x8192_2_2_1_1_0_0 128 rfl rfl d
  congr 1
  · refine congrArg q ?_
    funext a; apply Fin.ext
    match a with
    | ⟨0, _⟩ => rfl
    | ⟨1, _⟩ => rfl
    | ⟨2, _⟩ => exact hd
  · refine congrArg k ?_
    funext a; apply Fin.ext
    match a with
    | ⟨0, _⟩ => rfl
    | ⟨1, _⟩ => rfl
    | ⟨2, _⟩ => exact hd

theorem scores_apply (h : Fin 8) (i j : Fin 8192) :
    scores q k (ix3 h i j) = if j.val / 64 ≤ i.val / 64 then dot q k h i j else ⊥ := by
  have e : broadcastInDim S8x8192x8192 ![0, 1, 2] bcast_S1x8192x8192_S8x8192x8192_0_1_2
      (broadcastInDim S1x8192x8192 ![1, 2] bcast_S8192x8192_S1x8192x8192_1_2 seen) (ix3 h i j)
      = if j.val / 64 ≤ i.val / 64 then 1#1 else 0#1 := by
    rw [broadcastInDim_apply _ _ _ (ix3 h i j) (ix3 (0 : Fin 1) i j) (fun a => by
        match a with
        | ⟨0, _⟩ => rfl
        | ⟨1, _⟩ => rfl
        | ⟨2, _⟩ => rfl),
      broadcastInDim_apply _ _ _ (ix3 (0 : Fin 1) i j) (ix2 i j) (fun a => by
        match a with
        | ⟨0, _⟩ => rfl
        | ⟨1, _⟩ => rfl), seen_apply]
  unfold scores
  rw [ValueIdx.select_apply, e, dot_apply, broadcastInDim_scalar_apply]
  have eb : (id (constant S_ .f32 0xFF800000#32) : FVec Ideal S_ .f32) ix0 = ⊥ := word_bot
  rw [eb]
  by_cases hm : j.val / 64 ≤ i.val / 64
  · rw [if_pos hm, if_pos hm]; rfl
  · rw [if_neg hm, if_neg hm]; rfl

theorem along_apply (y : FVec Ideal S8x8192 .f32) (h : Fin 8) (i j : Fin 8192) : along y (ix3 h i j) = y (ix2 h i) := by
  unfold along
  rw [broadcastInDim_apply _ _ _ (ix3 h i j) (ix3 h i (0 : Fin 1)) (fun a => by
        match a with
        | ⟨0, _⟩ => rfl
        | ⟨1, _⟩ => rfl
        | ⟨2, _⟩ => rfl),
      broadcastInDim_apply _ _ _ (ix3 h i (0 : Fin 1)) (ix2 h i) (fun a => by
        match a with
        | ⟨0, _⟩ => rfl
        | ⟨1, _⟩ => rfl)]

theorem over_keys : S8x8192x8192.Reduces [2] S8x8192 := by decide

theorem lift_key (h : Fin 8) (i j : Fin 8192) : over_keys.lift (ix2 h i) j = ix3 h i j := by
  funext a; apply Fin.ext
  match a with
  | ⟨0, _⟩ => rfl
  | ⟨1, _⟩ => rfl
  | ⟨2, _⟩ => rfl

theorem maxima_apply (x : FVec Ideal S8x8192x8192 .f32) (h : Fin 8) (i : Fin 8192) :
    maxima x (ix2 h i) = Finset.univ.sup fun j : Fin 8192 => x (ix3 h i j) := by
  unfold maxima
  rw [Host.reduce_eq_fold_single FloatOps.maximumf x _ reducesTo_S8x8192x8192_S8x8192_d2 over_keys h_S_ (ix2 h i)]
  have eb : (constant S_ .f32 0xFF800000#32 : FVec Ideal S_ .f32) (Shape.Idx.first h_S_) = ⊥ := word_bot
  rw [eb]
  show Finset.univ.sup (fun j : Fin 8192 => x (over_keys.lift (ix2 h i) j)) = _
  refine congrArg Finset.univ.sup ?_
  funext j
  rw [lift_key]

theorem sums_apply (e : FVec Ideal S8x8192x8192 .f32) (h : Fin 8) (i : Fin 8192) :
    sums e (ix2 h i) = ∑ j : Fin 8192, e (ix3 h i j) := by
  unfold sums
  rw [hostReduceAdd_apply, Ideal.hostReduceAdd_single _ over_keys]
  have eb : (constant S_ .f32 0x00000000#32 : FVec Ideal S_ .f32) (Shape.Idx.first h_S_) = 0 := Ideal.ofBits_zero_f32
  rw [eb, zero_add]
  refine Finset.sum_congr rfl fun j _ => ?_
  exact congrArg e (lift_key h i j)

theorem exps_apply (x : FVec Ideal S8x8192x8192 .f32) (h : Fin 8) (i j : Fin 8192) :
    exps x (ix3 h i j) = Ideal.exp (x (ix3 h i j) - Finset.univ.sup fun j : Fin 8192 => x (ix3 h i j)) := by
  rw [← maxima_apply, ← along_apply (maxima x) h i j]
  unfold exps
  generalize along (maxima x) = y
  rfl

theorem probs_apply (e : FVec Ideal S8x8192x8192 .f32) (h : Fin 8) (i j : Fin 8192) :
    probs e (ix3 h i j) = Ideal.div (e (ix3 h i j)) (∑ j : Fin 8192, e (ix3 h i j)) := by
  unfold probs
  rw [hostDivf_apply, along_apply, sums_apply]

theorem ctx_apply (p : FVec Ideal S8x8192x8192 .f32) (h : Fin 8) (d : Fin 128) (i : Fin 8192) :
    ctx v p (ix3 h d i) = ∑ j : Fin 8192, v (ix3 h j d) * p (ix3 h i j) := by
  unfold ctx
  simp only [Host.dotGeneral]
  rw [Ideal.dotGeneral_apply,
    ← Equiv.sum_comp (contrEquiv1 dot_S8x8192x128_S8x8192x8192_S8x128x8192_1_2_2_1_0_0 8192 rfl rfl).symm]
  refine Finset.sum_congr rfl fun j _ => ?_
  have hj := contrEquiv1_symm_val dot_S8x8192x128_S8x8192x8192_S8x128x8192_1_2_2_1_0_0 8192 rfl rfl j
  congr 1
  · refine congrArg v ?_
    funext a; apply Fin.ext
    match a with
    | ⟨0, _⟩ => rfl
    | ⟨1, _⟩ => exact hj
    | ⟨2, _⟩ => rfl
  · refine congrArg p ?_
    funext a; apply Fin.ext
    match a with
    | ⟨0, _⟩ => rfl
    | ⟨1, _⟩ => rfl
    | ⟨2, _⟩ => exact hj

/-- The head and the column in it of a column of the concatenated heads. -/
def head (t : Fin 1024) : Fin 8 := ⟨t.val / 128, by omega⟩
def col (t : Fin 1024) : Fin 128 := ⟨t.val % 128, Nat.mod_lt _ (by decide)⟩

theorem project_apply (x : FVec Ideal S8x128x8192 .f32) (i : Fin 8192) (n : Fin 1024) :
    project w x (ix3 0 i n) = ∑ t : Fin 1024, x (ix3 (head t) (col t) i) * w (ix2 t n) := by
  unfold project
  simp only [Host.dotGeneral]
  rw [Ideal.dotGeneral_apply,
    ← Equiv.sum_comp (contrEquiv1 dot_S1x8192x1024_S1024x1024_S1x8192x1024_2_0_01_1_n_n 1024 rfl rfl).symm]
  refine Finset.sum_congr rfl fun t _ => ?_
  have ht := contrEquiv1_symm_val dot_S1x8192x1024_S1024x1024_S1x8192x1024_2_0_01_1_n_n 1024 rfl rfl t
  congr 1
  · have e : dot_S1x8192x1024_S1024x1024_S1x8192x1024_2_0_01_1_n_n.lhsIdx (ix3 0 i n)
        ((contrEquiv1 dot_S1x8192x1024_S1024x1024_S1x8192x1024_2_0_01_1_n_n 1024 rfl rfl).symm t) = ix3 0 i t := by
      funext a; apply Fin.ext
      match a with
      | ⟨0, _⟩ => rfl
      | ⟨1, _⟩ => rfl
      | ⟨2, _⟩ => exact ht
    rw [e, shapeCast_apply _ _ (ix3 0 i t) (ix3 i (head t) (col t)) (by
        rw [Shape.rowMajor_val_three, Shape.rowMajor_val_three]
        show (i.val * 8 + t.val / 128) * 128 + t.val % 128 = (0 * 8192 + i.val) * 1024 + t.val
        omega),
      transpose_apply _ _ _ (ix3 i (head t) (col t)) (ix3 (head t) (col t) i) (fun b => by
        match b with
        | ⟨0, _⟩ => rfl
        | ⟨1, _⟩ => rfl
        | ⟨2, _⟩ => rfl)]
  · refine congrArg w ?_
    funext a; apply Fin.ext
    match a with
    | ⟨0, _⟩ => exact ht
    | ⟨1, _⟩ => rfl

end Cert.ReferenceIdeal.Attn

end
-- ==== Proof.RefBlocks.lean ====
/-
  The reference's keys and queries in eight blocks of 1024: its attention as a softmax over the blocks.
-/
module

public import proofs.«01_k».proof.Proof.RefValue
public import proofs.«01_k».proof.Proof.Softmax

@[expose] public section

noncomputable section

namespace Cert.ReferenceIdeal.Attn

open Cert.ReferenceIdeal Cert.ReferenceIdeal.Gen
open Idealize.ShloMosaic Idealize.ShloMosaic.TcCoe Idealize.ShloMosaic.ValueIdx
open scoped BigOperators

/-- Position `j` of block `s`. -/
def pos (s : Fin 8) (j : Fin 1024) : Fin 8192 := ⟨s.val * 1024 + j.val, by omega⟩

/-- A position is one of a block. -/
def posEquiv : Fin 8 × Fin 1024 ≃ Fin 8192 where
  toFun p := pos p.1 p.2
  invFun i := (⟨i.val / 1024, by omega⟩, ⟨i.val % 1024, Nat.mod_lt _ (by decide)⟩)
  left_inv p := by
    obtain ⟨s, j⟩ := p
    refine Prod.ext (Fin.ext ?_) (Fin.ext ?_)
    · show (s.val * 1024 + j.val) / 1024 = s.val; omega
    · show (s.val * 1024 + j.val) % 1024 = j.val; omega
  right_inv i := Fin.ext (by show i.val / 1024 * 1024 + i.val % 1024 = i.val; omega)

theorem sum_pos (f : Fin 8192 → EReal) : ∑ i, f i = ∑ s, ∑ j, f (pos s j) := by
  rw [← Equiv.sum_comp posEquiv, Fintype.sum_prod_type]
  rfl

theorem sup_pos (f : Fin 8192 → EReal) : Finset.univ.sup f = Softmax.all fun s j => f (pos s j) := by
  refine le_antisymm (Finset.sup_le fun i _ => ?_) (Finset.sup_le fun s _ => Finset.sup_le fun j _ => Finset.le_sup (f := f) (Finset.mem_univ _))
  obtain ⟨p, rfl⟩ := posEquiv.surjective i
  refine le_trans ?_ (Finset.le_sup (f := Softmax.top fun s j => f (pos s j)) (Finset.mem_univ p.1))
  exact Finset.le_sup (f := fun j => f (pos p.1 j)) (Finset.mem_univ p.2)

variable (q k v : FVec Ideal S8x8192x128 .bf16)

/-- The scores of query `i` of head `h`, block by block. -/
def sc (h : Fin 8) (i : Fin 8192) (s : Fin 8) (j : Fin 1024) : EReal := scores q k (ix3 h i (pos s j))

theorem attention_apply (h : Fin 8) (d : Fin 128) (i : Fin 8192) :
    ctx v (probs (exps (scores q k))) (ix3 h d i)
      = ∑ s, ∑ j, v (ix3 h (pos s j) d) * Ideal.div (Ideal.exp (sc q k h i s j - Softmax.all (sc q k h i)))
          (∑ s, ∑ j, Ideal.exp (sc q k h i s j - Softmax.all (sc q k h i))) := by
  have hs : (∑ j : Fin 8192, exps (scores q k) (ix3 h i j))
      = ∑ s, ∑ j, Ideal.exp (sc q k h i s j - Softmax.all (sc q k h i)) := by
    rw [sum_pos]
    refine Finset.sum_congr rfl fun s _ => Finset.sum_congr rfl fun j _ => ?_
    rw [exps_apply, sup_pos]
    rfl
  rw [ctx_apply, sum_pos]
  refine Finset.sum_congr rfl fun s _ => Finset.sum_congr rfl fun j _ => ?_
  rw [probs_apply, hs, exps_apply, sup_pos]
  rfl

/-- Blocks before the query's are seen, blocks after it are not, and its own is as far as 64-blocks allow. -/
theorem sc_eq (h : Fin 8) (c : Fin 8) (r : Fin 1024) (s : Fin 8) (j : Fin 1024) :
    sc q k h (pos c r) s j =
      if s < c then dot q k h (pos c r) (pos s j)
      else if s = c then (if j.val / 64 ≤ r.val / 64 then dot q k h (pos c r) (pos c j) else ⊥)
      else ⊥ := by
  unfold sc
  rw [scores_apply]
  have hc : (pos c r).val = c.val * 1024 + r.val := rfl
  have hj : (pos s j).val = s.val * 1024 + j.val := rfl
  rw [hc, hj]
  by_cases h1 : s < c
  · have := Fin.lt_def.mp h1
    rw [if_pos h1, if_pos (by omega)]
  · rw [if_neg h1]
    by_cases h2 : s = c
    · subst h2
      rw [if_pos rfl]
      by_cases h3 : j.val / 64 ≤ r.val / 64
      · rw [if_pos h3, if_pos (by omega)]
      · rw [if_neg h3, if_neg (by omega)]
    · have h1' : ¬ s.val < c.val := fun e => h1 (Fin.lt_def.mpr e)
      have h2' : s.val ≠ c.val := fun e => h2 (Fin.ext e)
      rw [if_neg h2, if_neg (by omega)]

end Cert.ReferenceIdeal.Attn

end
-- ==== Proof.Match.lean ====
/-
  The kernel's value on each device is the reference's, over the extended reals: scores, attention and projection.
-/
module

public import proofs.«01_k».proof.Proof.KernelValue
public import proofs.«01_k».proof.Proof.RefBlocks

@[expose] public section

set_option maxRecDepth 16384

noncomputable section

namespace Cert.Match

open Cert.KernelIdeal.Attn (Ins outA tailVal)
open Cert.ReferenceIdeal.Attn (pos project ctx probs exps scores head col)
open Idealize.ShloMosaic Idealize.ShloMosaic.TcCoe Idealize.ShloMosaic.ValueIdx
open scoped BigOperators

variable (A : Ins Ideal) (q k v : FVec Ideal Cert.ReferenceIdeal.S8x8192x128 .bf16)

/-- Each device holds its block of the arrays and the mask tile, and its queries and keys are real numbers. -/
structure Agree : Prop where
  q_eq : ∀ (c : Fin 8) (h : Fin 8) (r : Fin 1024) (d : Fin 128), A.q c (ix3 h r d) = q (ix3 h (pos c r) d)
  k_eq : ∀ (c : Fin 8) (h : Fin 8) (r : Fin 1024) (d : Fin 128), A.k c (ix3 h r d) = k (ix3 h (pos c r) d)
  v_eq : ∀ (c : Fin 8) (h : Fin 8) (r : Fin 1024) (d : Fin 128), A.v c (ix3 h r d) = v (ix3 h (pos c r) d)
  q_real : ∀ (c : Fin 8) i, ∃ y : ℝ, A.q c i = (y : EReal)
  k_real : ∀ (c : Fin 8) i, ∃ y : ℝ, A.k c i = (y : EReal)
  mask : ∀ (c : Fin 8) (j r : Fin 1024), A.msk c (ix2 j r) = if j.val / 64 ≤ r.val / 64 then (0 : EReal) else ⊥

variable {A q k v} (G : Agree A q k v) (c : Fin 8) (h : Fin 8) (r : Fin 1024)
include G

theorem dot_eq (s : Fin 8) (j : Fin 1024) :
    Cert.KernelIdeal.Attn.dot (A.k s) (A.q c) h j r = Cert.ReferenceIdeal.Attn.dot q k h (pos c r) (pos s j) := by
  refine Finset.sum_congr rfl fun d _ => ?_
  rw [G.q_eq, G.k_eq, mul_comm]

theorem dot_real (s : Fin 8) (j : Fin 1024) : ∃ y : ℝ, Cert.KernelIdeal.Attn.dot (A.k s) (A.q c) h j r = y := by
  choose x hx using fun d : Fin 128 => G.k_real s (ix3 h j d)
  choose y hy using fun d : Fin 128 => G.q_real c (ix3 h r d)
  refine ⟨∑ d, x d * y d, ?_⟩
  rw [Softmax.coe_sum]
  refine Finset.sum_congr rfl fun d _ => ?_
  rw [hx, hy, EReal.coe_mul]

theorem own_eq (j : Fin 1024) : Cert.KernelIdeal.Attn.sc A c h r c j
    = if j.val / 64 ≤ r.val / 64 then Cert.KernelIdeal.Attn.dot (A.k c) (A.q c) h j r else ⊥ := by
  rw [Cert.KernelIdeal.Attn.sc_own, G.mask]
  by_cases hm : j.val / 64 ≤ r.val / 64
  · rw [if_pos hm, if_pos hm, add_zero]
  · rw [if_neg hm, if_neg hm, EReal.add_bot]

/-- The scores are the reference's. -/
theorem sc_eq : Cert.KernelIdeal.Attn.sc A c h r = Cert.ReferenceIdeal.Attn.sc q k h (pos c r) := by
  funext s j
  rw [Cert.ReferenceIdeal.Attn.sc_eq]
  rcases lt_trichotomy s c with h1 | h1 | h1
  · rw [if_pos h1, Cert.KernelIdeal.Attn.sc_before A c h r h1, dot_eq G]
  · subst h1
    rw [if_neg (lt_irrefl s), if_pos rfl, own_eq G, dot_eq G]
  · rw [if_neg h1.asymm, if_neg h1.ne', Cert.KernelIdeal.Attn.sc_after A c h r h1]

/-- No block up to the query's is hidden whole, and no score is plus infinity. -/
theorem scores_ok : Softmax.Scores c (Cert.KernelIdeal.Attn.sc A c h r) where
  ne_top s j := by
    rcases lt_trichotomy s c with h1 | h1 | h1
    · obtain ⟨y, hy⟩ := dot_real G c h r s j
      rw [Cert.KernelIdeal.Attn.sc_before A c h r h1, hy]
      exact EReal.coe_ne_top y
    · subst h1
      obtain ⟨y, hy⟩ := dot_real G s h r s j
      rw [own_eq G, hy]
      split
      · exact EReal.coe_ne_top y
      · exact bot_ne_top
    · rw [Cert.KernelIdeal.Attn.sc_after A c h r h1]
      exact bot_ne_top
  some s hs := by
    refine ⟨r, ?_⟩
    obtain ⟨y, hy⟩ := dot_real G c h r s r
    rcases hs.lt_or_eq with h1 | h1
    · rw [Cert.KernelIdeal.Attn.sc_before A c h r h1, hy]
      exact EReal.coe_ne_bot y
    · subst h1
      rw [own_eq G, if_pos le_rfl, hy]
      exact EReal.coe_ne_bot y
  none s hs j := Cert.KernelIdeal.Attn.sc_after A c h r hs j

/-- The attention is the reference's. -/
theorem attention_eq (d : Fin 128) :
    outA A c (ix3 h d r) = ctx v (probs (exps (scores q k))) (ix3 h d (pos c r)) := by
  rw [Cert.KernelIdeal.Attn.out_apply A c h r (scores_ok G c h r), Cert.ReferenceIdeal.Attn.attention_apply, sc_eq G]
  refine Finset.sum_congr rfl fun s _ => Finset.sum_congr rfl fun j _ => ?_
  rw [G.v_eq]

omit G in
/-- The projection of the kernel's result. -/
theorem tail_apply (o : FVec Ideal Cert.KernelIdeal.S8x128x1024 .bf16) (w : FVec Ideal Cert.KernelIdeal.S1024x1024 .bf16)
    (n : Fin 1024) : tailVal o w (ix3 0 r n) = ∑ t : Fin 1024, o (ix3 (head t) (col t) r) * w (ix2 t n) := by
  unfold tailVal
  rw [broadcastInDim_apply _ _ _ (ix3 0 r n) (ix2 r n) (fun a => by
      match a with
      | ⟨0, _⟩ => rfl
      | ⟨1, _⟩ => rfl), ValueIdx.extf_apply, ValueIdx.truncf_apply]
  simp only [Host.dotGeneral]
  rw [Ideal.dotGeneral_apply,
    ← Equiv.sum_comp (contrEquiv1 Cert.KernelIdeal.dot_S1024x1024_S1024x1024_S1024x1024_1_0_0_1_n_n 1024 rfl rfl).symm]
  refine Finset.sum_congr rfl fun t _ => ?_
  have ht := contrEquiv1_symm_val Cert.KernelIdeal.dot_S1024x1024_S1024x1024_S1024x1024_1_0_0_1_n_n 1024 rfl rfl t
  congr 1
  · have e : Cert.KernelIdeal.dot_S1024x1024_S1024x1024_S1024x1024_1_0_0_1_n_n.lhsIdx (ix2 r n)
        ((contrEquiv1 Cert.KernelIdeal.dot_S1024x1024_S1024x1024_S1024x1024_1_0_0_1_n_n 1024 rfl rfl).symm t) = ix2 r t := by
      funext a; apply Fin.ext
      match a with
      | ⟨0, _⟩ => rfl
      | ⟨1, _⟩ => exact ht
    rw [e, shapeCast_apply _ _ (ix2 r t) (ix3 r (head t) (col t)) (by
        rw [Shape.rowMajor_val_three, Shape.rowMajor_val_two]
        show (r.val * 8 + t.val / 128) * 128 + t.val % 128 = r.val * 1024 + t.val
        omega),
      transpose_apply _ _ _ (ix3 r (head t) (col t)) (ix3 (head t) (col t) r) (fun b => by
        match b with
        | ⟨0, _⟩ => rfl
        | ⟨1, _⟩ => rfl
        | ⟨2, _⟩ => rfl)]
  · refine congrArg w ?_
    funext a; apply Fin.ext
    match a with
    | ⟨0, _⟩ => exact ht
    | ⟨1, _⟩ => rfl

/-- The result is the reference's. -/
theorem result_eq (w : FVec Ideal Cert.KernelIdeal.S1024x1024 .bf16) (n : Fin 1024) :
    tailVal (outA A c) w (ix3 0 r n) = project w (ctx v (probs (exps (scores q k)))) (ix3 0 (pos c r) n) := by
  rw [tail_apply, Cert.ReferenceIdeal.Attn.project_apply]
  exact Finset.sum_congr rfl fun t _ => by rw [attention_eq G]

end Cert.Match

end
-- ==== Proof.Precondition.lean ====
/-
  What the precondition says of one device's arguments: the queries and the keys are finite, and the mask tile hides
  the keys of later 64-blocks.
-/
module

public import proofs.«01_k».proof.Proof.Gen.Pre_finite_and_masked_KernelIdeal
public import Idealize.ShloMosaic.PureOps.Ideal.Laws
public import Idealize.ShloMosaic.Lib.ReduceAll
public import Idealize.ShloMosaic.Lib.IdealHost
public import Idealize.ShloMosaic.Lib.Pipeline.Value

@[expose] public section

set_option maxRecDepth 16384

noncomputable section

namespace Cert.Pre_finite_and_masked_KernelIdeal.Read

open Cert.Pre_finite_and_masked_KernelIdeal Cert.Pre_finite_and_masked_KernelIdeal.Gen
open Idealize.ShloMosaic Idealize.ShloMosaic.ValueIdx

theorem both : ∀ x y : BitVec 1, IntOp.andi x y = 1#1 → x = 1#1 ∧ y = 1#1 := by decide

theorem word_top : Ideal.ofBits .f32 0x7F800000#32 = ⊤ := by
  simp [Ideal.ofBits, Ideal.ieee]
theorem word_bot : Ideal.ofBits .f32 0xFF800000#32 = ⊥ := by
  simp [Ideal.ofBits, Ideal.ieee]

/-- What is less than plus infinity in size is a real number. -/
theorem real_of_size (x : EReal) (h : Ideal.cmp .olt (max x (-x)) ⊤ = 1#1) : ∃ y : ℝ, x = y := by
  have h' : max x (-x) < ⊤ := by
    by_contra hn
    have e : Ideal.cmp .olt (max x (-x)) ⊤ = 0#1 := by
      unfold Ideal.cmp
      rw [show decide (max x (-x) < ⊤) = false from decide_eq_false hn]
      rfl
    rw [e] at h
    exact absurd h (by decide)
  induction x with
  | bot => exact absurd h' (by simp)
  | top => exact absurd h' (by simp)
  | coe y => exact ⟨y, rfl⟩

theorem eq_of_cmp (x y : EReal) (h : Ideal.cmp .oeq x y = 1#1) : x = y := by
  by_contra hn
  have e : Ideal.cmp .oeq x y = 0#1 := by
    unfold Ideal.cmp
    rw [show decide (x = y) = false from decide_eq_false hn]
    rfl
  rw [e] at h
  exact absurd h (by decide)

theorem div_word : ∀ n : Fin 1024, IntOp.divsi .host (BitVec.ofNat 32 n.val) 64#32 = BitVec.ofNat 32 (n.val / 64) := by
  decide +kernel

theorem gt_word : ∀ a b : Fin 16,
    IntOp.cmpi .sgt (BitVec.ofNat 32 a.val) (BitVec.ofNat 32 b.val) = if a ≤ b then 0#1 else 1#1 := by
  decide +kernel

/-- The 64-block of each position. -/
def blk : IVec S1024 32 := Host.divsi (iotaInDim S1024 32 0) (broadcastInDim S1024 ![] bcast_S_S1024 (constantI S_ 32 64#32))
theorem blk_apply (i : Fin 1024) : blk (ix1 i) = BitVec.ofNat 32 (i.val / 64) := div_word i

/-- Whether the key is in a later 64-block than the query. -/
def hidden : IVec S1024x1024 1 :=
  cmpi .sgt
    (broadcastInDim S1024x1024 ![0, 1] bcast_S1024x1_S1024x1024_0_1 (broadcastInDim S1024x1 ![0] bcast_S1024_S1024x1_0 blk))
    (broadcastInDim S1024x1024 ![0, 1] bcast_S1x1024_S1024x1024_0_1 (broadcastInDim S1x1024 ![1] bcast_S1024_S1x1024_1 blk))

theorem hidden_apply (j r : Fin 1024) : hidden (ix2 j r) = if j.val / 64 ≤ r.val / 64 then 0#1 else 1#1 := by
  have ej : broadcastInDim S1024x1024 ![0, 1] bcast_S1024x1_S1024x1024_0_1
      (broadcastInDim S1024x1 ![0] bcast_S1024_S1024x1_0 blk) (ix2 j r) = BitVec.ofNat 32 (j.val / 64) := by
    rw [broadcastInDim_apply _ _ _ (ix2 j r) (ix2 j (0 : Fin 1)) (fun a => by
        match a with
        | ⟨0, _⟩ => rfl
        | ⟨1, _⟩ => rfl),
      broadcastInDim_apply _ _ _ (ix2 j (0 : Fin 1)) (ix1 j) (fun a => by
        match a with
        | ⟨0, _⟩ => rfl), blk_apply]
  have er : broadcastInDim S1024x1024 ![0, 1] bcast_S1x1024_S1024x1024_0_1
      (broadcastInDim S1x1024 ![1] bcast_S1024_S1x1024_1 blk) (ix2 j r) = BitVec.ofNat 32 (r.val / 64) := by
    rw [broadcastInDim_apply _ _ _ (ix2 j r) (ix2 (0 : Fin 1) r) (fun a => by
        match a with
        | ⟨0, _⟩ => rfl
        | ⟨1, _⟩ => rfl),
      broadcastInDim_apply _ _ _ (ix2 (0 : Fin 1) r) (ix1 r) (fun a => by
        match a with
        | ⟨0, _⟩ => rfl), blk_apply]
  have h := gt_word ⟨j.val / 64, by omega⟩ ⟨r.val / 64, by omega⟩
  unfold hidden
  show IntOp.cmpi .sgt _ _ = _
  rw [ej, er]
  exact h

/-- Whether every element is finite. -/
def allFinite (x : FVec Ideal S8x1024x128 .bf16) : IVec S_ 1 :=
  Host.reduce IntOp.andi (cmpf .olt (Host.absf (extf .f32 x bitsLt_bf16_f32))
    (broadcastInDim S8x1024x128 ![] bcast_S_S8x1024x128 (constant S_ .f32 0x7F800000#32)))
    (constantI S_ 1 1#1) reducesTo_S8x1024x128_S_d0_1_2 h_S_

/-- Whether the mask tile is as it should be. -/
def tile (w : FVec Ideal S1024x1024 .bf16) : IVec S_ 1 :=
  Host.reduce IntOp.andi (cmpf .oeq (extf .f32 w bitsLt_bf16_f32)
    (fn_where (F := Ideal) hidden (constant S_ .f32 0xFF800000#32) (constant S_ .f32 0x00000000#32)))
    (constantI S_ 1 1#1) reducesTo_S1024x1024_S_d0_1 h_S_

variable (q k v : FVec Ideal S8x1024x128 .bf16) (M w : FVec Ideal S1024x1024 .bf16)

theorem fn_eq : fn (F := Ideal) q k v M w = andi (andi (allFinite q) (allFinite k)) (tile M) := rfl

theorem one_index (i j : S_.Idx) : i = j := funext fun a => a.elim0

theorem finite_of (h : allFinite q ix0 = 1#1) (i : S8x1024x128.Idx) : ∃ y : ℝ, q i = y := by
  have e := Host.reduce_andi_all _ _ _ _ ix0 h i
  have eb : broadcastInDim S8x1024x128 ![] bcast_S_S8x1024x128 (constant S_ .f32 0x7F800000#32 : FVec Ideal S_ .f32) i = ⊤ := by
    rw [broadcastInDim_scalar_apply]
    exact word_top
  refine real_of_size (q i) ?_
  rw [← eb]
  exact e

theorem tile_of (h : tile M ix0 = 1#1) (j r : Fin 1024) : M (ix2 j r) = if j.val / 64 ≤ r.val / 64 then 0 else ⊥ := by
  have e := Host.reduce_andi_all _ _ _ _ ix0 h (ix2 j r)
  have e' := eq_of_cmp _ _ e
  refine Eq.trans e' ?_
  unfold fn_where
  rw [ValueIdx.select_apply, hidden_apply, broadcastInDim_scalar_apply, broadcastInDim_scalar_apply]
  have et : (constant S_ .f32 0xFF800000#32 : FVec Ideal S_ .f32) ix0 = ⊥ := word_bot
  have ez : (constant S_ .f32 0x00000000#32 : FVec Ideal S_ .f32) ix0 = 0 := Ideal.ofBits_zero_f32
  rw [et, ez]
  by_cases hm : j.val / 64 ≤ r.val / 64
  · rw [if_pos hm, if_pos hm]; rfl
  · rw [if_neg hm, if_neg hm]; rfl

/-- The precondition, read. -/
theorem read (h : fn (F := Ideal) q k v M w = fun _ => 1#1) :
    (∀ i, ∃ y : ℝ, q i = y) ∧ (∀ i, ∃ y : ℝ, k i = y)
      ∧ ∀ j r : Fin 1024, M (ix2 j r) = if j.val / 64 ≤ r.val / 64 then 0 else ⊥ := by
  have e := congrFun h ix0
  rw [fn_eq] at e
  obtain ⟨e1, e2⟩ := both _ _ e
  obtain ⟨eq, ek⟩ := both _ _ e1
  exact ⟨finite_of q eq, finite_of k ek, tile_of M e2⟩

end Cert.Pre_finite_and_masked_KernelIdeal.Read

end
-- ==== Proof.Algebra.lean ====
/-
  The value claim: from blocks of the same arrays, every device ends with its block of the reference's result.
-/
module

public import proofs.«01_k».proof.Defs
public import proofs.«01_k».proof.Proof.Match
public import proofs.«01_k».proof.Proof.Precondition

@[expose] public section

set_option maxRecDepth 16384

noncomputable section

namespace Cert.Proof

open Idealize.ShloMosaic Idealize.ShloMosaic.TcCoe Idealize.ShloMosaic.ValueIdx Idealize.SL.Sem Cert
open Cert.KernelIdeal.Attn (insOf run_main)
open Cert.ReferenceIdeal.Attn (pos)

/-- A device's block of an argument, read at an index. -/
theorem block_arg (c : Fin 8) (X : (⟨3, ![8, 8192, 128]⟩ : Shape).Idx → EReal) (h : Fin 8) (r : Fin 1024) (d : Fin 128) :
    Layout.block ⟨3, ![8, 1024, 128]⟩ ⟨3, ![8, 8192, 128]⟩ 1 8 c X (by decide) (ix3 h r d) = X (ix3 h (pos c r) d) := by
  rw [Layout.block_apply]
  refine congrArg X ?_
  funext a; apply Fin.ext
  match a with
  | ⟨0, _⟩ => rfl
  | ⟨1, _⟩ => rfl
  | ⟨2, _⟩ => rfl

/-- A device's block of the result, read at an index. -/
theorem block_result (c : Fin 8) (X : (⟨3, ![1, 8192, 1024]⟩ : Shape).Idx → EReal) (r n : Fin 1024) :
    Layout.block ⟨3, ![1, 1024, 1024]⟩ ⟨3, ![1, 8192, 1024]⟩ 1 8 c X (by decide) (ix3 0 r n) = X (ix3 0 (pos c r) n) := by
  rw [Layout.block_apply]
  refine congrArg X ?_
  funext a; apply Fin.ext
  match a with
  | ⟨0, _⟩ => rfl
  | ⟨1, _⟩ => rfl
  | ⟨2, _⟩ => rfl

/-- What the claim assumes of the memories, as the comparison of the values takes it. -/
theorem agree (m : (ℓ : Loc KernelIdeal.nD KernelIdeal.τ KernelIdeal.sig) → Buf (Elt Ideal) ℓ)
    (q k v : FVec Ideal ReferenceIdeal.S8x8192x128 .bf16)
    (hp : Pre_KernelIdeal_finite_and_masked_KernelIdeal m)
    (hq : ∀ c : Fin 8, (insOf m).q c = Layout.block ⟨3, ![8, 1024, 128]⟩ ⟨3, ![8, 8192, 128]⟩ 1 8 c q)
    (hk : ∀ c : Fin 8, (insOf m).k c = Layout.block ⟨3, ![8, 1024, 128]⟩ ⟨3, ![8, 8192, 128]⟩ 1 8 c k)
    (hv : ∀ c : Fin 8, (insOf m).v c = Layout.block ⟨3, ![8, 1024, 128]⟩ ⟨3, ![8, 8192, 128]⟩ 1 8 c v) :
    Match.Agree (insOf m) q k v where
  q_eq c h r d := by rw [hq c]; exact block_arg c q h r d
  k_eq c h r d := by rw [hk c]; exact block_arg c k h r d
  v_eq c h r d := by rw [hv c]; exact block_arg c v h r d
  q_real c := (Pre_finite_and_masked_KernelIdeal.Read.read _ _ _ _ _ (hp c)).1
  k_real c := (Pre_finite_and_masked_KernelIdeal.Read.read _ _ _ _ _ (hp c)).2.1
  mask c := (Pre_finite_and_masked_KernelIdeal.Read.read _ _ _ _ _ (hp c)).2.2

theorem algebraic_holds : Cert.algebraic_KernelIdeal_ReferenceIdeal_pre_finite_and_masked_KernelIdeal := by
  intro m g m' g' hp hm
  refine ⟨ReferenceIdeal.Value.res_main_v25 m' 0, ?_, ?_⟩
  · refine (θ_run (KernelIdeal.defs (F := Ideal)) _ _).mono (fun r hr c => ?_) (run_main m g)
    obtain ⟨h0, h1, h2, h3, h4, hv⟩ := hr.1 c
    refine ⟨?_, h0, h1, h2, h3, h4⟩
    have G := agree m _ _ _ hp (fun c => (hm c).1) (fun c => (hm c).2.1) (fun c => (hm c).2.2.1)
    rw [hv, ReferenceIdeal.Attn.value_eq, (hm c).2.2.2.2]
    funext i
    obtain ⟨a, b, n, rfl⟩ : ∃ (a : Fin 1) (b n : Fin 1024), i = ix3 a b n := ⟨i 0, i 1, i 2, eq_ix3 i⟩
    obtain rfl : a = 0 := Subsingleton.elim _ _
    exact (Match.result_eq G c b _ n).trans (block_result c _ b n).symm
  · exact (θ_run (ReferenceIdeal.defs (F := Ideal)) _ _).mono (fun r hr => hr 0) (ReferenceIdeal.Value.run m' g')

end Cert.Proof

end
-- ==== Proof.lean ====
/-
  The attention kernel computes its reference's attention: every run of either program ends with its arguments unchanged
  and every semaphore at zero, and over the extended reals the kernel's result is the reference's.
-/
module

public import proofs.«01_k».proof.Proof.Frames
public import proofs.«01_k».proof.Proof.Algebra
public import proofs.«01_k».proof.Proof.Gen.Pre_finite_and_masked_KernelIdeal
public import proofs.«01_k».proof.Proof.Gen.Pre_finite_and_masked_ReferenceIdeal

@[expose] public section

noncomputable section

namespace Cert.Proof

theorem claim : Cert.Claim :=
  ⟨Cert.Kernel.Gen.facts, Cert.KernelIdeal.Gen.facts, Cert.ReferenceIdeal.Gen.facts,
    Cert.Pre_finite_and_masked_KernelIdeal.Gen.facts, Cert.Pre_finite_and_masked_ReferenceIdeal.Gen.facts,
    frame_kernel, frame_ideal, fun m g _ => frame_ideal m g trivial,
    frame_reference, fun m g _ => frame_reference m g trivial, trivial, algebraic_holds⟩

end Cert.Proof

end
